-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_routed [hPre_routed : Cert.Pre_routed.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_routed.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_routed [hPre_routed : Cert.Pre_routed.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_routed.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Kernel3Ideal_pre_routed [hKernel3Ideal : Cert.Kernel3Ideal.Facts] [hPre_routed : Cert.Pre_routed.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_routed m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Reference3Ideal_pre_routed [hReference3Ideal : Cert.Reference3Ideal.Facts] [hPre_routed : Cert.Pre_routed.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_routed m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v23_0)) (v2 : (c : Dev Cert.KernelIdeal.nD) → Buf (Elt Ideal) ((c.tc : Thread Cert.KernelIdeal.nD Cert.KernelIdeal.τ).loc Cert.KernelIdeal.main_v23_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v23_0) = v1 c
          ∧ r.2.mem ((c.tc : Thread Cert.KernelIdeal.nD Cert.KernelIdeal.τ).loc Cert.KernelIdeal.main_v23_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_v87) = v1 c
          ∧ r.2.mem ((c.tc : Thread Cert.ReferenceIdeal.nD Cert.ReferenceIdeal.τ).loc Cert.ReferenceIdeal.main_v90) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v8_0)) (v1 : (c : Dev Cert.Kernel2Ideal.nD) → Buf (Elt Ideal) ((c.tc : Thread Cert.Kernel2Ideal.nD Cert.Kernel2Ideal.τ).loc Cert.Kernel2Ideal.main_v9)) (v2 : (c : Dev Cert.Kernel2Ideal.nD) → Buf (Elt Ideal) ((c.tc : Thread Cert.Kernel2Ideal.nD Cert.Kernel2Ideal.τ).loc Cert.Kernel2Ideal.main_v8_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_0) = v0 c
          ∧ r.2.mem ((c.tc : Thread Cert.Kernel2Ideal.nD Cert.Kernel2Ideal.τ).loc Cert.Kernel2Ideal.main_v9) = v1 c
          ∧ r.2.mem ((c.tc : Thread Cert.Kernel2Ideal.nD Cert.Kernel2Ideal.τ).loc Cert.Kernel2Ideal.main_v8_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_v7) = v1 c
          ∧ r.2.mem ((c.tc : Thread Cert.Reference2Ideal.nD Cert.Reference2Ideal.τ).loc Cert.Reference2Ideal.main_v9) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal_pre_routed [hKernel3Ideal : Cert.Kernel3Ideal.Facts] [hReference3Ideal : Cert.Reference3Ideal.Facts] [hPre_routed : Cert.Pre_routed.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_routed m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v1) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v24)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v24) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v83) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_routed : Cert.Pre_routed.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_routed (hKernel3Ideal := hKernel3Ideal) (hPre_routed := hPre_routed)
    ∧ quiescent_Reference3Ideal (hReference3Ideal := hReference3Ideal)
    ∧ quiescent_Reference3Ideal_pre_routed (hReference3Ideal := hReference3Ideal) (hPre_routed := hPre_routed)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_routed (hKernel3Ideal := hKernel3Ideal) (hReference3Ideal := hReference3Ideal) (hPre_routed := hPre_routed)
    ∧ preserves_Kernel4_Kernel4Ideal
    ∧ algebraic_Kernel4Ideal_Reference4Ideal_pre_finite4 (hKernel4Ideal := hKernel4Ideal) (hReference4Ideal := hReference4Ideal) (hPre_finite4 := hPre_finite4)
-- ==== Pre_finite.lean ====
abbrev S2x4096x2048 : Shape := ⟨3, ![2, 4096, 2048]⟩
abbrev S2x256x2048 : Shape := ⟨3, ![2, 256, 2048]⟩
abbrev S1x2048x13856 : Shape := ⟨3, ![1, 2048, 13856]⟩
abbrev S2x4096x1024 : Shape := ⟨3, ![2, 4096, 1024]⟩
abbrev S1x2048x2048 : Shape := ⟨3, ![1, 2048, 2048]⟩
abbrev S1x1024x2048 : Shape := ⟨3, ![1, 1024, 2048]⟩
abbrev S1x2048 : Shape := ⟨2, ![1, 2048]⟩
abbrev S_ : Shape := ⟨0, ![]⟩

class Facts : Prop where
  bcast_S_S2x4096x2048 : S_.BroadcastsInDim S2x4096x2048 (![] : Fin 0 → Fin S2x4096x2048.rank)
  reducesTo_S2x4096x2048_S_d0_1_2 : S2x4096x2048.ReducesTo [0, 1, 2] S_
  h_S_ : 0 < S_.numel
  bcast_S_S2x256x2048 : S_.BroadcastsInDim S2x256x2048 (![] : Fin 0 → Fin S2x256x2048.rank)
  reducesTo_S2x256x2048_S_d0_1_2 : S2x256x2048.ReducesTo [0, 1, 2] S_
  bcast_S_S1x2048x13856 : S_.BroadcastsInDim S1x2048x13856 (![] : Fin 0 → Fin S1x2048x13856.rank)
  reducesTo_S1x2048x13856_S_d0_1_2 : S1x2048x13856.ReducesTo [0, 1, 2] S_
  bcast_S_S1x2048x2048 : S_.BroadcastsInDim S1x2048x2048 (![] : Fin 0 → Fin S1x2048x2048.rank)
  reducesTo_S1x2048x2048_S_d0_1_2 : S1x2048x2048.ReducesTo [0, 1, 2] S_

variable [Facts]

def fn_part1 {F : FTy → Type} [FloatOps F] (main_v13 : IVec S_ 1) (main_v16 : IVec S1x2048x2048 1) : IVec S_ 1 :=
  let main_c_5 : IVec S_ 1 := constantI S_ 1 1#1
  let main_v17 : IVec S_ 1 := (fun x v => Host.reduce IntOp.andi x v reducesTo_S1x2048x2048_S_d0_1_2 h_S_) main_v16 main_c_5
  let main_v18 : IVec S_ 1 := andi main_v13 main_v17
  main_v18

def fn {F : FTy → Type} [FloatOps F] (main_arg0 : FVec F S2x4096x2048 .f32) (main_arg1 : FVec F S2x256x2048 .f32) (main_arg2 : FVec F S1x2048x13856 .f32) (main_arg3 : FVec F S2x4096x2048 .f32) (main_arg4 : FVec F S2x4096x1024 .f32) (main_arg5 : FVec F S1x2048x2048 .f32) (main_arg6 : FVec F S1x2048x2048 .f32) (main_arg7 : FVec F S1x1024x2048 .f32) (main_arg8 : FVec F S1x1024x2048 .f32) (main_arg9 : FVec F S1x2048x2048 .f32) (main_arg10 : FVec F S1x2048 .f32) (main_arg11 : FVec F S1x2048 .f32) : IVec S_ 1 :=
  let main_v0 : FVec F S2x4096x2048 .f32 := Host.absf main_arg0
  let main_cst : FVec F S_ .f32 := constant S_ .f32 0x7F800000#32
  let main_v1 : FVec F S2x4096x2048 .f32 := broadcastInDim S2x4096x2048 ![] bcast_S_S2x4096x2048 main_cst
  let main_v2 : IVec S2x4096x2048 1 := cmpf .olt main_v0 main_v1
  let main_c : IVec S_ 1 := constantI S_ 1 1#1
  let main_v3 : IVec S_ 1 := (fun x v => Host.reduce IntOp.andi x v reducesTo_S2x4096x2048_S_d0_1_2 h_S_) main_v2 main_c
  let main_v4 : FVec F S2x256x2048 .f32 := Host.absf main_arg1
  let main_cst_0 : FVec F S_ .f32 := constant S_ .f32 0x7F800000#32
  let main_v5 : FVec F S2x256x2048 .f32 := broadcastInDim S2x256x2048 ![] bcast_S_S2x256x2048 main_cst_0
  let main_v6 : IVec S2x256x2048 1 := cmpf .olt main_v4 main_v5
  let main_c_1 : IVec S_ 1 := constantI S_ 1 1#1
  let main_v7 : IVec S_ 1 := (fun x v => Host.reduce IntOp.andi x v reducesTo_S2x256x2048_S_d0_1_2 h_S_) main_v6 main_c_1
  let main_v8 : IVec S_ 1 := andi main_v3 main_v7
  let main_v9 : FVec F S1x2048x13856 .f32 := Host.absf main_arg2
  let main_cst_2 : FVec F S_ .f32 := constant S_ .f32 0x7F800000#32
  let main_v10 : FVec F S1x2048x13856 .f32 := broadcastInDim S1x2048x13856 ![] bcast_S_S1x2048x13856 main_cst_2
  let main_v11 : IVec S1x2048x13856 1 := cmpf .olt main_v9 main_v10
  let main_c_3 : IVec S_ 1 := constantI S_ 1 1#1
  let main_v12 : IVec S_ 1 := (fun x v => Host.reduce IntOp.andi x v reducesTo_S1x2048x13856_S_d0_1_2 h_S_) main_v11 main_c_3
  let main_v13 : IVec S_ 1 := andi main_v8 main_v12
  let main_v14 : FVec F S1x2048x2048 .f32 := Host.absf main_arg5
  let main_cst_4 : FVec F S_ .f32 := constant S_ .f32 0x7F800000#32
  let main_v15 : FVec F S1x2048x2048 .f32 := broadcastInDim S1x2048x2048 ![] bcast_S_S1x2048x2048 main_cst_4
  let main_v16 : IVec S1x2048x2048 1 := cmpf .olt main_v14 main_v15
  fn_part1 (F := F) main_v13 main_v16
-- ==== Pre_finite4.lean ====
abbrev S8192x8704 : Shape := ⟨2, ![8192, 8704]⟩
abbrev S16 : Shape := ⟨1, ![16]⟩
abbrev S16x128x256 : Shape := ⟨3, ![16, 128, 256]⟩
abbrev S_ : Shape := ⟨0, ![]⟩

class Facts : Prop where
  bitsLt_bf16_f32 : FTy.bits .bf16 < FTy.bits .f32
  bcast_S_S8192x8704 : S_.BroadcastsInDim S8192x8704 (![] : Fin 0 → Fin S8192x8704.rank)
  reducesTo_S8192x8704_S_d0_1 : S8192x8704.ReducesTo [0, 1] S_
  h_S_ : 0 < S_.numel
  bcast_S_S16 : S_.BroadcastsInDim S16 (![] : Fin 0 → Fin S16.rank)
  reducesTo_S16_S_d0 : S16.ReducesTo [0] S_
  bcast_S_S16x128x256 : S_.BroadcastsInDim S16x128x256 (![] : Fin 0 → Fin S16x128x256.rank)
  reducesTo_S16x128x256_S_d0_1_2 : S16x128x256.ReducesTo [0, 1, 2] S_

variable [Facts]

def fn {F : FTy → Type} [FloatOps F] (main_arg0 : FVec F S8192x8704 .bf16) (main_arg1 : FVec F S16 .f32) (main_arg2 : FVec F S16x128x256 .f32) : IVec S_ 1 :=
  let main_v0 : FVec F S8192x8704 .f32 := (extf .f32 · bitsLt_bf16_f32) main_arg0
  let main_v1 : FVec F S8192x8704 .f32 := Host.absf main_v0
  let main_cst : FVec F S_ .f32 := constant S_ .f32 0x7F800000#32
  let main_v2 : FVec F S8192x8704 .f32 := broadcastInDim S8192x8704 ![] bcast_S_S8192x8704 main_cst
  let main_v3 : IVec S8192x8704 1 := cmpf .olt main_v1 main_v2
  let main_c : IVec S_ 1 := constantI S_ 1 1#1
  let main_v4 : IVec S_ 1 := (fun x v => Host.reduce IntOp.andi x v reducesTo_S8192x8704_S_d0_1 h_S_) main_v3 main_c
  let main_v5 : FVec F S16 .f32 := Host.absf main_arg1
  let main_cst_0 : FVec F S_ .f32 := constant S_ .f32 0x7F800000#32
  let main_v6 : FVec F S16 .f32 := broadcastInDim S16 ![] bcast_S_S16 main_cst_0
  let main_v7 : IVec S16 1 := cmpf .olt main_v5 main_v6
  let main_c_1 : IVec S_ 1 := constantI S_ 1 1#1
  let main_v8 : IVec S_ 1 := (fun x v => Host.reduce IntOp.andi x v reducesTo_S16_S_d0 h_S_) main_v7 main_c_1
  let main_v9 : IVec S_ 1 := andi main_v4 main_v8
  let main_v10 : FVec F S16x128x256 .f32 := Host.absf main_arg2
  let main_cst_2 : FVec F S_ .f32 := constant S_ .f32 0x7F800000#32
  let main_v11 : FVec F S16x128x256 .f32 := broadcastInDim S16x128x256 ![] bcast_S_S16x128x256 main_cst_2
  let main_v12 : IVec S16x128x256 1 := cmpf .olt main_v10 main_v11
  let main_c_3 : IVec S_ 1 := constantI S_ 1 1#1
  let main_v13 : IVec S_ 1 := (fun x v => Host.reduce IntOp.andi x v reducesTo_S16x128x256_S_d0_1_2 h_S_) main_v12 main_c_3
  let main_v14 : IVec S_ 1 := andi main_v9 main_v13
  main_v14
-- ==== Pre_routed.lean ====
abbrev S8x8192 : Shape := ⟨2, ![8, 8192]⟩
abbrev S64 : Shape := ⟨1, ![64]⟩
abbrev S_ : Shape := ⟨0, ![]⟩

class Facts : Prop where
  bcast_S_S8x8192 : S_.BroadcastsInDim S8x8192 (![] : Fin 0 → Fin S8x8192.rank)
  reducesTo_S8x8192_S_d0_1 : S8x8192.ReducesTo [0, 1] S_
  h_S_ : 0 < S_.numel

variable [Facts]

def fn {F : FTy → Type} [FloatOps F] (main_arg0 : IVec S8x8192 32) (main_arg1 : IVec S8x8192 32) (main_arg2 : IVec S64 32) : IVec S_ 1 :=
  let main_c : IVec S_ 32 := constantI S_ 32 0#32
  let main_v0 : IVec S8x8192 32 := broadcastInDim S8x8192 ![] bcast_S_S8x8192 main_c
  let main_v1 : IVec S8x8192 1 := cmpi .sge main_arg0 main_v0
  let main_c_0 : IVec S_ 32 := constantI S_ 32 64#32
  let main_v2 : IVec S8x8192 32 := broadcastInDim S8x8192 ![] bcast_S_S8x8192 main_c_0
  let main_v3 : IVec S8x8192 1 := cmpi .slt main_arg0 main_v2
  let main_v4 : IVec S8x8192 1 := andi main_v1 main_v3
  let main_c_1 : IVec S_ 1 := constantI S_ 1 1#1
  let main_v5 : IVec S_ 1 := (fun x v => Host.reduce IntOp.andi x v reducesTo_S8x8192_S_d0_1 h_S_) main_v4 main_c_1
  main_v5
-- ==== Kernel.lean ====
abbrev S2x4096x2048 : Shape := ⟨3, ![2, 4096, 2048]⟩
abbrev S2x256x2048 : Shape := ⟨3, ![2, 256, 2048]⟩
abbrev S1x2048x13856 : Shape := ⟨3, ![1, 2048, 13856]⟩
abbrev S2x4096x1024 : Shape := ⟨3, ![2, 4096, 1024]⟩
abbrev S1x2048x2048 : Shape := ⟨3, ![1, 2048, 2048]⟩
abbrev S1x1024x2048 : Shape := ⟨3, ![1, 1024, 2048]⟩
abbrev S1x2048 : Shape := ⟨2, ![1, 2048]⟩
abbrev S8192x2048 : Shape := ⟨2, ![8192, 2048]⟩
abbrev S512x2048 : Shape := ⟨2, ![512, 2048]⟩
abbrev S1x13856x2048 : Shape := ⟨3, ![1, 13856, 2048]⟩
abbrev S2048x8704 : Shape := ⟨2, ![2048, 8704]⟩
abbrev S1x512x2048 : Shape := ⟨3, ![1, 512, 2048]⟩
abbrev S2048x512 : Shape := ⟨2, ![2048, 512]⟩
abbrev S8192x8704 : Shape := ⟨2, ![8192, 8704]⟩
abbrev S2048x4352 : Shape := ⟨2, ![2048, 4352]⟩
abbrev S512x4352 : Shape := ⟨2, ![512, 4352]⟩
abbrev S2048x2048 : Shape := ⟨2, ![2048, 2048]⟩
abbrev S2048x1024 : Shape := ⟨2, ![2048, 1024]⟩
abbrev S512x1024 : Shape := ⟨2, ![512, 1024]⟩
abbrev S8192x1024 : Shape := ⟨2, ![8192, 1024]⟩
abbrev S512x512 : Shape := ⟨2, ![512, 512]⟩
abbrev S256x1024 : Shape := ⟨2, ![256, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩
abbrev S1024x2048 : Shape := ⟨2, ![1024, 2048]⟩
abbrev S1024x1024 : Shape := ⟨2, ![1024, 1024]⟩
abbrev S1024x512 : Shape := ⟨2, ![1024, 512]⟩
abbrev S2048 : Shape := ⟨1, ![2048]⟩
abbrev S128x2048 : Shape := ⟨2, ![128, 2048]⟩
abbrev S128 : Shape := ⟨1, ![128]⟩
abbrev S128x1 : Shape := ⟨2, ![128, 1]⟩

abbrev nBuf : Space → Nat
  | .hbm => 37
  | .vmem => 56
  | .smem => 0
  | _ => 0

abbrev bufTy : (tb : Table) → Fin (tcTables nBuf tb) → BufTy
  | .hbm, ⟨0, _⟩ => ⟨S2x4096x2048, .f32⟩
  | .hbm, ⟨1, _⟩ => ⟨S2x256x2048, .f32⟩
  | .hbm, ⟨2, _⟩ => ⟨S1x2048x13856, .f32⟩
  | .hbm, ⟨3, _⟩ => ⟨S2x4096x2048, .f32⟩
  | .hbm, ⟨4, _⟩ => ⟨S2x4096x1024, .f32⟩
  | .hbm, ⟨5, _⟩ => ⟨S1x2048x2048, .f32⟩
  | .hbm, ⟨6, _⟩ => ⟨S1x2048x2048, .f32⟩
  | .hbm, ⟨7, _⟩ => ⟨S1x1024x2048, .f32⟩
  | .hbm, ⟨8, _⟩ => ⟨S1x1024x2048, .f32⟩
  | .hbm, ⟨9, _⟩ => ⟨S1x2048x2048, .f32⟩
  | .hbm, ⟨10, _⟩ => ⟨S1x2048, .f32⟩
  | .hbm, ⟨11, _⟩ => ⟨S1x2048, .f32⟩
  | .hbm, ⟨12, _⟩ => ⟨S8192x2048, .f32⟩
  | .hbm, ⟨13, _⟩ => ⟨S512x2048, .f32⟩
  | .hbm, ⟨14, _⟩ => ⟨S8192x2048, .bf16⟩
  | .hbm, ⟨15, _⟩ => ⟨S1x13856x2048, .f32⟩
  | .hbm, ⟨16, _⟩ => ⟨S2048x8704, .bf16⟩
  | .hbm, ⟨17, _⟩ => ⟨S8192x8704, .bf16⟩
  | .hbm, ⟨18, _⟩ => ⟨S2048x2048, .f32⟩
  | .hbm, ⟨19, _⟩ => ⟨S512x2048, .bf16⟩
  | .hbm, ⟨20, _⟩ => ⟨S8192x1024, .bf16⟩
  | .hbm, ⟨21, _⟩ => ⟨S8192x2048, .f32⟩
  | .hbm, ⟨22, _⟩ => ⟨S8192x2048, .bf16⟩
  | .hbm, ⟨23, _⟩ => ⟨S8192x1024, .f32⟩
  | .hbm, ⟨24, _⟩ => ⟨S8192x1024, .bf16⟩
  | .hbm, ⟨25, _⟩ => ⟨S2048x2048, .f32⟩
  | .hbm, ⟨26, _⟩ => ⟨S1024x2048, .f32⟩
  | .hbm, ⟨27, _⟩ => ⟨S1024x2048, .f32⟩
  | .hbm, ⟨28, _⟩ => ⟨S8192x2048, .bf16⟩
  | .hbm, ⟨29, _⟩ => ⟨S2048x2048, .f32⟩
  | .hbm, ⟨30, _⟩ => ⟨S2048x2048, .bf16⟩
  | .hbm, ⟨31, _⟩ => ⟨S2048, .f32⟩
  | .hbm, ⟨32, _⟩ => ⟨S1x2048, .f32⟩
  | .hbm, ⟨33, _⟩ => ⟨S2048, .f32⟩
  | .hbm, ⟨34, _⟩ => ⟨S1x2048, .f32⟩
  | .hbm, ⟨35, _⟩ => ⟨S8192x2048, .f32⟩
  | .hbm, ⟨36, _⟩ => ⟨S8192x2048, .bf16⟩
  | .local _ .vmem, ⟨0, _⟩ => ⟨S1x512x2048, .f32⟩
  | .local _ .vmem, ⟨1, _⟩ => ⟨S1x512x2048, .f32⟩
  | .local _ .vmem, ⟨2, _⟩ => ⟨S2048x512, .bf16⟩
  | .local _ .vmem, ⟨3, _⟩ => ⟨S2048x512, .bf16⟩
  | .local _ .vmem, ⟨4, _⟩ => ⟨S512x2048, .bf16⟩
  | .local _ .vmem, ⟨5, _⟩ => ⟨S512x2048, .bf16⟩
  | .local _ .vmem, ⟨6, _⟩ => ⟨S2048x4352, .bf16⟩
  | .local _ .vmem, ⟨7, _⟩ => ⟨S2048x4352, .bf16⟩
  | .local _ .vmem, ⟨8, _⟩ => ⟨S512x4352, .bf16⟩
  | .local _ .vmem, ⟨9, _⟩ => ⟨S512x4352, .bf16⟩
  | .local _ .vmem, ⟨10, _⟩ => ⟨S512x2048, .f32⟩
  | .local _ .vmem, ⟨11, _⟩ => ⟨S2048x1024, .f32⟩
  | .local _ .vmem, ⟨12, _⟩ => ⟨S2048x1024, .f32⟩
  | .local _ .vmem, ⟨13, _⟩ => ⟨S512x1024, .bf16⟩
  | .local _ .vmem, ⟨14, _⟩ => ⟨S512x1024, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S512x1024, .bf16⟩
  | .local _ .vmem, ⟨24, _⟩ => ⟨S512x1024, .bf16⟩
  | .local _ .vmem, ⟨25, _⟩ => ⟨S1024x2048, .bf16⟩
  | .local _ .vmem, ⟨26, _⟩ => ⟨S1024x2048, .bf16⟩
  | .local _ .vmem, ⟨27, _⟩ => ⟨S1024x1024, .bf16⟩
  | .local _ .vmem, ⟨28, _⟩ => ⟨S1024x1024, .bf16⟩
  | .local _ .vmem, ⟨29, _⟩ => ⟨S1024x1024, .bf16⟩
  | .local _ .vmem, ⟨30, _⟩ => ⟨S1024x1024, .bf16⟩
  | .local _ .vmem, ⟨31, _⟩ => ⟨S2048x512, .f32⟩
  | .local _ .vmem, ⟨32, _⟩ => ⟨S2048x512, .f32⟩
  | .local _ .vmem, ⟨33, _⟩ => ⟨S1024x512, .f32⟩
  | .local _ .vmem, ⟨34, _⟩ => ⟨S1024x512, .f32⟩
  | .local _ .vmem, ⟨35, _⟩ => ⟨S1024x512, .f32⟩
  | .local _ .vmem, ⟨36, _⟩ => ⟨S1024x512, .f32⟩
  | .local _ .vmem, ⟨37, _⟩ => ⟨S1024x512, .bf16⟩
  | .local _ .vmem, ⟨38, _⟩ => ⟨S1024x512, .bf16⟩
  | .local _ .vmem, ⟨39, _⟩ => ⟨S1024x512, .bf16⟩
  | .local _ .vmem, ⟨40, _⟩ => ⟨S1024x512, .bf16⟩
  | .local _ .vmem, ⟨41, _⟩ => ⟨S1024x512, .bf16⟩
  | .local _ .vmem, ⟨42, _⟩ => ⟨S1024x512, .bf16⟩
  | .local _ .vmem, ⟨43, _⟩ => ⟨S1024x512, .bf16⟩
  | .local _ .vmem, ⟨44, _⟩ => ⟨S1024x512, .bf16⟩
  | .local _ .vmem, ⟨45, _⟩ => ⟨S512x2048, .bf16⟩
  | .local _ .vmem, ⟨46, _⟩ => ⟨S512x2048, .bf16⟩
  | .local _ .vmem, ⟨47, _⟩ => ⟨S2048x2048, .bf16⟩
  | .local _ .vmem, ⟨48, _⟩ => ⟨S512x2048, .f32⟩
  | .local _ .vmem, ⟨49, _⟩ => ⟨S512x2048, .f32⟩
  | .local _ .vmem, ⟨50, _⟩ => ⟨S1x2048, .f32⟩
  | .local _ .vmem, ⟨51, _⟩ => ⟨S1x2048, .f32⟩
  | .local _ .vmem, ⟨52, _⟩ => ⟨S512x2048, .f32⟩
  | .local _ .vmem, ⟨53, _⟩ => ⟨S512x2048, .f32⟩
  | .local _ .vmem, ⟨54, _⟩ => ⟨S512x2048, .bf16⟩
  | .local _ .vmem, ⟨55, _⟩ => ⟨S512x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23_0 : Ref sig .tc := ⟨.hbm, 35, rfl⟩
abbrev main_v23_1 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg2_1 : Ref sig .tc := ⟨.vmem, 20, rfl⟩
abbrev cc3_stg3_0 : Ref sig .tc := ⟨.vmem, 21, rfl⟩
abbrev cc3_stg3_1 : Ref sig .tc := ⟨.vmem, 22, rfl⟩
abbrev cc3_stg4_0 : Ref sig .tc := ⟨.vmem, 23, rfl⟩
abbrev cc3_stg4_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg1_1 : Ref sig .tc := ⟨.vmem, 28, rfl⟩
abbrev cc4_stg2_0 : Ref sig .tc := ⟨.vmem, 29, rfl⟩
abbrev cc4_stg2_1 : Ref sig .tc := ⟨.vmem, 30, rfl⟩
abbrev cc4_stg3_0 : Ref sig .tc := ⟨.vmem, 31, rfl⟩
abbrev cc4_stg3_1 : Ref sig .tc := ⟨.vmem, 32, rfl⟩
abbrev cc4_stg4_0 : Ref sig .tc := ⟨.vmem, 33, rfl⟩
abbrev cc4_stg4_1 : Ref sig .tc := ⟨.vmem, 34, rfl⟩
abbrev cc4_stg5_0 : Ref sig .tc := ⟨.vmem, 35, rfl⟩
abbrev cc4_stg5_1 : Ref sig .tc := ⟨.vmem, 36, rfl⟩
abbrev cc4_stg6_0 : Ref sig .tc := ⟨.vmem, 37, rfl⟩
abbrev cc4_stg6_1 : Ref sig .tc := ⟨.vmem, 38, rfl⟩
abbrev cc4_stg7_0 : Ref sig .tc := ⟨.vmem, 39, rfl⟩
abbrev cc4_stg7_1 : Ref sig .tc := ⟨.vmem, 40, rfl⟩
abbrev cc4_stg8_0 : Ref sig .tc := ⟨.vmem, 41, rfl⟩
abbrev cc4_stg8_1 : Ref sig .tc := ⟨.vmem, 42, rfl⟩
abbrev cc4_stg9_0 : Ref sig .tc := ⟨.vmem, 43, rfl⟩
abbrev cc4_stg9_1 : Ref sig .tc := ⟨.vmem, 44, rfl⟩
abbrev cc5_stg0_0 : Ref sig .tc := ⟨.vmem, 45, rfl⟩
abbrev cc5_stg0_1 : Ref sig .tc := ⟨.vmem, 46, rfl⟩
abbrev cc5_stg1_0 : Ref sig .tc := ⟨.vmem, 47, rfl⟩
abbrev cc5_stg2_0 : Ref sig .tc := ⟨.vmem, 48, rfl⟩
abbrev cc5_stg2_1 : Ref sig .tc := ⟨.vmem, 49, rfl⟩
abbrev cc5_stg3_0 : Ref sig .tc := ⟨.vmem, 50, rfl⟩
abbrev cc5_stg4_0 : Ref sig .tc := ⟨.vmem, 51, rfl⟩
abbrev cc5_stg5_0 : Ref sig .tc := ⟨.vmem, 52, rfl⟩
abbrev cc5_stg5_1 : Ref sig .tc := ⟨.vmem, 53, rfl⟩
abbrev cc5_stg6_0 : Ref sig .tc := ⟨.vmem, 54, rfl⟩
abbrev cc5_stg6_1 : Ref sig .tc := ⟨.vmem, 55, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem1_1 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem2_1 : DmaSem sig := 20
abbrev cc3_sem3_0 : DmaSem sig := 21
abbrev cc3_sem3_1 : DmaSem sig := 22
abbrev cc3_sem4_0 : DmaSem sig := 23
abbrev cc3_sem4_1 : DmaSem sig := 24
abbrev cc4_sem0_0 : DmaSem sig := 25
abbrev cc4_sem0_1 : DmaSem sig := 26
abbrev cc4_sem1_0 : DmaSem sig := 27
abbrev cc4_sem1_1 : DmaSem sig := 28
abbrev cc4_sem2_0 : DmaSem sig := 29
abbrev cc4_sem2_1 : DmaSem sig := 30
abbrev cc4_sem3_0 : DmaSem sig := 31
abbrev cc4_sem3_1 : DmaSem sig := 32
abbrev cc4_sem4_0 : DmaSem sig := 33
abbrev cc4_sem4_1 : DmaSem sig := 34
abbrev cc4_sem5_0 : DmaSem sig := 35
abbrev cc4_sem5_1 : DmaSem sig := 36
abbrev cc4_sem6_0 : DmaSem sig := 37
abbrev cc4_sem6_1 : DmaSem sig := 38
abbrev cc4_sem7_0 : DmaSem sig := 39
abbrev cc4_sem7_1 : DmaSem sig := 40
abbrev cc4_sem8_0 : DmaSem sig := 41
abbrev cc4_sem8_1 : DmaSem sig := 42
abbrev cc4_sem9_0 : DmaSem sig := 43
abbrev cc4_sem9_1 : DmaSem sig := 44
abbrev cc5_sem0_0 : DmaSem sig := 45
abbrev cc5_sem0_1 : DmaSem sig := 46
abbrev cc5_sem1_0 : DmaSem sig := 47
abbrev cc5_sem2_0 : DmaSem sig := 48
abbrev cc5_sem2_1 : DmaSem sig := 49
abbrev cc5_sem3_0 : DmaSem sig := 50
abbrev cc5_sem4_0 : DmaSem sig := 51
abbrev cc5_sem5_0 : DmaSem sig := 52
abbrev cc5_sem5_1 : DmaSem sig := 53
abbrev cc5_sem6_0 : DmaSem sig := 54
abbrev cc5_sem6_1 : DmaSem sig := 55

abbrev nD : Nat := 1
abbrev τ : Topo := Topo.v7x

variable {F : FTy → Type} [FloatOps F]

abbrev grid0 : Pipeline.Grid := ⟨1, ![17], ![false]⟩

def k0_mult1 (i : grid0.Coords) : BitVec 32 :=
  let c5152_i32 : BitVec 32 := 5152#32
  let arg0 : BitVec 32 := BitVec.ofNat 32 (i 0).val
  let c512_i32 : BitVec 32 := 512#32
  let v0 : BitVec 32 := Scalar.muli arg0 c512_i32
  let v1 : BitVec 32 := Scalar.addi c5152_i32 v0
  v1
def cc0_transform_0 (i : grid0.Coords) : Fin 3 → Nat :=
  let arg0 : BitVec 32 := BitVec.ofNat 32 (i 0).val
  let c512_i32 : BitVec 32 := 512#32
  let v0 : BitVec 32 := Scalar.muli arg0 c512_i32
  let c5152_i32 : BitVec 32 := 5152#32
  let v1 : BitVec 32 := Scalar.addi c5152_i32 v0
  let v2 : BitVec 32 := v1
  let c0_i32 : BitVec 32 := 0#32
  let c0_i32_0 : BitVec 32 := 0#32
  let c0_i32_1 : BitVec 32 := 0#32
  ![c0_i32.toNat, v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![16, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x4352 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x4352 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![1, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 1 → Memref sig .tc .vmem S512x2048 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false]

abbrev stage2_1 : Fin 2 → Memref sig .tc .vmem S2048x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![2, 8], ![false, false]⟩

def cc3_transform_0 (i : grid3.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c3_i32 : BitVec 32 := 3#32
  let c0_i32 : BitVec 32 := 0#32
  ![v1.toNat, c3_i32.toNat]

def cc3_transform_1 (i : grid3.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let c0_i32 : BitVec 32 := 0#32
  ![v1.toNat, c4_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc3_transform_4 (i : grid3.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage3_0 : Fin 2 → Memref sig .tc .vmem S512x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S512x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S256x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S256x1024 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 2 → Memref sig .tc .vmem S512x1024 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev grid4 : Pipeline.Grid := ⟨2, ![8, 4], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_6 (i : grid4.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg1
  let c0_i32 : BitVec 32 := 0#32
  ![arg0.toNat, v0.toNat]

def cc4_transform_7 (i : grid4.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg1
  let c0_i32 : BitVec 32 := 0#32
  ![arg0.toNat, v0.toNat]

def cc4_transform_8 (i : grid4.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.addi c13_i32 arg1
  let c0_i32 : BitVec 32 := 0#32
  ![arg0.toNat, v0.toNat]

def cc4_transform_9 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S1024x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S1024x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S1024x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S2048x512 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![false, true]

abbrev stage4_4 : Fin 2 → Memref sig .tc .vmem S1024x512 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![false, true]

abbrev stage4_5 : Fin 2 → Memref sig .tc .vmem S1024x512 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![false, true]

abbrev stage4_6 : Fin 2 → Memref sig .tc .vmem S1024x512 .bf16 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true, true]

abbrev stage4_7 : Fin 2 → Memref sig .tc .vmem S1024x512 .bf16 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true, true]

abbrev stage4_8 : Fin 2 → Memref sig .tc .vmem S1024x512 .bf16 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true, true]

abbrev stage4_9 : Fin 2 → Memref sig .tc .vmem S1024x512 .bf16 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true, true]

abbrev grid5 : Pipeline.Grid := ⟨1, ![16], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S512x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S2048x2048 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S512x2048 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x2048 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x2048 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S512x2048 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S512x2048 .bf16 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]
-- ==== ReferenceIdeal.lean ====
abbrev S2x4096x2048 : Shape := ⟨3, ![2, 4096, 2048]⟩
abbrev S2x256x2048 : Shape := ⟨3, ![2, 256, 2048]⟩
abbrev S1x2048x13856 : Shape := ⟨3, ![1, 2048, 13856]⟩
abbrev S2x4096x1024 : Shape := ⟨3, ![2, 4096, 1024]⟩
abbrev S1x2048x2048 : Shape := ⟨3, ![1, 2048, 2048]⟩
abbrev S1x1024x2048 : Shape := ⟨3, ![1, 1024, 2048]⟩
abbrev S1x2048 : Shape := ⟨2, ![1, 2048]⟩
abbrev S2048x13856 : Shape := ⟨2, ![2048, 13856]⟩
abbrev S2x4096x13856 : Shape := ⟨3, ![2, 4096, 13856]⟩
abbrev S2x4096x8704 : Shape := ⟨3, ![2, 4096, 8704]⟩
abbrev S2x4096x256 : Shape := ⟨3, ![2, 4096, 256]⟩
abbrev S2x4096x6144 : Shape := ⟨3, ![2, 4096, 6144]⟩
abbrev S2048x2048 : Shape := ⟨2, ![2048, 2048]⟩
abbrev S1024x2048 : Shape := ⟨2, ![1024, 2048]⟩
abbrev S2x4096x4x256 : Shape := ⟨4, ![2, 4096, 4, 256]⟩
abbrev S2x256x1024 : Shape := ⟨3, ![2, 256, 1024]⟩
abbrev S2x256x4x256 : Shape := ⟨4, ![2, 256, 4, 256]⟩
abbrev S2x4x4096x256 : Shape := ⟨4, ![2, 4, 4096, 256]⟩
abbrev S_ : Shape := ⟨0, ![]⟩
abbrev S2x4x4096 : Shape := ⟨3, ![2, 4, 4096]⟩
abbrev S2x4x4096x1 : Shape := ⟨4, ![2, 4, 4096, 1]⟩
abbrev S2x4x256x4096 : Shape := ⟨4, ![2, 4, 256, 4096]⟩
abbrev S2x4096x3x2048 : Shape := ⟨4, ![2, 4096, 3, 2048]⟩
abbrev S2x4096x1x2048 : Shape := ⟨4, ![2, 4096, 1, 2048]⟩
abbrev S2048 : Shape := ⟨1, ![2048]⟩
abbrev S2x4096 : Shape := ⟨2, ![2, 4096]⟩
abbrev S2x4096x1 : Shape := ⟨3, ![2, 4096, 1]⟩
abbrev S1x1x2048 : Shape := ⟨3, ![1, 1, 2048]⟩
abbrev S8192x2048 : Shape := ⟨2, ![8192, 2048]⟩
abbrev S8192x8704 : Shape := ⟨2, ![8192, 8704]⟩

abbrev nBuf : Space → Nat
  | .hbm => 115
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x256x2048, .f32⟩
  | .hbm, ⟨2, _⟩ => ⟨S1x2048x13856, .f32⟩
  | .hbm, ⟨3, _⟩ => ⟨S2x4096x2048, .f32⟩
  | .hbm, ⟨4, _⟩ => ⟨S2x4096x1024, .f32⟩
  | .hbm, ⟨5, _⟩ => ⟨S1x2048x2048, .f32⟩
  | .hbm, ⟨6, _⟩ => ⟨S1x2048x2048, .f32⟩
  | .hbm, ⟨7, _⟩ => ⟨S1x1024x2048, .f32⟩
  | .hbm, ⟨8, _⟩ => ⟨S1x1024x2048, .f32⟩
  | .hbm, ⟨9, _⟩ => ⟨S1x2048x2048, .f32⟩
  | .hbm, ⟨10, _⟩ => ⟨S1x2048, .f32⟩
  | .hbm, ⟨11, _⟩ => ⟨S1x2048, .f32⟩
  | .hbm, ⟨12, _⟩ => ⟨S2048x13856, .f32⟩
  | .hbm, ⟨13, _⟩ => ⟨S2x4096x13856, .f32⟩
  | .hbm, ⟨14, _⟩ => ⟨S2x4096x8704, .f32⟩
  | .hbm, ⟨15, _⟩ => ⟨S2x4096x1024, .f32⟩
  | .hbm, ⟨16, _⟩ => ⟨S2x4096x256, .f32⟩
  | .hbm, ⟨17, _⟩ => ⟨S2x4096x256, .f32⟩
  | .hbm, ⟨18, _⟩ => ⟨S2x4096x1024, .f32⟩
  | .hbm, ⟨19, _⟩ => ⟨S2x4096x6144, .f32⟩
  | .hbm, ⟨20, _⟩ => ⟨S2048x2048, .f32⟩
  | .hbm, ⟨21, _⟩ => ⟨S2x4096x2048, .f32⟩
  | .hbm, ⟨22, _⟩ => ⟨S1024x2048, .f32⟩
  | .hbm, ⟨23, _⟩ => ⟨S2x4096x2048, .f32⟩
  | .hbm, ⟨24, _⟩ => ⟨S2048x2048, .f32⟩
  | .hbm, ⟨25, _⟩ => ⟨S2x256x2048, .f32⟩
  | .hbm, ⟨26, _⟩ => ⟨S2x4096x4x256, .f32⟩
  | .hbm, ⟨27, _⟩ => ⟨S2x256x1024, .f32⟩
  | .hbm, ⟨28, _⟩ => ⟨S2x256x1024, .f32⟩
  | .hbm, ⟨29, _⟩ => ⟨S2x256x4x256, .f32⟩
  | .hbm, ⟨30, _⟩ => ⟨S2x256x4x256, .f32⟩
  | .hbm, ⟨31, _⟩ => ⟨S2x4x4096x256, .f32⟩
  | .hbm, ⟨32, _⟩ => ⟨S_, .f32⟩
  | .hbm, ⟨33, _⟩ => ⟨S2x4x4096x256, .f32⟩
  | .hbm, ⟨34, _⟩ => ⟨S2x4x4096x256, .f32⟩
  | .hbm, ⟨35, _⟩ => ⟨S_, .f32⟩
  | .hbm, ⟨36, _⟩ => ⟨S2x4x4096, .f32⟩
  | .hbm, ⟨37, _⟩ => ⟨S_, .f32⟩
  | .hbm, ⟨38, _⟩ => ⟨S2x4x4096, .f32⟩
  | .hbm, ⟨39, _⟩ => ⟨S2x4x4096, .f32⟩
  | .hbm, ⟨40, _⟩ => ⟨S2x4x4096x1, .f32⟩
  | .hbm, ⟨41, _⟩ => ⟨S2x4x4096x256, .f32⟩
  | .hbm, ⟨42, _⟩ => ⟨S2x4x4096x256, .f32⟩
  | .hbm, ⟨43, _⟩ => ⟨S2x4x4096x256, .f32⟩
  | .hbm, ⟨44, _⟩ => ⟨S_, .f32⟩
  | .hbm, ⟨45, _⟩ => ⟨S2x4x4096, .f32⟩
  | .hbm, ⟨46, _⟩ => ⟨S2x4x4096x1, .f32⟩
  | .hbm, ⟨47, _⟩ => ⟨S2x4x4096x256, .f32⟩
  | .hbm, ⟨48, _⟩ => ⟨S2x4x4096x256, .f32⟩
  | .hbm, ⟨49, _⟩ => ⟨S2x4x256x4096, .f32⟩
  | .hbm, ⟨50, _⟩ => ⟨S2x4096x4x256, .f32⟩
  | .hbm, ⟨51, _⟩ => ⟨S2x4096x1024, .f32⟩
  | .hbm, ⟨52, _⟩ => ⟨S1024x2048, .f32⟩
  | .hbm, ⟨53, _⟩ => ⟨S2x4096x2048, .f32⟩
  | .hbm, ⟨54, _⟩ => ⟨S2x4096x6144, .f32⟩
  | .hbm, ⟨55, _⟩ => ⟨S2x4096x6144, .f32⟩
  | .hbm, ⟨56, _⟩ => ⟨S_, .f32⟩
  | .hbm, ⟨57, _⟩ => ⟨S2x4096x6144, .f32⟩
  | .hbm, ⟨58, _⟩ => ⟨S2x4096x6144, .f32⟩
  | .hbm, ⟨59, _⟩ => ⟨S_, .f32⟩
  | .hbm, ⟨60, _⟩ => ⟨S2x4096x6144, .f32⟩
  | .hbm, ⟨61, _⟩ => ⟨S2x4096x6144, .f32⟩
  | .hbm, ⟨62, _⟩ => ⟨S2x4096x3x2048, .f32⟩
  | .hbm, ⟨63, _⟩ => ⟨S2x4096x1x2048, .f32⟩
  | .hbm, ⟨64, _⟩ => ⟨S2x4096x2048, .f32⟩
  | .hbm, ⟨65, _⟩ => ⟨S2x4096x2048, .f32⟩
  | .hbm, ⟨66, _⟩ => ⟨S2x4096x1x2048, .f32⟩
  | .hbm, ⟨67, _⟩ => ⟨S2x4096x2048, .f32⟩
  | .hbm, ⟨68, _⟩ => ⟨S2x4096x2048, .f32⟩
  | .hbm, ⟨69, _⟩ => ⟨S2x4096x2048, .f32⟩
  | .hbm, ⟨70, _⟩ => ⟨S2x4096x1x2048, .f32⟩
  | .hbm, ⟨71, _⟩ => ⟨S2x4096x2048, .f32⟩
  | .hbm, ⟨72, _⟩ => ⟨S2x4096x2048, .f32⟩
  | .hbm, ⟨73, _⟩ => ⟨S2x4096x2048, .f32⟩
  | .hbm, ⟨74, _⟩ => ⟨S_, .f32⟩
  | .hbm, ⟨75, _⟩ => ⟨S2x4096x2048, .f32⟩
  | .hbm, ⟨76, _⟩ => ⟨S2x4096x2048, .f32⟩
  | .hbm, ⟨77, _⟩ => ⟨S2048x2048, .f32⟩
  | .hbm, ⟨78, _⟩ => ⟨S2x4096x2048, .f32⟩
  | .hbm, ⟨79, _⟩ => ⟨S2x4096x2048, .f32⟩
  | .hbm, ⟨80, _⟩ => ⟨S2048, .f32⟩
  | .hbm, ⟨81, _⟩ => ⟨S2048, .f32⟩
  | .hbm, ⟨82, _⟩ => ⟨S_, .f32⟩
  | .hbm, ⟨83, _⟩ => ⟨S2x4096, .f32⟩
  | .hbm, ⟨84, _⟩ => ⟨S2x4096x1, .f32⟩
  | .hbm, ⟨85, _⟩ => ⟨S_, .f32⟩
  | .hbm, ⟨86, _⟩ => ⟨S2x4096x1, .f32⟩
  | .hbm, ⟨87, _⟩ => ⟨S2x4096x1, .f32⟩
  | .hbm, ⟨88, _⟩ => ⟨S2x4096x2048, .f32⟩
  | .hbm, ⟨89, _⟩ => ⟨S2x4096x2048, .f32⟩
  | .hbm, ⟨90, _⟩ => ⟨S2x4096x2048, .f32⟩
  | .hbm, ⟨91, _⟩ => ⟨S_, .f32⟩
  | .hbm, ⟨92, _⟩ => ⟨S2x4096, .f32⟩
  | .hbm, ⟨93, _⟩ => ⟨S2x4096x1, .f32⟩
  | .hbm, ⟨94, _⟩ => ⟨S_, .f32⟩
  | .hbm, ⟨95, _⟩ => ⟨S2x4096x1, .f32⟩
  | .hbm, ⟨96, _⟩ => ⟨S2x4096x1, .f32⟩
  | .hbm, ⟨97, _⟩ => ⟨S2x4096x2048, .f32⟩
  | .hbm, ⟨98, _⟩ => ⟨S2x4096x2048, .f32⟩
  | .hbm, ⟨99, _⟩ => ⟨S_, .f32⟩
  | .hbm, ⟨100, _⟩ => ⟨S2x4096x1, .f32⟩
  | .hbm, ⟨101, _⟩ => ⟨S2x4096x1, .f32⟩
  | .hbm, ⟨102, _⟩ => ⟨S2x4096x1, .f32⟩
  | .hbm, ⟨103, _⟩ => ⟨S2x4096x2048, .f32⟩
  | .hbm, ⟨104, _⟩ => ⟨S2x4096x2048, .f32⟩
  | .hbm, ⟨105, _⟩ => ⟨S1x1x2048, .f32⟩
  | .hbm, ⟨106, _⟩ => ⟨S2x4096x2048, .f32⟩
  | .hbm, ⟨107, _⟩ => ⟨S2x4096x2048, .f32⟩
  | .hbm, ⟨108, _⟩ => ⟨S1x1x2048, .f32⟩
  | .hbm, ⟨109, _⟩ => ⟨S2x4096x2048, .f32⟩
  | .hbm, ⟨110, _⟩ => ⟨S2x4096x2048, .f32⟩
  | .hbm, ⟨111, _⟩ => ⟨S8192x2048, .f32⟩
  | .hbm, ⟨112, _⟩ => ⟨S8192x8704, .f32⟩
  | .hbm, ⟨113, _⟩ => ⟨S8192x8704, .bf16⟩
  | .hbm, ⟨114, _⟩ => ⟨S8192x2048, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst : Ref sig .tc := ⟨.hbm, 32, rfl⟩
abbrev main_v20 : Ref sig .tc := ⟨.hbm, 33, rfl⟩
abbrev main_v21 : Ref sig .tc := ⟨.hbm, 34, rfl⟩
abbrev main_cst_0 : Ref sig .tc := ⟨.hbm, 35, rfl⟩
abbrev main_v22 : Ref sig .tc := ⟨.hbm, 36, rfl⟩
abbrev main_cst_1 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_2 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_3 : Ref sig .tc := ⟨.hbm, 56, rfl⟩
abbrev main_v40 : Ref sig .tc := ⟨.hbm, 57, rfl⟩
abbrev main_v41 : Ref sig .tc := ⟨.hbm, 58, rfl⟩
abbrev main_cst_4 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_5 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_6 : Ref sig .tc := ⟨.hbm, 82, rfl⟩
abbrev main_v63 : Ref sig .tc := ⟨.hbm, 83, rfl⟩
abbrev main_v64 : Ref sig .tc := ⟨.hbm, 84, rfl⟩
abbrev main_cst_7 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_8 : Ref sig .tc := ⟨.hbm, 91, rfl⟩
abbrev main_v70 : Ref sig .tc := ⟨.hbm, 92, rfl⟩
abbrev main_v71 : Ref sig .tc := ⟨.hbm, 93, rfl⟩
abbrev main_cst_9 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_10 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩

abbrev nD : Nat := 1
abbrev τ : Topo := Topo.v7x

variable {F : FTy → Type} [FloatOps F]
-- ==== Kernel2.lean ====
abbrev S2x4096x2048 : Shape := ⟨3, ![2, 4096, 2048]⟩
abbrev S1x2048x13856 : Shape := ⟨3, ![1, 2048, 13856]⟩
abbrev S8192x2048 : Shape := ⟨2, ![8192, 2048]⟩
abbrev S1x13856x2048 : Shape := ⟨3, ![1, 13856, 2048]⟩
abbrev S1x32x2048 : Shape := ⟨3, ![1, 32, 2048]⟩
abbrev S32x2048 : Shape := ⟨2, ![32, 2048]⟩
abbrev S2048x32 : Shape := ⟨2, ![2048, 32]⟩
abbrev S_ : Shape := ⟨0, ![]⟩
abbrev S2048x128 : Shape := ⟨2, ![2048, 128]⟩
abbrev S2048x5120 : Shape := ⟨2, ![2048, 5120]⟩
abbrev S1x512x2048 : Shape := ⟨3, ![1, 512, 2048]⟩
abbrev S2048x512 : Shape := ⟨2, ![2048, 512]⟩
abbrev S512x2048 : Shape := ⟨2, ![512, 2048]⟩
abbrev S8192x5120 : Shape := ⟨2, ![8192, 5120]⟩
abbrev S8192x128 : Shape := ⟨2, ![8192, 128]⟩
abbrev S2048x2560 : Shape := ⟨2, ![2048, 2560]⟩
abbrev S512x2560 : Shape := ⟨2, ![512, 2560]⟩
abbrev S512x128 : Shape := ⟨2, ![512, 128]⟩
abbrev S8192x32 : Shape := ⟨2, ![8192, 32]⟩

abbrev nBuf : Space → Nat
  | .hbm => 16
  | .vmem => 15
  | .smem => 0
  | _ => 0

abbrev bufTy : (tb : Table) → Fin (tcTables nBuf tb) → BufTy
  | .hbm, ⟨0, _⟩ => ⟨S2x4096x2048, .f32⟩
  | .hbm, ⟨1, _⟩ => ⟨S1x2048x13856, .f32⟩
  | .hbm, ⟨2, _⟩ => ⟨S8192x2048, .f32⟩
  | .hbm, ⟨3, _⟩ => ⟨S1x13856x2048, .f32⟩
  | .hbm, ⟨4, _⟩ => ⟨S1x32x2048, .f32⟩
  | .hbm, ⟨5, _⟩ => ⟨S32x2048, .f32⟩
  | .hbm, ⟨6, _⟩ => ⟨S2048x32, .f32⟩
  | .hbm, ⟨7, _⟩ => ⟨S_, .i32⟩
  | .hbm, ⟨8, _⟩ => ⟨S_, .f32⟩
  | .hbm, ⟨9, _⟩ => ⟨S2048x128, .f32⟩
  | .hbm, ⟨10, _⟩ => ⟨S2048x128, .bf16⟩
  | .hbm, ⟨11, _⟩ => ⟨S2048x5120, .bf16⟩
  | .hbm, ⟨12, _⟩ => ⟨S8192x5120, .bf16⟩
  | .hbm, ⟨13, _⟩ => ⟨S8192x128, .f32⟩
  | .hbm, ⟨14, _⟩ => ⟨S8192x2048, .bf16⟩
  | .hbm, ⟨15, _⟩ => ⟨S8192x32, .f32⟩
  | .local _ .vmem, ⟨0, _⟩ => ⟨S1x512x2048, .f32⟩
  | .local _ .vmem, ⟨1, _⟩ => ⟨S1x512x2048, .f32⟩
  | .local _ .vmem, ⟨2, _⟩ => ⟨S2048x512, .bf16⟩
  | .local _ .vmem, ⟨3, _⟩ => ⟨S2048x512, .bf16⟩
  | .local _ .vmem, ⟨4, _⟩ => ⟨S512x2048, .f32⟩
  | .local _ .vmem, ⟨5, _⟩ => ⟨S512x2048, .f32⟩
  | .local _ .vmem, ⟨6, _⟩ => ⟨S2048x2560, .bf16⟩
  | .local _ .vmem, ⟨7, _⟩ => ⟨S2048x2560, .bf16⟩
  | .local _ .vmem, ⟨8, _⟩ => ⟨S2048x128, .bf16⟩
  | .local _ .vmem, ⟨9, _⟩ => ⟨S512x2560, .bf16⟩
  | .local _ .vmem, ⟨10, _⟩ => ⟨S512x2560, .bf16⟩
  | .local _ .vmem, ⟨11, _⟩ => ⟨S512x128, .f32⟩
  | .local _ .vmem, ⟨12, _⟩ => ⟨S512x128, .f32⟩
  | .local _ .vmem, ⟨13, _⟩ => ⟨S512x2048, .bf16⟩
  | .local _ .vmem, ⟨14, _⟩ => ⟨S512x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem3_1 : DmaSem sig := 10
abbrev cc1_sem4_0 : DmaSem sig := 11
abbrev cc1_sem4_1 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨1, ![10], ![false]⟩

def k0_mult1 (i : grid0.Coords) : BitVec 32 :=
  let c0_i32 : BitVec 32 := 0#32
  let arg0 : BitVec 32 := BitVec.ofNat 32 (i 0).val
  let c512_i32 : BitVec 32 := 512#32
  let v0 : BitVec 32 := Scalar.muli arg0 c512_i32
  let v1 : BitVec 32 := Scalar.addi c0_i32 v0
  v1
def cc0_transform_0 (i : grid0.Coords) : Fin 3 → Nat :=
  let arg0 : BitVec 32 := BitVec.ofNat 32 (i 0).val
  let c512_i32 : BitVec 32 := 512#32
  let v0 : BitVec 32 := Scalar.muli arg0 c512_i32
  let c0_i32 : BitVec 32 := 0#32
  let v1 : BitVec 32 := Scalar.addi c0_i32 v0
  let v2 : BitVec 32 := v1
  let c0_i32_0 : BitVec 32 := 0#32
  let c0_i32_1 : BitVec 32 := 0#32
  let c0_i32_2 : BitVec 32 := 0#32
  ![c0_i32_0.toNat, v2.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![16, 2], ![false, false]⟩

def k1_cond1 (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x2560 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S2048x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S512x2560 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S512x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S512x2048 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]
-- ==== Reference2Ideal.lean ====
abbrev S2x4096x2048 : Shape := ⟨3, ![2, 4096, 2048]⟩
abbrev S1x2048x13856 : Shape := ⟨3, ![1, 2048, 13856]⟩
abbrev S2048x13856 : Shape := ⟨2, ![2048, 13856]⟩
abbrev S2x4096x13856 : Shape := ⟨3, ![2, 4096, 13856]⟩
abbrev S2x4096x5120 : Shape := ⟨3, ![2, 4096, 5120]⟩
abbrev S2x4096x32 : Shape := ⟨3, ![2, 4096, 32]⟩
abbrev S2x4096x8704 : Shape := ⟨3, ![2, 4096, 8704]⟩
abbrev S8192x5120 : Shape := ⟨2, ![8192, 5120]⟩
abbrev S8192x32 : Shape := ⟨2, ![8192, 32]⟩
abbrev S8192x2048 : Shape := ⟨2, ![8192, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048x13856, .f32⟩
  | .hbm, ⟨2, _⟩ => ⟨S2048x13856, .f32⟩
  | .hbm, ⟨3, _⟩ => ⟨S2x4096x13856, .f32⟩
  | .hbm, ⟨4, _⟩ => ⟨S2x4096x5120, .f32⟩
  | .hbm, ⟨5, _⟩ => ⟨S2x4096x32, .f32⟩
  | .hbm, ⟨6, _⟩ => ⟨S2x4096x8704, .f32⟩
  | .hbm, ⟨7, _⟩ => ⟨S8192x5120, .f32⟩
  | .hbm, ⟨8, _⟩ => ⟨S8192x5120, .bf16⟩
  | .hbm, ⟨9, _⟩ => ⟨S8192x32, .f32⟩
  | .hbm, ⟨10, _⟩ => ⟨S8192x2048, .f32⟩
  | .hbm, ⟨11, _⟩ => ⟨S8192x2048, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Kernel3.lean ====
abbrev S8x8192 : Shape := ⟨2, ![8, 8192]⟩
abbrev S64 : Shape := ⟨1, ![64]⟩
abbrev S64x1 : Shape := ⟨2, ![64, 1]⟩
abbrev S8x2048 : Shape := ⟨2, ![8, 2048]⟩
abbrev S64x2048 : Shape := ⟨2, ![64, 2048]⟩
abbrev S1x2048 : Shape := ⟨2, ![1, 2048]⟩
abbrev S2048 : Shape := ⟨1, ![2048]⟩

abbrev nBuf : Space → Nat
  | .hbm => 6
  | .vmem => 7
  | .smem => 0
  | _ => 0

abbrev bufTy : (tb : Table) → Fin (tcTables nBuf tb) → BufTy
  | .hbm, ⟨0, _⟩ => ⟨S8x8192, .i32⟩
  | .hbm, ⟨1, _⟩ => ⟨S8x8192, .i32⟩
  | .hbm, ⟨2, _⟩ => ⟨S64, .i32⟩
  | .hbm, ⟨3, _⟩ => ⟨S64, .f32⟩
  | .hbm, ⟨4, _⟩ => ⟨S64x1, .f32⟩
  | .hbm, ⟨5, _⟩ => ⟨S8x8192, .i32⟩
  | .local _ .vmem, ⟨0, _⟩ => ⟨S8x2048, .i32⟩
  | .local _ .vmem, ⟨1, _⟩ => ⟨S8x2048, .i32⟩
  | .local _ .vmem, ⟨2, _⟩ => ⟨S8x2048, .i32⟩
  | .local _ .vmem, ⟨3, _⟩ => ⟨S8x2048, .i32⟩
  | .local _ .vmem, ⟨4, _⟩ => ⟨S64x1, .f32⟩
  | .local _ .vmem, ⟨5, _⟩ => ⟨S8x2048, .i32⟩
  | .local _ .vmem, ⟨6, _⟩ => ⟨S8x2048, .i32⟩
  | _, _ => ⟨S8x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S8x8192 : Shape := ⟨2, ![8, 8192]⟩
abbrev S64 : Shape := ⟨1, ![64]⟩
abbrev S8x8192x1 : Shape := ⟨3, ![8, 8192, 1]⟩

abbrev nBuf : Space → Nat
  | .hbm => 6
  | .vmem => 0
  | .smem => 0
  | _ => 0

abbrev bufTy : (tb : Table) → Fin (tcTables nBuf tb) → BufTy
  | .hbm, ⟨0, _⟩ => ⟨S8x8192, .i32⟩
  | .hbm, ⟨1, _⟩ => ⟨S8x8192, .i32⟩
  | .hbm, ⟨2, _⟩ => ⟨S64, .i32⟩
  | .hbm, ⟨3, _⟩ => ⟨S8x8192x1, .i32⟩
  | .hbm, ⟨4, _⟩ => ⟨S8x8192, .i32⟩
  | .hbm, ⟨5, _⟩ => ⟨S8x8192, .i32⟩
  | _, _ => ⟨S8x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩

abbrev nD : Nat := 1
abbrev τ : Topo := Topo.v7x

variable {F : FTy → Type} [FloatOps F]
-- ==== Kernel4.lean ====
abbrev S8192x8704 : Shape := ⟨2, ![8192, 8704]⟩
abbrev S16 : Shape := ⟨1, ![16]⟩
abbrev S16x128x256 : Shape := ⟨3, ![16, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S1x128x256 : Shape := ⟨3, ![1, 128, 256]⟩
abbrev S1x1x256 : Shape := ⟨3, ![1, 1, 256]⟩
abbrev S1x16x128x256 : Shape := ⟨4, ![1, 16, 128, 256]⟩
abbrev S2x16x128x256 : Shape := ⟨4, ![2, 16, 128, 256]⟩
abbrev S2x8x256x256 : Shape := ⟨4, ![2, 8, 256, 256]⟩
abbrev S8192x1024 : Shape := ⟨2, ![8192, 1024]⟩
abbrev S128x1024 : Shape := ⟨2, ![128, 1024]⟩
abbrev S1x8x256x256 : Shape := ⟨4, ![1, 8, 256, 256]⟩
abbrev S256x256 : Shape := ⟨2, ![256, 256]⟩
abbrev S1x128 : Shape := ⟨2, ![1, 128]⟩
abbrev S256x128 : Shape := ⟨2, ![256, 128]⟩
abbrev S256x64 : Shape := ⟨2, ![256, 64]⟩
abbrev S256x1 : Shape := ⟨2, ![256, 1]⟩
abbrev S128x128 : Shape := ⟨2, ![128, 128]⟩
abbrev S1x1x256x256 : Shape := ⟨4, ![1, 1, 256, 256]⟩
abbrev S1 : Shape := ⟨1, ![1]⟩
abbrev S128x512 : Shape := ⟨2, ![128, 512]⟩
abbrev S512x128 : Shape := ⟨2, ![512, 128]⟩

abbrev nBuf : Space → Nat
  | .hbm => 40
  | .vmem => 14
  | .smem => 1
  | _ => 0

abbrev bufTy : (tb : Table) → Fin (tcTables nBuf tb) → BufTy
  | .hbm, ⟨0, _⟩ => ⟨S8192x8704, .bf16⟩
  | .hbm, ⟨1, _⟩ => ⟨S16, .f32⟩
  | .hbm, ⟨2, _⟩ => ⟨S16x128x256, .f32⟩
  | .hbm, ⟨3, _⟩ => ⟨S128, .i32⟩
  | .hbm, ⟨4, _⟩ => ⟨S128x1, .i32⟩
  | .hbm, ⟨5, _⟩ => ⟨S256, .i32⟩
  | .hbm, ⟨6, _⟩ => ⟨S1x256, .i32⟩
  | .hbm, ⟨7, _⟩ => ⟨S_, .i32⟩
  | .hbm, ⟨8, _⟩ => ⟨S128x1, .i32⟩
  | .hbm, ⟨9, _⟩ => ⟨S128x1, .i32⟩
  | .hbm, ⟨10, _⟩ => ⟨S128x256, .i32⟩
  | .hbm, ⟨11, _⟩ => ⟨S128x256, .i32⟩
  | .hbm, ⟨12, _⟩ => ⟨S128x256, .i32⟩
  | .hbm, ⟨13, _⟩ => ⟨S_, .i32⟩
  | .hbm, ⟨14, _⟩ => ⟨S128x256, .i32⟩
  | .hbm, ⟨15, _⟩ => ⟨S128x256, .i1⟩
  | .hbm, ⟨16, _⟩ => ⟨S_, .i32⟩
  | .hbm, ⟨17, _⟩ => ⟨S128x256, .i32⟩
  | .hbm, ⟨18, _⟩ => ⟨S128x256, .i1⟩
  | .hbm, ⟨19, _⟩ => ⟨S128x256, .i1⟩
  | .hbm, ⟨20, _⟩ => ⟨S1x128x256, .i1⟩
  | .hbm, ⟨21, _⟩ => ⟨S_, .f32⟩
  | .hbm, ⟨22, _⟩ => ⟨S_, .f32⟩
  | .hbm, ⟨23, _⟩ => ⟨S16x128x256, .i1⟩
  | .hbm, ⟨24, _⟩ => ⟨S16x128x256, .f32⟩
  | .hbm, ⟨25, _⟩ => ⟨S16x128x256, .f32⟩
  | .hbm, ⟨26, _⟩ => ⟨S_, .i32⟩
  | .hbm, ⟨27, _⟩ => ⟨S1x256, .i32⟩
  | .hbm, ⟨28, _⟩ => ⟨S1x256, .i1⟩
  | .hbm, ⟨29, _⟩ => ⟨S1x1x256, .i1⟩
  | .hbm, ⟨30, _⟩ => ⟨S_, .f32⟩
  | .hbm, ⟨31, _⟩ => ⟨S_, .f32⟩
  | .hbm, ⟨32, _⟩ => ⟨S16x128x256, .i1⟩
  | .hbm, ⟨33, _⟩ => ⟨S16x128x256, .f32⟩
  | .hbm, ⟨34, _⟩ => ⟨S16x128x256, .f32⟩
  | .hbm, ⟨35, _⟩ => ⟨S1x16x128x256, .f32⟩
  | .hbm, ⟨36, _⟩ => ⟨S1x16x128x256, .f32⟩
  | .hbm, ⟨37, _⟩ => ⟨S2x16x128x256, .f32⟩
  | .hbm, ⟨38, _⟩ => ⟨S2x8x256x256, .f32⟩
  | .hbm, ⟨39, _⟩ => ⟨S8192x1024, .bf16⟩
  | .local _ .vmem, ⟨0, _⟩ => ⟨S128x1024, .bf16⟩
  | .local _ .vmem, ⟨1, _⟩ => ⟨S128x1024, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S1x8x256x256, .f32⟩
  | .local _ .vmem, ⟨11, _⟩ => ⟨S1x8x256x256, .f32⟩
  | .local _ .vmem, ⟨12, _⟩ => ⟨S128x1024, .bf16⟩
  | .local _ .vmem, ⟨13, _⟩ => ⟨S128x1024, .bf16⟩
  | .local _ .smem, ⟨0, _⟩ => ⟨S16, .f32⟩
  | _, _ => ⟨S8192x8704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![2, 32], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c4_i32 : BitVec 32 := 4#32
  let c0_i32_0 : BitVec 32 := 0#32
  ![v3.toNat, c4_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c4_i32 : BitVec 32 := 4#32
  let c0_i32 : BitVec 32 := 0#32
  ![v1.toNat, c4_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c5_i32 : BitVec 32 := 5#32
  let c0_i32_0 : BitVec 32 := 0#32
  ![v3.toNat, c5_i32.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c5_i32 : BitVec 32 := 5#32
  let c0_i32 : BitVec 32 := 0#32
  ![v1.toNat, c5_i32.toNat]

def cc0_transform_6 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference4Ideal.lean ====
abbrev S8192x8704 : Shape := ⟨2, ![8192, 8704]⟩
abbrev S16 : Shape := ⟨1, ![16]⟩
abbrev S16x128x256 : Shape := ⟨3, ![16, 128, 256]⟩
abbrev S8192x1024 : Shape := ⟨2, ![8192, 1024]⟩
abbrev S2x4096x1024 : Shape := ⟨3, ![2, 4096, 1024]⟩
abbrev S8192x256 : Shape := ⟨2, ![8192, 256]⟩
abbrev S2x4096x256 : Shape := ⟨3, ![2, 4096, 256]⟩
abbrev S2x32x128x4x4x64 : Shape := ⟨6, ![2, 32, 128, 4, 4, 64]⟩
abbrev S_ : Shape := ⟨0, ![]⟩
abbrev S2x128x4x64 : Shape := ⟨4, ![2, 128, 4, 64]⟩
abbrev S2x4096x4x64 : Shape := ⟨4, ![2, 4096, 4, 64]⟩
abbrev S2x4224x4x64 : Shape := ⟨4, ![2, 4224, 4, 64]⟩
abbrev S2x33x128x4x64 : Shape := ⟨5, ![2, 33, 128, 4, 64]⟩
abbrev S2x32x128x4x64 : Shape := ⟨5, ![2, 32, 128, 4, 64]⟩
abbrev S2x32x256x4x64 : Shape := ⟨5, ![2, 32, 256, 4, 64]⟩
abbrev S2x32x4x256x128x4 : Shape := ⟨6, ![2, 32, 4, 256, 128, 4]⟩
abbrev S2x32x4x4x128x256 : Shape := ⟨6, ![2, 32, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S1x32x1x1x128x256 : Shape := ⟨6, ![1, 32, 1, 1, 128, 256]⟩
abbrev S4x4x128x256 : Shape := ⟨4, ![4, 4, 128, 256]⟩
abbrev S1x1x4x4x128x256 : Shape := ⟨6, ![1, 1, 4, 4, 128, 256]⟩
abbrev S4x4 : Shape := ⟨2, ![4, 4]⟩
abbrev S4x4x1x1 : Shape := ⟨4, ![4, 4, 1, 1]⟩
abbrev S2x32x4x4x128 : Shape := ⟨5, ![2, 32, 4, 4, 128]⟩
abbrev S2x32x4x4x128x1 : Shape := ⟨6, ![2, 32, 4, 4, 128, 1]⟩
abbrev S1x1x4x4x1x1 : Shape := ⟨6, ![1, 1, 4, 4, 1, 1]⟩
abbrev S2x32x4x64x4x128 : Shape := ⟨6, ![2, 32, 4, 64, 4, 128]⟩

abbrev nBuf : Space → Nat
  | .hbm => 100
  | .vmem => 0
  | .smem => 0
  | _ => 0

abbrev bufTy : (tb : Table) → Fin (tcTables nBuf tb) → BufTy
  | .hbm, ⟨0, _⟩ => ⟨S8192x8704, .bf16⟩
  | .hbm, ⟨1, _⟩ => ⟨S16, .f32⟩
  | .hbm, ⟨2, _⟩ => ⟨S16x128x256, .f32⟩
  | .hbm, ⟨3, _⟩ => ⟨S8192x1024, .bf16⟩
  | .hbm, ⟨4, _⟩ => ⟨S8192x1024, .f32⟩
  | .hbm, ⟨5, _⟩ => ⟨S2x4096x1024, .f32⟩
  | .hbm, ⟨6, _⟩ => ⟨S8192x256, .bf16⟩
  | .hbm, ⟨7, _⟩ => ⟨S8192x256, .f32⟩
  | .hbm, ⟨8, _⟩ => ⟨S2x4096x256, .f32⟩
  | .hbm, ⟨9, _⟩ => ⟨S8192x256, .bf16⟩
  | .hbm, ⟨10, _⟩ => ⟨S8192x256, .f32⟩
  | .hbm, ⟨11, _⟩ => ⟨S2x4096x256, .f32⟩
  | .hbm, ⟨12, _⟩ => ⟨S2x32x128x4x4x64, .f32⟩
  | .hbm, ⟨13, _⟩ => ⟨S_, .f32⟩
  | .hbm, ⟨14, _⟩ => ⟨S2x128x4x64, .f32⟩
  | .hbm, ⟨15, _⟩ => ⟨S2x4096x4x64, .f32⟩
  | .hbm, ⟨16, _⟩ => ⟨S2x4224x4x64, .f32⟩
  | .hbm, ⟨17, _⟩ => ⟨S2x33x128x4x64, .f32⟩
  | .hbm, ⟨18, _⟩ => ⟨S2x4096x4x64, .f32⟩
  | .hbm, ⟨19, _⟩ => ⟨S2x4224x4x64, .f32⟩
  | .hbm, ⟨20, _⟩ => ⟨S2x33x128x4x64, .f32⟩
  | .hbm, ⟨21, _⟩ => ⟨S2x32x128x4x64, .f32⟩
  | .hbm, ⟨22, _⟩ => ⟨S2x32x128x4x64, .f32⟩
  | .hbm, ⟨23, _⟩ => ⟨S2x32x256x4x64, .f32⟩
  | .hbm, ⟨24, _⟩ => ⟨S2x32x128x4x64, .f32⟩
  | .hbm, ⟨25, _⟩ => ⟨S2x32x128x4x64, .f32⟩
  | .hbm, ⟨26, _⟩ => ⟨S2x32x256x4x64, .f32⟩
  | .hbm, ⟨27, _⟩ => ⟨S2x32x4x256x128x4, .f32⟩
  | .hbm, ⟨28, _⟩ => ⟨S2x32x4x4x128x256, .f32⟩
  | .hbm, ⟨29, _⟩ => ⟨S_, .f32⟩
  | .hbm, ⟨30, _⟩ => ⟨S2x32x4x4x128x256, .f32⟩
  | .hbm, ⟨31, _⟩ => ⟨S2x32x4x4x128x256, .f32⟩
  | .hbm, ⟨32, _⟩ => ⟨S128, .i32⟩
  | .hbm, ⟨33, _⟩ => ⟨S128x1, .i32⟩
  | .hbm, ⟨34, _⟩ => ⟨S256, .i32⟩
  | .hbm, ⟨35, _⟩ => ⟨S1x256, .i32⟩
  | .hbm, ⟨36, _⟩ => ⟨S_, .i32⟩
  | .hbm, ⟨37, _⟩ => ⟨S128x1, .i32⟩
  | .hbm, ⟨38, _⟩ => ⟨S128x1, .i32⟩
  | .hbm, ⟨39, _⟩ => ⟨S128x256, .i32⟩
  | .hbm, ⟨40, _⟩ => ⟨S128x256, .i32⟩
  | .hbm, ⟨41, _⟩ => ⟨S128x256, .i32⟩
  | .hbm, ⟨42, _⟩ => ⟨S_, .i32⟩
  | .hbm, ⟨43, _⟩ => ⟨S128x256, .i32⟩
  | .hbm, ⟨44, _⟩ => ⟨S128x256, .i1⟩
  | .hbm, ⟨45, _⟩ => ⟨S_, .i32⟩
  | .hbm, ⟨46, _⟩ => ⟨S128x256, .i32⟩
  | .hbm, ⟨47, _⟩ => ⟨S128x256, .i1⟩
  | .hbm, ⟨48, _⟩ => ⟨S128x256, .i1⟩
  | .hbm, ⟨49, _⟩ => ⟨S32, .i32⟩
  | .hbm, ⟨50, _⟩ => ⟨S32x1x1, .i32⟩
  | .hbm, ⟨51, _⟩ => ⟨S_, .i32⟩
  | .hbm, ⟨52, _⟩ => ⟨S32x1x1, .i32⟩
  | .hbm, ⟨53, _⟩ => ⟨S32x1x1, .i1⟩
  | .hbm, ⟨54, _⟩ => ⟨S1x1x256, .i32⟩
  | .hbm, ⟨55, _⟩ => ⟨S_, .i32⟩
  | .hbm, ⟨56, _⟩ => ⟨S1x1x256, .i32⟩
  | .hbm, ⟨57, _⟩ => ⟨S1x1x256, .i1⟩
  | .hbm, ⟨58, _⟩ => ⟨S32x1x256, .i1⟩
  | .hbm, ⟨59, _⟩ => ⟨S32x1x256, .i1⟩
  | .hbm, ⟨60, _⟩ => ⟨S32x1x256, .i1⟩
  | .hbm, ⟨61, _⟩ => ⟨S1x128x256, .i1⟩
  | .hbm, ⟨62, _⟩ => ⟨S32x128x256, .i1⟩
  | .hbm, ⟨63, _⟩ => ⟨S32x128x256, .i1⟩
  | .hbm, ⟨64, _⟩ => ⟨S32x128x256, .i1⟩
  | .hbm, ⟨65, _⟩ => ⟨S1x32x1x1x128x256, .i1⟩
  | .hbm, ⟨66, _⟩ => ⟨S4x4x128x256, .f32⟩
  | .hbm, ⟨67, _⟩ => ⟨S1x1x4x4x128x256, .f32⟩
  | .hbm, ⟨68, _⟩ => ⟨S2x32x4x4x128x256, .f32⟩
  | .hbm, ⟨69, _⟩ => ⟨S2x32x4x4x128x256, .f32⟩
  | .hbm, ⟨70, _⟩ => ⟨S_, .f32⟩
  | .hbm, ⟨71, _⟩ => ⟨S_, .f32⟩
  | .hbm, ⟨72, _⟩ => ⟨S2x32x4x4x128x256, .i1⟩
  | .hbm, ⟨73, _⟩ => ⟨S2x32x4x4x128x256, .f32⟩
  | .hbm, ⟨74, _⟩ => ⟨S2x32x4x4x128x256, .f32⟩
  | .hbm, ⟨75, _⟩ => ⟨S4x4, .f32⟩
  | .hbm, ⟨76, _⟩ => ⟨S4x4x1x1, .f32⟩
  | .hbm, ⟨77, _⟩ => ⟨S_, .f32⟩
  | .hbm, ⟨78, _⟩ => ⟨S2x32x4x4x128, .f32⟩
  | .hbm, ⟨79, _⟩ => ⟨S2x32x4x4x128x1, .f32⟩
  | .hbm, ⟨80, _⟩ => ⟨S1x1x4x4x1x1, .f32⟩
  | .hbm, ⟨81, _⟩ => ⟨S2x32x4x4x128x1, .f32⟩
  | .hbm, ⟨82, _⟩ => ⟨S2x32x4x4x128x1, .f32⟩
  | .hbm, ⟨83, _⟩ => ⟨S2x32x4x4x128x256, .f32⟩
  | .hbm, ⟨84, _⟩ => ⟨S2x32x4x4x128x256, .f32⟩
  | .hbm, ⟨85, _⟩ => ⟨S2x32x4x4x128x256, .f32⟩
  | .hbm, ⟨86, _⟩ => ⟨S_, .f32⟩
  | .hbm, ⟨87, _⟩ => ⟨S2x32x4x4x128, .f32⟩
  | .hbm, ⟨88, _⟩ => ⟨S2x32x4x4x128x1, .f32⟩
  | .hbm, ⟨89, _⟩ => ⟨S1x1x4x4x1x1, .f32⟩
  | .hbm, ⟨90, _⟩ => ⟨S2x32x4x4x128x1, .f32⟩
  | .hbm, ⟨91, _⟩ => ⟨S2x32x4x4x128x1, .f32⟩
  | .hbm, ⟨92, _⟩ => ⟨S2x32x4x4x128x1, .f32⟩
  | .hbm, ⟨93, _⟩ => ⟨S2x32x4x4x128x1, .f32⟩
  | .hbm, ⟨94, _⟩ => ⟨S2x32x4x4x128x256, .f32⟩
  | .hbm, ⟨95, _⟩ => ⟨S2x32x4x4x128x256, .f32⟩
  | .hbm, ⟨96, _⟩ => ⟨S2x32x4x64x4x128, .f32⟩
  | .hbm, ⟨97, _⟩ => ⟨S2x32x128x4x4x64, .f32⟩
  | .hbm, ⟨98, _⟩ => ⟨S8192x1024, .f32⟩
  | .hbm, ⟨99, _⟩ => ⟨S8192x1024, .bf16⟩
  | _, _ => ⟨S8192x8704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst_0 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_c : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_c_1 : Ref sig .tc := ⟨.hbm, 42, rfl⟩
abbrev main_v36 : Ref sig .tc := ⟨.hbm, 43, rfl⟩
abbrev main_v37 : Ref sig .tc := ⟨.hbm, 44, rfl⟩
abbrev main_c_2 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_c_3 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_c_4 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_cst_5 : Ref sig .tc := ⟨.hbm, 70, rfl⟩
abbrev main_call0_v0 : Ref sig .tc := ⟨.hbm, 71, rfl⟩
abbrev main_call0_v1 : Ref sig .tc := ⟨.hbm, 72, rfl⟩
abbrev main_call0_v2 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_cst_6 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_cst_7 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩

abbrev nD : Nat := 1
abbrev τ : Topo := Topo.v7x

variable {F : FTy → Type} [FloatOps F]
-- ==== Proof.Launch.lean ====
/-
  The run of the kernel, read at its three results: every fair execution ends with them as the last segment leaves them,
  the arguments as launched and every counter at zero. Over any float values.
-/
module

public import proofs.«01_k».proof.Proof.Gen.KernelIdeal.Frame

@[expose] public section

noncomputable section

namespace Cert.KernelIdeal.Launch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch lemma's implicit arguments are found by unifying its conclusion with this one
set_option backward.isDefEq.respectTransparency.types false in
/-- The launch over the program's segments, the last thread state read at the result and at the arguments. -/
theorem run : θ_run defs (onTc (τ := τ) (main (F := F))) ⟨m, fun _ => 0, ρ⟩ (fun r => (∀ c : Dev nD,
      r.2.mem ((c.tc : Thread nD τ).loc main_v5) = W10 m ρ c (Proc.devRef .tc main_v5)
      ∧ r.2.mem ((c.tc : Thread nD τ).loc main_v23_0) = W10 m ρ c (Proc.devRef .tc main_v23_0)
      ∧ r.2.mem ((c.tc : Thread nD τ).loc main_v23_1) = W10 m ρ c (Proc.devRef .tc main_v23_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h hz => ⟨(fun c =>
      ⟨h c _ (mem_uc main_v5 (by decide)),
       h c _ (mem_uc main_v23_0 (by decide)),
       h c _ (mem_uc main_v23_1 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c)⟩), funext fun g => hz g (.inr (no_unscoped g.2))⟩)

end Cert.KernelIdeal.Launch

end
-- ==== Proof.Maths.lean ====
/-
  The layer's arithmetic at one element: attention over the 256 memory slots of one head, the sigmoid gate, and the
  normalization of one row, all over the extended reals.
-/
module

public import Idealize.ShloMosaic.Lib.Pointwise
public import Idealize.ShloMosaic.Lib.IdealHost

@[expose] public section

noncomputable section

namespace Cert.Maths

open Idealize.ShloMosaic

/-- The scaled scores of one query against the 256 memory slots. -/
def scores (q : Fin 256 → EReal) (k : Fin 256 → Fin 256 → EReal) (j : Fin 256) : EReal :=
  (∑ d, q d * k j d) * Ideal.ofBits .f32 0x3D800000#32

/-- The unnormalized softmax weights of a row of scores. -/
def weights (s : Fin 256 → EReal) (j : Fin 256) : EReal :=
  Ideal.exp (s j - Finset.univ.fold max (Ideal.ofBits .f32 0xFF800000#32) s)

/-- Attention with the weights multiplied by the reciprocal of their sum. -/
def attend (q : Fin 256 → EReal) (k : Fin 256 → Fin 256 → EReal) (v : Fin 256 → EReal) : EReal :=
  ∑ j, weights (scores q k) j * Ideal.div 1 (∑ j', weights (scores q k) j') * v j

/-- Attention with the weights divided by their sum. -/
def attendDiv (q : Fin 256 → EReal) (k : Fin 256 → Fin 256 → EReal) (v : Fin 256 → EReal) : EReal :=
  ∑ j, v j * Ideal.div (weights (scores q k) j) (∑ j', weights (scores q k) j')

/-- A value that is neither infinity. -/
def Proper (a : EReal) : Prop := a ≠ ⊤ ∧ a ≠ ⊥

theorem Proper.mul {a b : EReal} (ha : Proper a) (hb : Proper b) : Proper (a * b) := by
  lift a to ℝ using ha
  lift b to ℝ using hb
  rw [← EReal.coe_mul]
  exact ⟨EReal.coe_ne_top _, EReal.coe_ne_bot _⟩

theorem Proper.add {a b : EReal} (ha : Proper a) (hb : Proper b) : Proper (a + b) := by
  lift a to ℝ using ha
  lift b to ℝ using hb
  rw [← EReal.coe_add]
  exact ⟨EReal.coe_ne_top _, EReal.coe_ne_bot _⟩

theorem Proper.sum {n : ℕ} {f : Fin n → EReal} (h : ∀ k, Proper (f k)) : Proper (∑ k, f k) :=
  Finset.sum_induction f Proper (fun _ _ => Proper.add) ⟨EReal.zero_ne_top, EReal.zero_ne_bot⟩ fun k _ => h k

theorem Proper.sixteenth : Proper (Ideal.ofBits .f32 0x3D800000#32) := by
  have : Ideal.ofBits .f32 0x3D800000#32 = (((1 : ℝ) / 16 : ℝ) : EReal) := by
    simp [Ideal.ofBits, Ideal.ieee, -EReal.coe_mul]; norm_num
  rw [this]
  exact ⟨EReal.coe_ne_top _, EReal.coe_ne_bot _⟩

theorem bottom : Ideal.ofBits .f32 0xFF800000#32 = ⊥ := by
  simp [Ideal.ofBits, Ideal.ieee]

theorem exp_nonneg (a : EReal) : 0 ≤ Ideal.exp a := by
  induction a with
  | bot => exact le_refl _
  | top => exact le_top
  | coe r => exact EReal.coe_nonneg.mpr (Real.exp_pos r).le

theorem exp_pos {a : EReal} (h : a ≠ ⊥) : 0 < Ideal.exp a := by
  induction a with
  | bot => exact absurd rfl h
  | top => exact EReal.zero_lt_top
  | coe r => exact EReal.coe_pos.mpr (Real.exp_pos r)

/-- The weights of a row of real scores do not sum to zero. -/
theorem weights_sum_ne_zero {s : Fin 256 → EReal} (h : ∀ j, Proper (s j)) : ∑ j, weights s j ≠ 0 := by
  have hM : Finset.univ.fold max (Ideal.ofBits .f32 0xFF800000#32) s < ⊤ := by
    rw [Finset.fold_max_lt, bottom]
    exact ⟨bot_lt_top, fun j _ => lt_top_iff_ne_top.mpr (h j).1⟩
  have h0 : 0 < weights s 0 := by
    refine exp_pos fun hb => ?_
    rw [sub_eq_add_neg, EReal.add_eq_bot_iff] at hb
    rcases hb with hb | hb
    · exact (h 0).2 hb
    · exact hM.ne (EReal.neg_eq_bot_iff.mp hb)
  exact (lt_of_lt_of_le h0 (Finset.single_le_sum (f := weights s) (fun j _ => exp_nonneg _) (Finset.mem_univ 0))).ne'

/-- The two ways to normalize agree on real queries and keys. -/
theorem attend_eq {q : Fin 256 → EReal} {k : Fin 256 → Fin 256 → EReal} {v : Fin 256 → EReal}
    (hq : ∀ d, Proper (q d)) (hk : ∀ j d, Proper (k j d)) : attend q k v = attendDiv q k v := by
  have hs : ∀ j, Proper (scores q k j) := fun j => (Proper.sum fun d => (hq d).mul (hk j d)).mul Proper.sixteenth
  unfold attend attendDiv
  refine Finset.sum_congr rfl fun j _ => ?_
  rw [Ideal.mul_one_div (weights_sum_ne_zero hs), mul_comm]

/-- The sigmoid. -/
def gate (z : EReal) : EReal := Ideal.div 1 (1 + Ideal.exp (0 - z))

/-- The mean of a row. -/
def mean (h : Fin 2048 → EReal) : EReal := Ideal.div (∑ x, h x) (Ideal.ofBits .f32 0x45000000#32)

/-- A row normalized, scaled and shifted, at one element. -/
def normed (h : Fin 2048 → EReal) (g b : EReal) (j : Fin 2048) : EReal :=
  (h j - mean h) * Ideal.rsqrt (Ideal.div (∑ x, (h x - mean h) * (h x - mean h)) (Ideal.ofBits .f32 0x45000000#32)
    + Ideal.ofBits .f32 0x3727C5AC#32) * g + b

/-- The factor on the residual. -/
def alpha : EReal := Ideal.ofBits .f32 0x3F9837F0#32

end Cert.Maths

end
-- ==== Proof.InWide.lean ====
/-
  The input projection: its two regions as functions of the arrays they are entered with, at the ideal instance.
-/
module

public import proofs.«01_k».proof.Proof.Gen.KernelIdeal.Frame
public import Idealize.ShloMosaic.Lib.Pipeline.Value
public import Idealize.ShloMosaic.Lib.Pipeline.ValueKit
public import Idealize.ShloMosaic.Lib.Pointwise
public import proofs.«01_k».proof.Proof.Maths

@[expose] public section

noncomputable section

namespace Cert.KernelIdeal.InWide

open Cert.KernelIdeal Cert.KernelIdeal.Gen Cert.Maths
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The weight columns the first region lays out: entry `(k, j)` is row `5152 + j`, column `k` of the transposed weights. -/
def wide (w : FVec Ideal S1x13856x2048 .f32) : FVec Ideal S2048x8704 .bf16 :=
  fun i => w (ix3 0 ⟨5152 + (i 1 : Nat), by have := (i 1).isLt; simp at this; omega⟩ (i 0))

theorem wide_final (c : Dev nD) : (dat0 V c).arrAt 1 cfg0.N = wide (V c main_v3) := by
  refine (dat0 V c).arrAt_eq_of_covers 1 _ (by decide +kernel) fun t hf y => ?_
  blk_simp
  rw [after0_1]
  unfold out0_1
  frame_out
  unfold k0_pay1
  pointwise
  unfold iblk0
  show V c main_v3 (((cfg0.win 0).blk t).view.emb (ix3 0 (y 1) (y 0))) = _
  unfold wide
  have h0 : ∀ t : Fin grid0.N, cc0_transform_0 (grid0.coords t) = ![0, 5152 + 512 * t.val, 0] := by decide +kernel
  have h1 : ∀ t : Fin grid0.N, win0_1.index t 0 = 0 ∧ win0_1.index t 1 = t.val := by decide +kernel
  refine congrArg _ (funext fun a => Fin.ext ?_)
  refine (ValueKit.view_emb_slice_whole_unit_val main_v3 (cc0_transform_0 (grid0.coords t)) S1x512x2048.size (hinbE0_0 _) _ a).trans ?_
  refine (congrArg (· + _) (congrFun (h0 t) a)).trans ?_
  fin_cases a
  · rfl
  · show 5152 + 512 * t.val + (y 1).val = 5152 + _
    blk_simp
    rw [(h1 t).2]; omega
  · show 0 + (y 0).val = ((((cfg0.win 1).blk t).view.emb y : S2048x8704.Idx) 0).val
    blk_simp
    rw [(h1 t).1]; omega

/-- The product the second region computes. -/
def prod (x : FVec Ideal S8192x2048 .bf16) (w : FVec Ideal S2048x8704 .bf16) : FVec Ideal S8192x8704 .bf16 :=
  fun i => ∑ k : Fin 2048, x (ix2 (i 0) k) * w (ix2 k (i 1))

theorem prod_final (c : Dev nD) : (dat1 V c).arrAt 2 cfg1.N = prod (V c main_v2) (V c main_v4) := by
  refine (dat1 V c).arrAt_eq_of_covers 2 _ (by decide +kernel) fun t hf y => ?_
  blk_simp
  rw [after1_2]
  unfold out1_2
  frame_out
  unfold k1_pay1
  pointwise
  have h0 : ∀ t : Fin grid1.N, win1_0.index t 0 = win1_2.index t 0 ∧ win1_0.index t 1 = 0 := by decide +kernel
  have h1 : ∀ t : Fin grid1.N, win1_1.index t 0 = 0 ∧ win1_1.index t 1 = win1_2.index t 1 := by decide +kernel
  have hx : ∀ k : Fin 2048, iblk1 V c 0 t (ix2 (y 0) k) = V c main_v2 (ix2 ((((cfg1.win 2).blk t).view.emb y : S8192x8704.Idx) 0) k) := fun k => by
    unfold iblk1
    show V c main_v2 (((cfg1.win 0).blk t).view.emb (ix2 (y 0) k)) = _
    refine congrArg _ (funext fun a => Fin.ext ?_)
    fin_cases a
    · blk_simp; simp only [(h0 t).1]
      show _ + (y 0).val = ((((cfg1.win 2).blk t).view.emb y : S8192x8704.Idx) 0).val
      blk_simp
    · blk_simp; simp only [(h0 t).2]; exact Nat.zero_add _
  have hw : ∀ k : Fin 2048, iblk1 V c 1 t (ix2 k (y 1)) = V c main_v4 (ix2 k ((((cfg1.win 2).blk t).view.emb y : S8192x8704.Idx) 1)) := fun k => by
    unfold iblk1
    show V c main_v4 (((cfg1.win 1).blk t).view.emb (ix2 k (y 1))) = _
    refine congrArg _ (funext fun a => Fin.ext ?_)
    fin_cases a
    · blk_simp; simp only [(h1 t).1]; exact Nat.zero_add _
    · blk_simp; simp only [(h1 t).2]
      show _ + (y 1).val = ((((cfg1.win 2).blk t).view.emb y : S8192x8704.Idx) 1).val
      blk_simp
  simp only [hx, hw]
  rfl

end Cert.KernelIdeal.InWide

end
-- ==== Proof.MemKv.lean ====
/-
  The memory projection as a function of the arrays it is entered with, at the ideal instance.
-/
module

public import proofs.«01_k».proof.Proof.Gen.KernelIdeal.Frame
public import Idealize.ShloMosaic.Lib.Pipeline.Value
public import Idealize.ShloMosaic.Lib.Pipeline.ValueKit
public import Idealize.ShloMosaic.Lib.Pointwise
public import proofs.«01_k».proof.Proof.Maths

@[expose] public section

noncomputable section

namespace Cert.KernelIdeal.MemKv

open Cert.KernelIdeal Cert.KernelIdeal.Gen Cert.Maths
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The product the region computes. -/
def memProd (x : FVec Ideal S512x2048 .f32) (w : FVec Ideal S2048x2048 .f32) : FVec Ideal S512x2048 .bf16 :=
  fun i => ∑ k : Fin 2048, x (ix2 (i 0) k) * w (ix2 k (i 1))

theorem mem_final (c : Dev nD) : (dat2 V c).arrAt 2 cfg2.N = memProd (V c main_v1) (V c main_v6) := by
  refine (dat2 V c).arrAt_eq_of_covers 2 _ (by decide +kernel) fun t hf y => ?_
  blk_simp
  rw [after2_2]
  unfold out2_2
  frame_out
  unfold k2_pay1
  pointwise
  have h0 : ∀ t : Fin grid2.N, win2_0.index t 0 = win2_2.index t 0 ∧ win2_0.index t 1 = 0 := by decide +kernel
  have h1 : ∀ t : Fin grid2.N, win2_1.index t 0 = 0 ∧ win2_1.index t 1 = win2_2.index t 1 := by decide +kernel
  have hx : ∀ k : Fin 2048, iblk2 V c 0 t (ix2 (y 0) k) = V c main_v1 (ix2 ((((cfg2.win 2).blk t).view.emb y : S512x2048.Idx) 0) k) := fun k => by
    unfold iblk2
    show V c main_v1 (((cfg2.win 0).blk t).view.emb (ix2 (y 0) k)) = _
    refine congrArg _ (funext fun a => Fin.ext ?_)
    fin_cases a
    · blk_simp; simp only [(h0 t).1]
      show _ + (y 0).val = ((((cfg2.win 2).blk t).view.emb y : S512x2048.Idx) 0).val
      blk_simp
    · blk_simp; simp only [(h0 t).2]; exact Nat.zero_add _
  have hw : ∀ k : Fin 2048, iblk2 V c 1 t (ix2 k (y 1)) = V c main_v6 (ix2 k ((((cfg2.win 2).blk t).view.emb y : S512x2048.Idx) 1)) := fun k => by
    unfold iblk2
    show V c main_v6 (((cfg2.win 1).blk t).view.emb (ix2 k (y 1))) = _
    refine congrArg _ (funext fun a => Fin.ext ?_)
    fin_cases a
    · blk_simp; simp only [(h1 t).1]; exact Nat.zero_add _
    · blk_simp; simp only [(h1 t).2]
      show _ + (y 1).val = ((((cfg2.win 2).blk t).view.emb y : S512x2048.Idx) 1).val
      blk_simp
  simp only [hx, hw]
  rfl

end Cert.KernelIdeal.MemKv

end
-- ==== Proof.Attend.lean ====
/-
  The attention region as a function of the arrays it is entered with, at the ideal instance.
-/
module

public import proofs.«01_k».proof.Proof.Gen.KernelIdeal.Frame
public import Idealize.ShloMosaic.Lib.Pipeline.Value
public import Idealize.ShloMosaic.Lib.Pipeline.ValueKit
public import Idealize.ShloMosaic.Lib.Pointwise
public import proofs.«01_k».proof.Proof.Maths

@[expose] public section

noncomputable section

namespace Cert.KernelIdeal.Attend

open Cert.KernelIdeal Cert.KernelIdeal.Gen Cert.Maths
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- Four-head attention of the queries in columns 1536 to 2559 of the projection over the memory slots of the row's
    batch entry: keys in the first 1024 columns of the memory projection, values in the last. -/
def attended (p : FVec Ideal S8192x8704 .bf16) (kv : FVec Ideal S512x2048 .bf16) : FVec Ideal S8192x1024 .bf16 :=
  fun i =>
    have h0 : (i 0 : Nat) < 8192 := (i 0).isLt
    have h1 : (i 1 : Nat) < 1024 := (i 1).isLt
    attend (fun d => p (ix2 (i 0) ⟨1536 + 256 * ((i 1 : Nat) / 256) + d, by omega⟩))
      (fun j d => kv (ix2 ⟨256 * ((i 0 : Nat) / 4096) + j, by omega⟩ ⟨256 * ((i 1 : Nat) / 256) + d, by omega⟩))
      (fun j => kv (ix2 ⟨256 * ((i 0 : Nat) / 4096) + j, by omega⟩ ⟨1024 + (i 1 : Nat), by omega⟩))

theorem pay0 (a : Vec Ideal S512x256 .bf16) (b d : Vec Ideal S256x256 .bf16) (y : S512x256.Idx) :
    k3_pay2 a b d y = attend (fun e => a (ix2 (y 0) e)) (fun j e => b (ix2 j e)) (fun j => d (ix2 j (y 1))) := by
  unfold k3_pay2
  pointwise
  rfl

theorem pay2 (a : Vec Ideal S512x256 .bf16) (b d : Vec Ideal S256x256 .bf16) (y : S512x256.Idx) :
    k3_pay5 a b d y = attend (fun e => a (ix2 (y 0) e)) (fun j e => b (ix2 j e)) (fun j => d (ix2 j (y 1))) := by
  unfold k3_pay5
  pointwise
  rfl

theorem pay3 (a : Vec Ideal S512x256 .bf16) (b d : Vec Ideal S256x256 .bf16) (y : S512x256.Idx) :
    k3_pay1 a b d y = attend (fun e => a (ix2 (y 0) e)) (fun j e => b (ix2 j e)) (fun j => d (ix2 j (y 1))) := by
  unfold k3_pay1
  pointwise
  rfl

theorem pay34 (a : Vec Ideal S512x256 .bf16) (b d : Vec Ideal S256x256 .bf16) (y : S512x256.Idx) :
    k3_pay4 (k3_pay3 a b) d y = attend (fun e => a (ix2 (y 0) e)) (fun j e => b (ix2 j e)) (fun j => d (ix2 j (y 1))) := by
  unfold k3_pay4 k3_pay3
  pointwise
  rfl

/-- Head 0's piece of the block. -/
theorem piece0 (c : Dev nD) (t : Fin cfg3.N) (x : S512x256.Idx) :
    k3_pay2 (View.ld (iblk3 V c 0 t) r3_0) (View.ld (iblk3 V c 2 t) r3_1) (View.ld (iblk3 V c 3 t) r3_1) x
      = attended (V c main_v5) (V c main_v7) (((cfg3.win 4).blk t).view.emb (r3_2.emb x)) := by
  rw [pay0]
  have hq : ∀ t : Fin grid3.N, win3_0.index t 0 = win3_4.index t 0 ∧ win3_0.index t 1 = 3 := by decide +kernel
  have hk : ∀ t : Fin grid3.N, win3_2.index t 0 = win3_4.index t 0 / 8 ∧ win3_2.index t 1 = 0 := by decide +kernel
  have hv : ∀ t : Fin grid3.N, win3_3.index t 0 = win3_4.index t 0 / 8 ∧ win3_3.index t 1 = 1 := by decide +kernel
  have ho : ∀ t : Fin grid3.N, win3_4.index t 1 = 0 := by decide +kernel
  have x0 : (x 0 : Nat) < 512 := (x 0).isLt
  have x1 : (x 1 : Nat) < 256 := (x 1).isLt
  have e0 : ((((cfg3.win 4).blk t).view.emb (r3_2.emb x) : S8192x1024.Idx) 0 : Nat) = win3_4.index t 0 * 512 + (x 0 : Nat) := by
    blk_simp
  have e1 : ((((cfg3.win 4).blk t).view.emb (r3_2.emb x) : S8192x1024.Idx) 1 : Nat) = 0 + (x 1 : Nat) := by
    blk_simp; rw [ho t]; omega
  unfold attended
  refine congr (congrArg₂ attend (funext fun d => ?_) (funext fun j => funext fun d => ?_)) (funext fun j => ?_)
  · unfold iblk3
    show V c main_v5 (((cfg3.win 0).blk t).view.emb (r3_0.emb (ix2 (x 0) d))) = _
    refine congrArg _ (funext fun a => Fin.ext ?_)
    fin_cases a
    · blk_simp; rw [(hq t).1]
      exact e0.symm
    · blk_simp; rw [(hq t).2]
      show 3 * 512 + (d : Nat) = 1536 + 256 * ((win3_4.index t 1 * 1024 + (x 1 : Nat)) / 256) + (d : Nat)
      rw [ho t]; omega
  · unfold iblk3
    show V c main_v7 (((cfg3.win 2).blk t).view.emb (r3_1.emb (ix2 j d))) = _
    refine congrArg _ (funext fun a => Fin.ext ?_)
    fin_cases a
    · blk_simp; rw [(hk t).1]
      show win3_4.index t 0 / 8 * 256 + (j : Nat) = 256 * ((win3_4.index t 0 * 512 + (x 0 : Nat)) / 4096) + (j : Nat)
      omega
    · blk_simp; rw [(hk t).2]
      show 0 * 1024 + (d : Nat) = 256 * ((win3_4.index t 1 * 1024 + (x 1 : Nat)) / 256) + (d : Nat)
      rw [ho t]; omega
  · unfold iblk3
    show V c main_v7 (((cfg3.win 3).blk t).view.emb (r3_1.emb (ix2 j (x 1)))) = _
    refine congrArg _ (funext fun a => Fin.ext ?_)
    fin_cases a
    · blk_simp; rw [(hv t).1]
      show win3_4.index t 0 / 8 * 256 + (j : Nat) = 256 * ((win3_4.index t 0 * 512 + (x 0 : Nat)) / 4096) + (j : Nat)
      omega
    · blk_simp; rw [(hv t).2]
      show 1 * 1024 + (x 1 : Nat) = 1024 + (win3_4.index t 1 * 1024 + (x 1 : Nat))
      rw [ho t]; omega

/-- Head 1's piece of the block. -/
theorem piece1 (c : Dev nD) (t : Fin cfg3.N) (x : S512x256.Idx) :
    k3_pay4 (k3_pay3 (View.ld (iblk3 V c 0 t) r3_3) (View.ld (iblk3 V c 2 t) r3_4)) (View.ld (iblk3 V c 3 t) r3_4) x
      = attended (V c main_v5) (V c main_v7) (((cfg3.win 4).blk t).view.emb (r3_5.emb x)) := by
  rw [pay34]
  have hq : ∀ t : Fin grid3.N, win3_0.index t 0 = win3_4.index t 0 ∧ win3_0.index t 1 = 3 := by decide +kernel
  have hk : ∀ t : Fin grid3.N, win3_2.index t 0 = win3_4.index t 0 / 8 ∧ win3_2.index t 1 = 0 := by decide +kernel
  have hv : ∀ t : Fin grid3.N, win3_3.index t 0 = win3_4.index t 0 / 8 ∧ win3_3.index t 1 = 1 := by decide +kernel
  have ho : ∀ t : Fin grid3.N, win3_4.index t 1 = 0 := by decide +kernel
  have x0 : (x 0 : Nat) < 512 := (x 0).isLt
  have x1 : (x 1 : Nat) < 256 := (x 1).isLt
  have e0 : ((((cfg3.win 4).blk t).view.emb (r3_5.emb x) : S8192x1024.Idx) 0 : Nat) = win3_4.index t 0 * 512 + (x 0 : Nat) := by
    blk_simp
  have e1 : ((((cfg3.win 4).blk t).view.emb (r3_5.emb x) : S8192x1024.Idx) 1 : Nat) = 256 + (x 1 : Nat) := by
    blk_simp; rw [ho t]; omega
  unfold attended
  refine congr (congrArg₂ attend (funext fun d => ?_) (funext fun j => funext fun d => ?_)) (funext fun j => ?_)
  · unfold iblk3
    show V c main_v5 (((cfg3.win 0).blk t).view.emb (r3_3.emb (ix2 (x 0) d))) = _
    refine congrArg _ (funext fun a => Fin.ext ?_)
    fin_cases a
    · blk_simp; rw [(hq t).1]
      exact e0.symm
    · blk_simp; rw [(hq t).2]
      show 3 * 512 + (256 + (d : Nat)) = 1536 + 256 * ((win3_4.index t 1 * 1024 + (256 + (x 1 : Nat))) / 256) + (d : Nat)
      rw [ho t]; omega
  · unfold iblk3
    show V c main_v7 (((cfg3.win 2).blk t).view.emb (r3_4.emb (ix2 j d))) = _
    refine congrArg _ (funext fun a => Fin.ext ?_)
    fin_cases a
    · blk_simp; rw [(hk t).1]
      show win3_4.index t 0 / 8 * 256 + (j : Nat) = 256 * ((win3_4.index t 0 * 512 + (x 0 : Nat)) / 4096) + (j : Nat)
      omega
    · blk_simp; rw [(hk t).2]
      show 0 * 1024 + (256 + (d : Nat)) = 256 * ((win3_4.index t 1 * 1024 + (256 + (x 1 : Nat))) / 256) + (d : Nat)
      rw [ho t]; omega
  · unfold iblk3
    show V c main_v7 (((cfg3.win 3).blk t).view.emb (r3_4.emb (ix2 j (x 1)))) = _
    refine congrArg _ (funext fun a => Fin.ext ?_)
    fin_cases a
    · blk_simp; rw [(hv t).1]
      show win3_4.index t 0 / 8 * 256 + (j : Nat) = 256 * ((win3_4.index t 0 * 512 + (x 0 : Nat)) / 4096) + (j : Nat)
      omega
    · blk_simp; rw [(hv t).2]
      show 1 * 1024 + (256 + (x 1 : Nat)) = 1024 + (win3_4.index t 1 * 1024 + (256 + (x 1 : Nat)))
      rw [ho t]; omega

/-- Head 2's piece of the block. -/
theorem piece2 (c : Dev nD) (t : Fin cfg3.N) (x : S512x256.Idx) :
    k3_pay5 (View.ld (iblk3 V c 1 t) r3_0) (View.ld (iblk3 V c 2 t) r3_6) (View.ld (iblk3 V c 3 t) r3_6) x
      = attended (V c main_v5) (V c main_v7) (((cfg3.win 4).blk t).view.emb (r3_7.emb x)) := by
  rw [pay2]
  have hq : ∀ t : Fin grid3.N, win3_1.index t 0 = win3_4.index t 0 ∧ win3_1.index t 1 = 4 := by decide +kernel
  have hk : ∀ t : Fin grid3.N, win3_2.index t 0 = win3_4.index t 0 / 8 ∧ win3_2.index t 1 = 0 := by decide +kernel
  have hv : ∀ t : Fin grid3.N, win3_3.index t 0 = win3_4.index t 0 / 8 ∧ win3_3.index t 1 = 1 := by decide +kernel
  have ho : ∀ t : Fin grid3.N, win3_4.index t 1 = 0 := by decide +kernel
  have x0 : (x 0 : Nat) < 512 := (x 0).isLt
  have x1 : (x 1 : Nat) < 256 := (x 1).isLt
  have e0 : ((((cfg3.win 4).blk t).view.emb (r3_7.emb x) : S8192x1024.Idx) 0 : Nat) = win3_4.index t 0 * 512 + (x 0 : Nat) := by
    blk_simp
  have e1 : ((((cfg3.win 4).blk t).view.emb (r3_7.emb x) : S8192x1024.Idx) 1 : Nat) = 512 + (x 1 : Nat) := by
    blk_simp; rw [ho t]; omega
  unfold attended
  refine congr (congrArg₂ attend (funext fun d => ?_) (funext fun j => funext fun d => ?_)) (funext fun j => ?_)
  · unfold iblk3
    show V c main_v5 (((cfg3.win 1).blk t).view.emb (r3_0.emb (ix2 (x 0) d))) = _
    refine congrArg _ (funext fun a => Fin.ext ?_)
    fin_cases a
    · blk_simp; rw [(hq t).1]
      exact e0.symm
    · blk_simp; rw [(hq t).2]
      show 4 * 512 + (d : Nat) = 1536 + 256 * ((win3_4.index t 1 * 1024 + (512 + (x 1 : Nat))) / 256) + (d : Nat)
      rw [ho t]; omega
  · unfold iblk3
    show V c main_v7 (((cfg3.win 2).blk t).view.emb (r3_6.emb (ix2 j d))) = _
    refine congrArg _ (funext fun a => Fin.ext ?_)
    fin_cases a
    · blk_simp; rw [(hk t).1]
      show win3_4.index t 0 / 8 * 256 + (j : Nat) = 256 * ((win3_4.index t 0 * 512 + (x 0 : Nat)) / 4096) + (j : Nat)
      omega
    · blk_simp; rw [(hk t).2]
      show 0 * 1024 + (512 + (d : Nat)) = 256 * ((win3_4.index t 1 * 1024 + (512 + (x 1 : Nat))) / 256) + (d : Nat)
      rw [ho t]; omega
  · unfold iblk3
    show V c main_v7 (((cfg3.win 3).blk t).view.emb (r3_6.emb (ix2 j (x 1)))) = _
    refine congrArg _ (funext fun a => Fin.ext ?_)
    fin_cases a
    · blk_simp; rw [(hv t).1]
      show win3_4.index t 0 / 8 * 256 + (j : Nat) = 256 * ((win3_4.index t 0 * 512 + (x 0 : Nat)) / 4096) + (j : Nat)
      omega
    · blk_simp; rw [(hv t).2]
      show 1 * 1024 + (512 + (x 1 : Nat)) = 1024 + (win3_4.index t 1 * 1024 + (512 + (x 1 : Nat)))
      rw [ho t]; omega

/-- Head 3's piece of the block. -/
theorem piece3 (c : Dev nD) (t : Fin cfg3.N) (x : S512x256.Idx) :
    k3_pay1 (View.ld (iblk3 V c 1 t) r3_3) (View.ld (iblk3 V c 2 t) r3_8) (View.ld (iblk3 V c 3 t) r3_8) x
      = attended (V c main_v5) (V c main_v7) (((cfg3.win 4).blk t).view.emb (r3_9.emb x)) := by
  rw [pay3]
  have hq : ∀ t : Fin grid3.N, win3_1.index t 0 = win3_4.index t 0 ∧ win3_1.index t 1 = 4 := by decide +kernel
  have hk : ∀ t : Fin grid3.N, win3_2.index t 0 = win3_4.index t 0 / 8 ∧ win3_2.index t 1 = 0 := by decide +kernel
  have hv : ∀ t : Fin grid3.N, win3_3.index t 0 = win3_4.index t 0 / 8 ∧ win3_3.index t 1 = 1 := by decide +kernel
  have ho : ∀ t : Fin grid3.N, win3_4.index t 1 = 0 := by decide +kernel
  have x0 : (x 0 : Nat) < 512 := (x 0).isLt
  have x1 : (x 1 : Nat) < 256 := (x 1).isLt
  have e0 : ((((cfg3.win 4).blk t).view.emb (r3_9.emb x) : S8192x1024.Idx) 0 : Nat) = win3_4.index t 0 * 512 + (x 0 : Nat) := by
    blk_simp
  have e1 : ((((cfg3.win 4).blk t).view.emb (r3_9.emb x) : S8192x1024.Idx) 1 : Nat) = 768 + (x 1 : Nat) := by
    blk_simp; rw [ho t]; omega
  unfold attended
  refine congr (congrArg₂ attend (funext fun d => ?_) (funext fun j => funext fun d => ?_)) (funext fun j => ?_)
  · unfold iblk3
    show V c main_v5 (((cfg3.win 1).blk t).view.emb (r3_3.emb (ix2 (x 0) d))) = _
    refine congrArg _ (funext fun a => Fin.ext ?_)
    fin_cases a
    · blk_simp; rw [(hq t).1]
      exact e0.symm
    · blk_simp; rw [(hq t).2]
      show 4 * 512 + (256 + (d : Nat)) = 1536 + 256 * ((win3_4.index t 1 * 1024 + (768 + (x 1 : Nat))) / 256) + (d : Nat)
      rw [ho t]; omega
  · unfold iblk3
    show V c main_v7 (((cfg3.win 2).blk t).view.emb (r3_8.emb (ix2 j d))) = _
    refine congrArg _ (funext fun a => Fin.ext ?_)
    fin_cases a
    · blk_simp; rw [(hk t).1]
      show win3_4.index t 0 / 8 * 256 + (j : Nat) = 256 * ((win3_4.index t 0 * 512 + (x 0 : Nat)) / 4096) + (j : Nat)
      omega
    · blk_simp; rw [(hk t).2]
      show 0 * 1024 + (768 + (d : Nat)) = 256 * ((win3_4.index t 1 * 1024 + (768 + (x 1 : Nat))) / 256) + (d : Nat)
      rw [ho t]; omega
  · unfold iblk3
    show V c main_v7 (((cfg3.win 3).blk t).view.emb (r3_8.emb (ix2 j (x 1)))) = _
    refine congrArg _ (funext fun a => Fin.ext ?_)
    fin_cases a
    · blk_simp; rw [(hv t).1]
      show win3_4.index t 0 / 8 * 256 + (j : Nat) = 256 * ((win3_4.index t 0 * 512 + (x 0 : Nat)) / 4096) + (j : Nat)
      omega
    · blk_simp; rw [(hv t).2]
      show 1 * 1024 + (768 + (x 1 : Nat)) = 1024 + (win3_4.index t 1 * 1024 + (768 + (x 1 : Nat)))
      rw [ho t]; omega

theorem attended_final (c : Dev nD) : (dat3 V c).arrAt 4 cfg3.N = attended (V c main_v5) (V c main_v7) := by
  refine (dat3 V c).arrAt_eq_of_covers 4 _ (by decide +kernel) fun t hf y => ?_
  blk_simp
  rw [after3_4]
  unfold out3_4
  refine View.canon_apply_of_pieces (Val := Elt Ideal) (e := .bf16) (fun y => attended (V c main_v5) (V c main_v7) (((cfg3.win 4).blk t).view.emb y)) _ ?_ y (cover3_4 _ _ _ _ y)
  intro p hp
  simp only [List.mem_cons, List.not_mem_nil, or_false] at hp
  rcases hp with rfl | rfl | rfl | rfl
  · exact piece3 V c t
  · exact piece2 V c t
  · exact piece1 V c t
  · exact piece0 V c t

end Cert.KernelIdeal.Attend

end
-- ==== Proof.Merge.lean ====
/-
  The gated merge region as a function of the arrays it is entered with, at the ideal instance.
-/
module

public import proofs.«01_k».proof.Proof.Gen.KernelIdeal.Frame
public import Idealize.ShloMosaic.Lib.Pipeline.Value
public import Idealize.ShloMosaic.Lib.Pipeline.ValueKit
public import Idealize.ShloMosaic.Lib.Pointwise
public import proofs.«01_k».proof.Proof.Maths

@[expose] public section

noncomputable section

namespace Cert.KernelIdeal.Merge

open Cert.KernelIdeal Cert.KernelIdeal.Gen Cert.Maths
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The logit of gate `n` at an element: column block `n` of the projection's last 6144 columns. -/
def gateOf (p : FVec Ideal S8192x8704 .bf16) (n : Fin 3) (i : S8192x2048.Idx) : EReal :=
  have h0 : (i 0 : Nat) < 8192 := (i 0).isLt
  have h1 : (i 1 : Nat) < 2048 := (i 1).isLt
  p (ix2 (i 0) ⟨2560 + 2048 * (n : Nat) + (i 1 : Nat), by omega⟩)

/-- The gated sum of the three branches' output projections. -/
def merged (a : FVec Ideal S8192x2048 .bf16) (b d : FVec Ideal S8192x1024 .bf16) (wa : FVec Ideal S2048x2048 .f32)
    (wb wd : FVec Ideal S1024x2048 .f32) (p : FVec Ideal S8192x8704 .bf16) : FVec Ideal S8192x2048 .bf16 :=
  fun i => gate (gateOf p 0 i) * ∑ k : Fin 2048, a (ix2 (i 0) k) * wa (ix2 k (i 1))
    + gate (gateOf p 1 i) * ∑ k : Fin 1024, b (ix2 (i 0) k) * wb (ix2 k (i 1))
    + gate (gateOf p 2 i) * ∑ k : Fin 1024, d (ix2 (i 0) k) * wd (ix2 k (i 1))

theorem at0 : ∀ t : Fin grid4.N, win4_0.index t 0 = win4_9.index t 0 ∧ win4_0.index t 1 = 0 := by decide +kernel

theorem at1 : ∀ t : Fin grid4.N, win4_1.index t 0 = win4_9.index t 0 ∧ win4_1.index t 1 = 0 := by decide +kernel

theorem at2 : ∀ t : Fin grid4.N, win4_2.index t 0 = win4_9.index t 0 ∧ win4_2.index t 1 = 0 := by decide +kernel

theorem at3 : ∀ t : Fin grid4.N, win4_3.index t 0 = 0 ∧ win4_3.index t 1 = win4_9.index t 1 := by decide +kernel

theorem at4 : ∀ t : Fin grid4.N, win4_4.index t 0 = 0 ∧ win4_4.index t 1 = win4_9.index t 1 := by decide +kernel

theorem at5 : ∀ t : Fin grid4.N, win4_5.index t 0 = 0 ∧ win4_5.index t 1 = win4_9.index t 1 := by decide +kernel

theorem at6 : ∀ t : Fin grid4.N, win4_6.index t 0 = win4_9.index t 0 ∧ win4_6.index t 1 = 5 + win4_9.index t 1 := by decide +kernel

theorem at7 : ∀ t : Fin grid4.N, win4_7.index t 0 = win4_9.index t 0 ∧ win4_7.index t 1 = 9 + win4_9.index t 1 := by decide +kernel

theorem at8 : ∀ t : Fin grid4.N, win4_8.index t 0 = win4_9.index t 0 ∧ win4_8.index t 1 = 13 + win4_9.index t 1 := by decide +kernel

theorem pay0 (x0 : Vec Ideal S512x2048 .bf16) (x1 x2 : Vec Ideal S512x1024 .bf16) (x3 : Vec Ideal S2048x512 .f32)
    (x4 x5 : Vec Ideal S1024x512 .f32) (x6 x7 x8 : Vec Ideal S512x512 .bf16) (y : S512x512.Idx) :
    k4_pay10 (k4_pay5 x3 x0) (k4_pay6 x4 x1) (k4_pay7 x5 x2) (k4_pay8 x6) (k4_pay9 x7) (Scalar.ofBits .f32 0x3F800000#32) x8 y
      = gate (x6 y) * ∑ k : Fin 2048, x0 (ix2 (y 0) k) * x3 (ix2 k (y 1))
        + gate (x7 y) * ∑ k : Fin 1024, x1 (ix2 (y 0) k) * x4 (ix2 k (y 1))
        + gate (x8 y) * ∑ k : Fin 1024, x2 (ix2 (y 0) k) * x5 (ix2 k (y 1)) := by
  unfold k4_pay10 k4_pay5 k4_pay6 k4_pay7 k4_pay8 k4_pay9 k4_pay2 k4_pay3 k4_pay4
  pointwise
  rfl

theorem pay1 (x0 : Vec Ideal S512x2048 .bf16) (x1 x2 : Vec Ideal S512x1024 .bf16) (x3 : Vec Ideal S2048x512 .f32)
    (x4 x5 : Vec Ideal S1024x512 .f32) (x6 x7 x8 : Vec Ideal S512x512 .bf16) (y : S512x512.Idx) :
    k4_pay1 (k4_pay11 (k4_pay2 x3) x0) (k4_pay12 (k4_pay3 x4) x1) (k4_pay13 (k4_pay4 x5) x2) (k4_pay14 x6) x7 x8 y
      = gate (x6 y) * ∑ k : Fin 2048, x0 (ix2 (y 0) k) * x3 (ix2 k (y 1))
        + gate (x7 y) * ∑ k : Fin 1024, x1 (ix2 (y 0) k) * x4 (ix2 k (y 1))
        + gate (x8 y) * ∑ k : Fin 1024, x2 (ix2 (y 0) k) * x5 (ix2 k (y 1)) := by
  unfold k4_pay1 k4_pay11 k4_pay12 k4_pay13 k4_pay14 k4_pay2 k4_pay3 k4_pay4
  pointwise
  rfl

theorem row0 (t : Fin cfg4.N) (x : S512x512.Idx) : ((((cfg4.win 9).blk t).view.emb (r4_4.emb x) : S8192x2048.Idx) 0 : Nat) = win4_9.index t 0 * 1024 + (x 0 : Nat) := by
  blk_simp

theorem col0 (t : Fin cfg4.N) (x : S512x512.Idx) : ((((cfg4.win 9).blk t).view.emb (r4_4.emb x) : S8192x2048.Idx) 1 : Nat) = win4_9.index t 1 * 512 + (x 1 : Nat) := by
  blk_simp

theorem read0_0 (c : Dev nD) (t : Fin cfg4.N) (x : S512x512.Idx) (k : Fin 2048) :
    View.ld (iblk4 V c 0 t) r4_2 (ix2 (x 0) k) = V c main_v10 (ix2 ((((cfg4.win 9).blk t).view.emb (r4_4.emb x) : S8192x2048.Idx) 0) k) := by
  unfold iblk4
  show V c main_v10 (((cfg4.win 0).blk t).view.emb (r4_2.emb (ix2 (x 0) k))) = _
  refine congrArg _ (funext fun a => Fin.ext ?_)
  fin_cases a
  · blk_simp; rw [(at0 t).1]
    exact (row0 t x).symm
  · blk_simp; rw [(at0 t).2]; exact Nat.zero_add _

theorem read0_1 (c : Dev nD) (t : Fin cfg4.N) (x : S512x512.Idx) (k : Fin 1024) :
    View.ld (iblk4 V c 1 t) r4_3 (ix2 (x 0) k) = V c main_v12 (ix2 ((((cfg4.win 9).blk t).view.emb (r4_4.emb x) : S8192x2048.Idx) 0) k) := by
  unfold iblk4
  show V c main_v12 (((cfg4.win 1).blk t).view.emb (r4_3.emb (ix2 (x 0) k))) = _
  refine congrArg _ (funext fun a => Fin.ext ?_)
  fin_cases a
  · blk_simp; rw [(at1 t).1]
    exact (row0 t x).symm
  · blk_simp; rw [(at1 t).2]; exact Nat.zero_add _

theorem read0_2 (c : Dev nD) (t : Fin cfg4.N) (x : S512x512.Idx) (k : Fin 1024) :
    View.ld (iblk4 V c 2 t) r4_3 (ix2 (x 0) k) = V c main_v8 (ix2 ((((cfg4.win 9).blk t).view.emb (r4_4.emb x) : S8192x2048.Idx) 0) k) := by
  unfold iblk4
  show V c main_v8 (((cfg4.win 2).blk t).view.emb (r4_3.emb (ix2 (x 0) k))) = _
  refine congrArg _ (funext fun a => Fin.ext ?_)
  fin_cases a
  · blk_simp; rw [(at2 t).1]
    exact (row0 t x).symm
  · blk_simp; rw [(at2 t).2]; exact Nat.zero_add _

theorem read0_3 (c : Dev nD) (t : Fin cfg4.N) (x : S512x512.Idx) (k : Fin 2048) :
    View.ld (iblk4 V c 3 t) r4_0 (ix2 k (x 1)) = V c main_v13 (ix2 k ((((cfg4.win 9).blk t).view.emb (r4_4.emb x) : S8192x2048.Idx) 1)) := by
  unfold iblk4
  show V c main_v13 (((cfg4.win 3).blk t).view.emb (r4_0.emb (ix2 k (x 1)))) = _
  refine congrArg _ (funext fun a => Fin.ext ?_)
  fin_cases a
  · blk_simp; rw [(at3 t).1]; exact Nat.zero_add _
  · blk_simp; rw [(at3 t).2]
    exact (col0 t x).symm

theorem read0_4 (c : Dev nD) (t : Fin cfg4.N) (x : S512x512.Idx) (k : Fin 1024) :
    View.ld (iblk4 V c 4 t) r4_1 (ix2 k (x 1)) = V c main_v14 (ix2 k ((((cfg4.win 9).blk t).view.emb (r4_4.emb x) : S8192x2048.Idx) 1)) := by
  unfold iblk4
  show V c main_v14 (((cfg4.win 4).blk t).view.emb (r4_1.emb (ix2 k (x 1)))) = _
  refine congrArg _ (funext fun a => Fin.ext ?_)
  fin_cases a
  · blk_simp; rw [(at4 t).1]; exact Nat.zero_add _
  · blk_simp; rw [(at4 t).2]
    exact (col0 t x).symm

theorem read0_5 (c : Dev nD) (t : Fin cfg4.N) (x : S512x512.Idx) (k : Fin 1024) :
    View.ld (iblk4 V c 5 t) r4_1 (ix2 k (x 1)) = V c main_v15 (ix2 k ((((cfg4.win 9).blk t).view.emb (r4_4.emb x) : S8192x2048.Idx) 1)) := by
  unfold iblk4
  show V c main_v15 (((cfg4.win 5).blk t).view.emb (r4_1.emb (ix2 k (x 1)))) = _
  refine congrArg _ (funext fun a => Fin.ext ?_)
  fin_cases a
  · blk_simp; rw [(at5 t).1]; exact Nat.zero_add _
  · blk_simp; rw [(at5 t).2]
    exact (col0 t x).symm

theorem read0_6 (c : Dev nD) (t : Fin cfg4.N) (x : S512x512.Idx) :
    View.ld (iblk4 V c 6 t) r4_4 x = gateOf (V c main_v5) 0 (((cfg4.win 9).blk t).view.emb (r4_4.emb x) : S8192x2048.Idx) := by
  unfold iblk4 gateOf
  show V c main_v5 (((cfg4.win 6).blk t).view.emb (r4_4.emb x)) = _
  refine congrArg _ (funext fun a => Fin.ext ?_)
  have l0 : (((cfg4.win 6).blk t).view.emb (r4_4.emb x) 0 : Nat) = win4_9.index t 0 * 1024 + (x 0 : Nat) := by
    blk_simp; rw [(at6 t).1]
  have l1 : (((cfg4.win 6).blk t).view.emb (r4_4.emb x) 1 : Nat) = (5 + win4_9.index t 1) * 512 + (x 1 : Nat) := by
    blk_simp; rw [(at6 t).2]
  fin_cases a
  · exact l0.trans (row0 t x).symm
  · refine l1.trans ?_
    show _ = 2560 + 2048 * 0 + ((((cfg4.win 9).blk t).view.emb (r4_4.emb x) : S8192x2048.Idx) 1 : Nat)
    rw [col0 t x]; omega

theorem read0_7 (c : Dev nD) (t : Fin cfg4.N) (x : S512x512.Idx) :
    View.ld (iblk4 V c 7 t) r4_4 x = gateOf (V c main_v5) 1 (((cfg4.win 9).blk t).view.emb (r4_4.emb x) : S8192x2048.Idx) := by
  unfold iblk4 gateOf
  show V c main_v5 (((cfg4.win 7).blk t).view.emb (r4_4.emb x)) = _
  refine congrArg _ (funext fun a => Fin.ext ?_)
  have l0 : (((cfg4.win 7).blk t).view.emb (r4_4.emb x) 0 : Nat) = win4_9.index t 0 * 1024 + (x 0 : Nat) := by
    blk_simp; rw [(at7 t).1]
  have l1 : (((cfg4.win 7).blk t).view.emb (r4_4.emb x) 1 : Nat) = (9 + win4_9.index t 1) * 512 + (x 1 : Nat) := by
    blk_simp; rw [(at7 t).2]
  fin_cases a
  · exact l0.trans (row0 t x).symm
  · refine l1.trans ?_
    show _ = 2560 + 2048 * 1 + ((((cfg4.win 9).blk t).view.emb (r4_4.emb x) : S8192x2048.Idx) 1 : Nat)
    rw [col0 t x]; omega

theorem read0_8 (c : Dev nD) (t : Fin cfg4.N) (x : S512x512.Idx) :
    View.ld (iblk4 V c 8 t) r4_4 x = gateOf (V c main_v5) 2 (((cfg4.win 9).blk t).view.emb (r4_4.emb x) : S8192x2048.Idx) := by
  unfold iblk4 gateOf
  show V c main_v5 (((cfg4.win 8).blk t).view.emb (r4_4.emb x)) = _
  refine congrArg _ (funext fun a => Fin.ext ?_)
  have l0 : (((cfg4.win 8).blk t).view.emb (r4_4.emb x) 0 : Nat) = win4_9.index t 0 * 1024 + (x 0 : Nat) := by
    blk_simp; rw [(at8 t).1]
  have l1 : (((cfg4.win 8).blk t).view.emb (r4_4.emb x) 1 : Nat) = (13 + win4_9.index t 1) * 512 + (x 1 : Nat) := by
    blk_simp; rw [(at8 t).2]
  fin_cases a
  · exact l0.trans (row0 t x).symm
  · refine l1.trans ?_
    show _ = 2560 + 2048 * 2 + ((((cfg4.win 9).blk t).view.emb (r4_4.emb x) : S8192x2048.Idx) 1 : Nat)
    rw [col0 t x]; omega

/-- Rows 0 to 511 of the block. -/
theorem piece0 (c : Dev nD) (t : Fin cfg4.N) (x : S512x512.Idx) :
    k4_pay10 (k4_pay5 (View.ld (iblk4 V c 3 t) r4_0) (View.ld (iblk4 V c 0 t) r4_2)) (k4_pay6 (View.ld (iblk4 V c 4 t) r4_1) (View.ld (iblk4 V c 1 t) r4_3)) (k4_pay7 (View.ld (iblk4 V c 5 t) r4_1) (View.ld (iblk4 V c 2 t) r4_3)) (k4_pay8 (View.ld (iblk4 V c 6 t) r4_4)) (k4_pay9 (View.ld (iblk4 V c 7 t) r4_4)) (Scalar.ofBits .f32 0x3F800000#32) (View.ld (iblk4 V c 8 t) r4_4) x
      = merged (V c main_v10) (V c main_v12) (V c main_v8) (V c main_v13) (V c main_v14) (V c main_v15) (V c main_v5)
          (((cfg4.win 9).blk t).view.emb (r4_4.emb x)) := by
  rw [pay0]
  simp only [read0_0, read0_1, read0_2, read0_3, read0_4, read0_5, read0_6, read0_7, read0_8]
  rfl

theorem row1 (t : Fin cfg4.N) (x : S512x512.Idx) : ((((cfg4.win 9).blk t).view.emb (r4_7.emb x) : S8192x2048.Idx) 0 : Nat) = win4_9.index t 0 * 1024 + (512 + (x 0 : Nat)) := by
  blk_simp

theorem col1 (t : Fin cfg4.N) (x : S512x512.Idx) : ((((cfg4.win 9).blk t).view.emb (r4_7.emb x) : S8192x2048.Idx) 1 : Nat) = win4_9.index t 1 * 512 + (x 1 : Nat) := by
  blk_simp

theorem read1_0 (c : Dev nD) (t : Fin cfg4.N) (x : S512x512.Idx) (k : Fin 2048) :
    View.ld (iblk4 V c 0 t) r4_5 (ix2 (x 0) k) = V c main_v10 (ix2 ((((cfg4.win 9).blk t).view.emb (r4_7.emb x) : S8192x2048.Idx) 0) k) := by
  unfold iblk4
  show V c main_v10 (((cfg4.win 0).blk t).view.emb (r4_5.emb (ix2 (x 0) k))) = _
  refine congrArg _ (funext fun a => Fin.ext ?_)
  fin_cases a
  · blk_simp; rw [(at0 t).1]
    exact (row1 t x).symm
  · blk_simp; rw [(at0 t).2]; exact Nat.zero_add _

theorem read1_1 (c : Dev nD) (t : Fin cfg4.N) (x : S512x512.Idx) (k : Fin 1024) :
    View.ld (iblk4 V c 1 t) r4_6 (ix2 (x 0) k) = V c main_v12 (ix2 ((((cfg4.win 9).blk t).view.emb (r4_7.emb x) : S8192x2048.Idx) 0) k) := by
  unfold iblk4
  show V c main_v12 (((cfg4.win 1).blk t).view.emb (r4_6.emb (ix2 (x 0) k))) = _
  refine congrArg _ (funext fun a => Fin.ext ?_)
  fin_cases a
  · blk_simp; rw [(at1 t).1]
    exact (row1 t x).symm
  · blk_simp; rw [(at1 t).2]; exact Nat.zero_add _

theorem read1_2 (c : Dev nD) (t : Fin cfg4.N) (x : S512x512.Idx) (k : Fin 1024) :
    View.ld (iblk4 V c 2 t) r4_6 (ix2 (x 0) k) = V c main_v8 (ix2 ((((cfg4.win 9).blk t).view.emb (r4_7.emb x) : S8192x2048.Idx) 0) k) := by
  unfold iblk4
  show V c main_v8 (((cfg4.win 2).blk t).view.emb (r4_6.emb (ix2 (x 0) k))) = _
  refine congrArg _ (funext fun a => Fin.ext ?_)
  fin_cases a
  · blk_simp; rw [(at2 t).1]
    exact (row1 t x).symm
  · blk_simp; rw [(at2 t).2]; exact Nat.zero_add _

theorem read1_3 (c : Dev nD) (t : Fin cfg4.N) (x : S512x512.Idx) (k : Fin 2048) :
    View.ld (iblk4 V c 3 t) r4_0 (ix2 k (x 1)) = V c main_v13 (ix2 k ((((cfg4.win 9).blk t).view.emb (r4_7.emb x) : S8192x2048.Idx) 1)) := by
  unfold iblk4
  show V c main_v13 (((cfg4.win 3).blk t).view.emb (r4_0.emb (ix2 k (x 1)))) = _
  refine congrArg _ (funext fun a => Fin.ext ?_)
  fin_cases a
  · blk_simp; rw [(at3 t).1]; exact Nat.zero_add _
  · blk_simp; rw [(at3 t).2]
    exact (col1 t x).symm

theorem read1_4 (c : Dev nD) (t : Fin cfg4.N) (x : S512x512.Idx) (k : Fin 1024) :
    View.ld (iblk4 V c 4 t) r4_1 (ix2 k (x 1)) = V c main_v14 (ix2 k ((((cfg4.win 9).blk t).view.emb (r4_7.emb x) : S8192x2048.Idx) 1)) := by
  unfold iblk4
  show V c main_v14 (((cfg4.win 4).blk t).view.emb (r4_1.emb (ix2 k (x 1)))) = _
  refine congrArg _ (funext fun a => Fin.ext ?_)
  fin_cases a
  · blk_simp; rw [(at4 t).1]; exact Nat.zero_add _
  · blk_simp; rw [(at4 t).2]
    exact (col1 t x).symm

theorem read1_5 (c : Dev nD) (t : Fin cfg4.N) (x : S512x512.Idx) (k : Fin 1024) :
    View.ld (iblk4 V c 5 t) r4_1 (ix2 k (x 1)) = V c main_v15 (ix2 k ((((cfg4.win 9).blk t).view.emb (r4_7.emb x) : S8192x2048.Idx) 1)) := by
  unfold iblk4
  show V c main_v15 (((cfg4.win 5).blk t).view.emb (r4_1.emb (ix2 k (x 1)))) = _
  refine congrArg _ (funext fun a => Fin.ext ?_)
  fin_cases a
  · blk_simp; rw [(at5 t).1]; exact Nat.zero_add _
  · blk_simp; rw [(at5 t).2]
    exact (col1 t x).symm

theorem read1_6 (c : Dev nD) (t : Fin cfg4.N) (x : S512x512.Idx) :
    View.ld (iblk4 V c 6 t) r4_7 x = gateOf (V c main_v5) 0 (((cfg4.win 9).blk t).view.emb (r4_7.emb x) : S8192x2048.Idx) := by
  unfold iblk4 gateOf
  show V c main_v5 (((cfg4.win 6).blk t).view.emb (r4_7.emb x)) = _
  refine congrArg _ (funext fun a => Fin.ext ?_)
  have l0 : (((cfg4.win 6).blk t).view.emb (r4_7.emb x) 0 : Nat) = win4_9.index t 0 * 1024 + (512 + (x 0 : Nat)) := by
    blk_simp; rw [(at6 t).1]
  have l1 : (((cfg4.win 6).blk t).view.emb (r4_7.emb x) 1 : Nat) = (5 + win4_9.index t 1) * 512 + (x 1 : Nat) := by
    blk_simp; rw [(at6 t).2]
  fin_cases a
  · exact l0.trans (row1 t x).symm
  · refine l1.trans ?_
    show _ = 2560 + 2048 * 0 + ((((cfg4.win 9).blk t).view.emb (r4_7.emb x) : S8192x2048.Idx) 1 : Nat)
    rw [col1 t x]; omega

theorem read1_7 (c : Dev nD) (t : Fin cfg4.N) (x : S512x512.Idx) :
    View.ld (iblk4 V c 7 t) r4_7 x = gateOf (V c main_v5) 1 (((cfg4.win 9).blk t).view.emb (r4_7.emb x) : S8192x2048.Idx) := by
  unfold iblk4 gateOf
  show V c main_v5 (((cfg4.win 7).blk t).view.emb (r4_7.emb x)) = _
  refine congrArg _ (funext fun a => Fin.ext ?_)
  have l0 : (((cfg4.win 7).blk t).view.emb (r4_7.emb x) 0 : Nat) = win4_9.index t 0 * 1024 + (512 + (x 0 : Nat)) := by
    blk_simp; rw [(at7 t).1]
  have l1 : (((cfg4.win 7).blk t).view.emb (r4_7.emb x) 1 : Nat) = (9 + win4_9.index t 1) * 512 + (x 1 : Nat) := by
    blk_simp; rw [(at7 t).2]
  fin_cases a
  · exact l0.trans (row1 t x).symm
  · refine l1.trans ?_
    show _ = 2560 + 2048 * 1 + ((((cfg4.win 9).blk t).view.emb (r4_7.emb x) : S8192x2048.Idx) 1 : Nat)
    rw [col1 t x]; omega

theorem read1_8 (c : Dev nD) (t : Fin cfg4.N) (x : S512x512.Idx) :
    View.ld (iblk4 V c 8 t) r4_7 x = gateOf (V c main_v5) 2 (((cfg4.win 9).blk t).view.emb (r4_7.emb x) : S8192x2048.Idx) := by
  unfold iblk4 gateOf
  show V c main_v5 (((cfg4.win 8).blk t).view.emb (r4_7.emb x)) = _
  refine congrArg _ (funext fun a => Fin.ext ?_)
  have l0 : (((cfg4.win 8).blk t).view.emb (r4_7.emb x) 0 : Nat) = win4_9.index t 0 * 1024 + (512 + (x 0 : Nat)) := by
    blk_simp; rw [(at8 t).1]
  have l1 : (((cfg4.win 8).blk t).view.emb (r4_7.emb x) 1 : Nat) = (13 + win4_9.index t 1) * 512 + (x 1 : Nat) := by
    blk_simp; rw [(at8 t).2]
  fin_cases a
  · exact l0.trans (row1 t x).symm
  · refine l1.trans ?_
    show _ = 2560 + 2048 * 2 + ((((cfg4.win 9).blk t).view.emb (r4_7.emb x) : S8192x2048.Idx) 1 : Nat)
    rw [col1 t x]; omega

/-- Rows 512 to 1023 of the block. -/
theorem piece1 (c : Dev nD) (t : Fin cfg4.N) (x : S512x512.Idx) :
    k4_pay1 (k4_pay11 (k4_pay2 (View.ld (iblk4 V c 3 t) r4_0)) (View.ld (iblk4 V c 0 t) r4_5)) (k4_pay12 (k4_pay3 (View.ld (iblk4 V c 4 t) r4_1)) (View.ld (iblk4 V c 1 t) r4_6)) (k4_pay13 (k4_pay4 (View.ld (iblk4 V c 5 t) r4_1)) (View.ld (iblk4 V c 2 t) r4_6)) (k4_pay14 (View.ld (iblk4 V c 6 t) r4_7)) (View.ld (iblk4 V c 7 t) r4_7) (View.ld (iblk4 V c 8 t) r4_7) x
      = merged (V c main_v10) (V c main_v12) (V c main_v8) (V c main_v13) (V c main_v14) (V c main_v15) (V c main_v5)
          (((cfg4.win 9).blk t).view.emb (r4_7.emb x)) := by
  rw [pay1]
  simp only [read1_0, read1_1, read1_2, read1_3, read1_4, read1_5, read1_6, read1_7, read1_8]
  rfl

theorem merged_final (c : Dev nD) : (dat4 V c).arrAt 9 cfg4.N
    = merged (V c main_v10) (V c main_v12) (V c main_v8) (V c main_v13) (V c main_v14) (V c main_v15) (V c main_v5) := by
  refine (dat4 V c).arrAt_eq_of_covers 9 _ (by decide +kernel) fun t hf y => ?_
  blk_simp
  rw [after4_9]
  unfold out4_9
  refine View.canon_apply_of_pieces (Val := Elt Ideal) (e := .bf16) (fun y => merged (V c main_v10) (V c main_v12) (V c main_v8)
    (V c main_v13) (V c main_v14) (V c main_v15) (V c main_v5) (((cfg4.win 9).blk t).view.emb y)) _ ?_ y (cover4_9 _ _ y)
  intro p hp
  simp only [List.mem_cons, List.not_mem_nil, or_false] at hp
  rcases hp with rfl | rfl
  · exact piece1 V c t
  · exact piece0 V c t

end Cert.KernelIdeal.Merge

end
-- ==== Proof.OutNorm.lean ====
/-
  The output projection with residual and layer norm as a function of the arrays it is entered with, at the ideal instance.
-/
module

public import proofs.«01_k».proof.Proof.Gen.KernelIdeal.Frame
public import Idealize.ShloMosaic.Lib.Pipeline.Value
public import Idealize.ShloMosaic.Lib.Pipeline.ValueKit
public import Idealize.ShloMosaic.Lib.Pointwise
public import proofs.«01_k».proof.Proof.Maths

@[expose] public section

noncomputable section

namespace Cert.KernelIdeal.OutNorm

open Cert.KernelIdeal Cert.KernelIdeal.Gen Cert.Maths
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- A row of the block's residual sum. -/
def resid (a : FVec Ideal S8192x2048 .bf16) (w : FVec Ideal S2048x2048 .bf16) (x : FVec Ideal S8192x2048 .f32) (r : Fin 8192) (j : Fin 2048) : EReal :=
  alpha * x (ix2 r j) + ∑ k : Fin 2048, a (ix2 r k) * w (ix2 k j)

/-- The normalized residual sum. -/
def outRow (a : FVec Ideal S8192x2048 .bf16) (w : FVec Ideal S2048x2048 .bf16) (x : FVec Ideal S8192x2048 .f32)
    (g b : FVec Ideal S1x2048 .f32) (i : S8192x2048.Idx) : EReal :=
  normed (resid a w x (i 0)) (g (ix2 0 (i 1))) (b (ix2 0 (i 1))) (i 1)

theorem at0 : ∀ t : Fin grid5.N, win5_0.index t 0 = win5_5.index t 0 ∧ win5_0.index t 1 = 0 := by decide +kernel
theorem at1 : ∀ t : Fin grid5.N, win5_1.index t 0 = 0 ∧ win5_1.index t 1 = 0 := by decide +kernel
theorem at2 : ∀ t : Fin grid5.N, win5_2.index t 0 = win5_5.index t 0 ∧ win5_2.index t 1 = 0 := by decide +kernel
theorem at3 : ∀ t : Fin grid5.N, win5_3.index t 0 = 0 ∧ win5_3.index t 1 = 0 := by decide +kernel
theorem at4 : ∀ t : Fin grid5.N, win5_4.index t 0 = 0 ∧ win5_4.index t 1 = 0 := by decide +kernel
theorem at5 : ∀ t : Fin grid5.N, win5_5.index t 1 = 0 := by decide +kernel
theorem at6 : ∀ t : Fin grid5.N, win5_6.index t 0 = win5_5.index t 0 ∧ win5_6.index t 1 = 0 := by decide +kernel

theorem fix1 (c : Dev nD) (t : Fin cfg5.N) (k j : Fin 2048) : View.ld (iblk5 V c 1 t) r5_1 (ix2 k j) = V c main_v18 (ix2 k j) := by
  unfold iblk5
  show V c main_v18 (((cfg5.win 1).blk t).view.emb (r5_1.emb (ix2 k j))) = _
  refine congrArg _ (funext fun a => Fin.ext ?_)
  fin_cases a
  · blk_simp; rw [(at1 t).1]; exact Nat.zero_add _
  · blk_simp; rw [(at1 t).2]; exact Nat.zero_add _

theorem fix3 (c : Dev nD) (t : Fin cfg5.N) (j : Fin 2048) : View.ld (iblk5 V c 3 t) r5_2 (ix2 0 j) = V c main_v20 (ix2 0 j) := by
  unfold iblk5
  show V c main_v20 (((cfg5.win 3).blk t).view.emb (r5_2.emb (ix2 0 j))) = _
  refine congrArg _ (funext fun a => Fin.ext ?_)
  fin_cases a
  · blk_simp; rw [(at3 t).1]
  · blk_simp; rw [(at3 t).2]; exact Nat.zero_add _

theorem fix4 (c : Dev nD) (t : Fin cfg5.N) (j : Fin 2048) : View.ld (iblk5 V c 4 t) r5_2 (ix2 0 j) = V c main_v22 (ix2 0 j) := by
  unfold iblk5
  show V c main_v22 (((cfg5.win 4).blk t).view.emb (r5_2.emb (ix2 0 j))) = _
  refine congrArg _ (funext fun a => Fin.ext ?_)
  fin_cases a
  · blk_simp; rw [(at4 t).1]
  · blk_simp; rw [(at4 t).2]; exact Nat.zero_add _

theorem pay0 (a : Vec Ideal S128x2048 .bf16) (w : Vec Ideal S2048x2048 .bf16) (x : Vec Ideal S128x2048 .f32) (g b : Vec Ideal S1x2048 .f32)
    (y : S128x2048.Idx) : k5_pay1 a w x g b y
      = normed (fun j => alpha * x (ix2 (y 0) j) + ∑ k : Fin 2048, a (ix2 (y 0) k) * w (ix2 k j)) (g (ix2 0 (y 1))) (b (ix2 0 (y 1))) (y 1) := by
  obtain ⟨p, q, rfl⟩ : ∃ p q, y = ix2 p q := ⟨y 0, y 1, by funext a; fin_cases a <;> rfl⟩
  unfold k5_pay1
  pointwise
  rfl

theorem row0 (t : Fin cfg5.N) (x : S128x2048.Idx) : ((((cfg5.win 5).blk t).view.emb (r5_0.emb x) : S8192x2048.Idx) 0 : Nat) = win5_5.index t 0 * 512 + (x 0 : Nat) := by
  blk_simp

theorem read0_0 (c : Dev nD) (t : Fin cfg5.N) (x : S128x2048.Idx) (k : Fin 2048) :
    View.ld (iblk5 V c 0 t) r5_0 (ix2 (x 0) k) = V c main_v16 (ix2 ((((cfg5.win 5).blk t).view.emb (r5_0.emb x) : S8192x2048.Idx) 0) k) := by
  unfold iblk5
  show V c main_v16 (((cfg5.win 0).blk t).view.emb (r5_0.emb (ix2 (x 0) k))) = _
  refine congrArg _ (funext fun a => Fin.ext ?_)
  fin_cases a
  · blk_simp; rw [(at0 t).1]
    exact (row0 t x).symm
  · blk_simp; rw [(at0 t).2]; exact Nat.zero_add _

theorem read0_2 (c : Dev nD) (t : Fin cfg5.N) (x : S128x2048.Idx) (k : Fin 2048) :
    View.ld (iblk5 V c 2 t) r5_0 (ix2 (x 0) k) = V c main_v0 (ix2 ((((cfg5.win 5).blk t).view.emb (r5_0.emb x) : S8192x2048.Idx) 0) k) := by
  unfold iblk5
  show V c main_v0 (((cfg5.win 2).blk t).view.emb (r5_0.emb (ix2 (x 0) k))) = _
  refine congrArg _ (funext fun a => Fin.ext ?_)
  fin_cases a
  · blk_simp; rw [(at2 t).1]
    exact (row0 t x).symm
  · blk_simp; rw [(at2 t).2]; exact Nat.zero_add _

/-- Rows 0 to 127 of the block. -/
theorem piece0 (c : Dev nD) (t : Fin cfg5.N) (x : S128x2048.Idx) :
    k5_pay1 (View.ld (iblk5 V c 0 t) r5_0) (View.ld (iblk5 V c 1 t) r5_1) (View.ld (iblk5 V c 2 t) r5_0) (View.ld (iblk5 V c 3 t) r5_2) (View.ld (iblk5 V c 4 t) r5_2) x
      = outRow (V c main_v16) (V c main_v18) (V c main_v0) (V c main_v20) (V c main_v22) (((cfg5.win 5).blk t).view.emb (r5_0.emb x) : S8192x2048.Idx) := by
  have e : ((((cfg5.win 5).blk t).view.emb (r5_0.emb x) : S8192x2048.Idx) 1 : Fin 2048) = x 1 := Fin.ext (by blk_simp; rw [at5 t]; exact Nat.zero_add _)
  rw [pay0]
  rw [show View.ld (iblk5 V c 3 t) r5_2 (ix2 0 (x 1)) = _ from fix3 V c t (x 1), show View.ld (iblk5 V c 4 t) r5_2 (ix2 0 (x 1)) = _ from fix4 V c t (x 1)]
  simp only [read0_0, read0_2, fix1]
  unfold outRow
  rw [e]
  rfl

theorem piece0b (c : Dev nD) (t : Fin cfg5.N) (x : S128x2048.Idx) :
    k5_pay2 (View.ld (iblk5 V c 0 t) r5_0) (View.ld (iblk5 V c 1 t) r5_1) (View.ld (iblk5 V c 2 t) r5_0) (View.ld (iblk5 V c 3 t) r5_2) (View.ld (iblk5 V c 4 t) r5_2) x
      = outRow (V c main_v16) (V c main_v18) (V c main_v0) (V c main_v20) (V c main_v22) (((cfg5.win 6).blk t).view.emb (r5_0.emb x) : S8192x2048.Idx) := by
  have e : (((cfg5.win 6).blk t).view.emb (r5_0.emb x) : S8192x2048.Idx) = (((cfg5.win 5).blk t).view.emb (r5_0.emb x) : S8192x2048.Idx) := by
    refine funext fun a => Fin.ext ?_
    fin_cases a
    · blk_simp; rw [(at6 t).1]
    · blk_simp; rw [(at6 t).2, at5 t]
  rw [e]
  exact piece0 V c t x

theorem pay1 (a : Vec Ideal S128x2048 .bf16) (w : Vec Ideal S2048x2048 .bf16) (x : Vec Ideal S128x2048 .f32) (g b : Vec Ideal S1x2048 .f32)
    (y : S128x2048.Idx) : k5_pay3 a w x g b y
      = normed (fun j => alpha * x (ix2 (y 0) j) + ∑ k : Fin 2048, a (ix2 (y 0) k) * w (ix2 k j)) (g (ix2 0 (y 1))) (b (ix2 0 (y 1))) (y 1) := by
  obtain ⟨p, q, rfl⟩ : ∃ p q, y = ix2 p q := ⟨y 0, y 1, by funext a; fin_cases a <;> rfl⟩
  unfold k5_pay3
  pointwise
  rfl

theorem row1 (t : Fin cfg5.N) (x : S128x2048.Idx) : ((((cfg5.win 5).blk t).view.emb (r5_3.emb x) : S8192x2048.Idx) 0 : Nat) = win5_5.index t 0 * 512 + (128 + (x 0 : Nat)) := by
  blk_simp

theorem read1_0 (c : Dev nD) (t : Fin cfg5.N) (x : S128x2048.Idx) (k : Fin 2048) :
    View.ld (iblk5 V c 0 t) r5_3 (ix2 (x 0) k) = V c main_v16 (ix2 ((((cfg5.win 5).blk t).view.emb (r5_3.emb x) : S8192x2048.Idx) 0) k) := by
  unfold iblk5
  show V c main_v16 (((cfg5.win 0).blk t).view.emb (r5_3.emb (ix2 (x 0) k))) = _
  refine congrArg _ (funext fun a => Fin.ext ?_)
  fin_cases a
  · blk_simp; rw [(at0 t).1]
    exact (row1 t x).symm
  · blk_simp; rw [(at0 t).2]; exact Nat.zero_add _

theorem read1_2 (c : Dev nD) (t : Fin cfg5.N) (x : S128x2048.Idx) (k : Fin 2048) :
    View.ld (iblk5 V c 2 t) r5_3 (ix2 (x 0) k) = V c main_v0 (ix2 ((((cfg5.win 5).blk t).view.emb (r5_3.emb x) : S8192x2048.Idx) 0) k) := by
  unfold iblk5
  show V c main_v0 (((cfg5.win 2).blk t).view.emb (r5_3.emb (ix2 (x 0) k))) = _
  refine congrArg _ (funext fun a => Fin.ext ?_)
  fin_cases a
  · blk_simp; rw [(at2 t).1]
    exact (row1 t x).symm
  · blk_simp; rw [(at2 t).2]; exact Nat.zero_add _

/-- Rows 128 to 255 of the block. -/
theorem piece1 (c : Dev nD) (t : Fin cfg5.N) (x : S128x2048.Idx) :
    k5_pay3 (View.ld (iblk5 V c 0 t) r5_3) (View.ld (iblk5 V c 1 t) r5_1) (View.ld (iblk5 V c 2 t) r5_3) (View.ld (iblk5 V c 3 t) r5_2) (View.ld (iblk5 V c 4 t) r5_2) x
      = outRow (V c main_v16) (V c main_v18) (V c main_v0) (V c main_v20) (V c main_v22) (((cfg5.win 5).blk t).view.emb (r5_3.emb x) : S8192x2048.Idx) := by
  have e : ((((cfg5.win 5).blk t).view.emb (r5_3.emb x) : S8192x2048.Idx) 1 : Fin 2048) = x 1 := Fin.ext (by blk_simp; rw [at5 t]; exact Nat.zero_add _)
  rw [pay1]
  rw [show View.ld (iblk5 V c 3 t) r5_2 (ix2 0 (x 1)) = _ from fix3 V c t (x 1), show View.ld (iblk5 V c 4 t) r5_2 (ix2 0 (x 1)) = _ from fix4 V c t (x 1)]
  simp only [read1_0, read1_2, fix1]
  unfold outRow
  rw [e]
  rfl

theorem piece1b (c : Dev nD) (t : Fin cfg5.N) (x : S128x2048.Idx) :
    k5_pay4 (View.ld (iblk5 V c 0 t) r5_3) (View.ld (iblk5 V c 1 t) r5_1) (View.ld (iblk5 V c 2 t) r5_3) (View.ld (iblk5 V c 3 t) r5_2) (View.ld (iblk5 V c 4 t) r5_2) x
      = outRow (V c main_v16) (V c main_v18) (V c main_v0) (V c main_v20) (V c main_v22) (((cfg5.win 6).blk t).view.emb (r5_3.emb x) : S8192x2048.Idx) := by
  have e : (((cfg5.win 6).blk t).view.emb (r5_3.emb x) : S8192x2048.Idx) = (((cfg5.win 5).blk t).view.emb (r5_3.emb x) : S8192x2048.Idx) := by
    refine funext fun a => Fin.ext ?_
    fin_cases a
    · blk_simp; rw [(at6 t).1]
    · blk_simp; rw [(at6 t).2, at5 t]
  rw [e]
  exact piece1 V c t x

theorem pay2 (a : Vec Ideal S128x2048 .bf16) (w : Vec Ideal S2048x2048 .bf16) (x : Vec Ideal S128x2048 .f32) (g b : Vec Ideal S1x2048 .f32)
    (y : S128x2048.Idx) : k5_pay5 a w x g b y
      = normed (fun j => alpha * x (ix2 (y 0) j) + ∑ k : Fin 2048, a (ix2 (y 0) k) * w (ix2 k j)) (g (ix2 0 (y 1))) (b (ix2 0 (y 1))) (y 1) := by
  obtain ⟨p, q, rfl⟩ : ∃ p q, y = ix2 p q := ⟨y 0, y 1, by funext a; fin_cases a <;> rfl⟩
  unfold k5_pay5
  pointwise
  rfl

theorem row2 (t : Fin cfg5.N) (x : S128x2048.Idx) : ((((cfg5.win 5).blk t).view.emb (r5_4.emb x) : S8192x2048.Idx) 0 : Nat) = win5_5.index t 0 * 512 + (256 + (x 0 : Nat)) := by
  blk_simp

theorem read2_0 (c : Dev nD) (t : Fin cfg5.N) (x : S128x2048.Idx) (k : Fin 2048) :
    View.ld (iblk5 V c 0 t) r5_4 (ix2 (x 0) k) = V c main_v16 (ix2 ((((cfg5.win 5).blk t).view.emb (r5_4.emb x) : S8192x2048.Idx) 0) k) := by
  unfold iblk5
  show V c main_v16 (((cfg5.win 0).blk t).view.emb (r5_4.emb (ix2 (x 0) k))) = _
  refine congrArg _ (funext fun a => Fin.ext ?_)
  fin_cases a
  · blk_simp; rw [(at0 t).1]
    exact (row2 t x).symm
  · blk_simp; rw [(at0 t).2]; exact Nat.zero_add _

theorem read2_2 (c : Dev nD) (t : Fin cfg5.N) (x : S128x2048.Idx) (k : Fin 2048) :
    View.ld (iblk5 V c 2 t) r5_4 (ix2 (x 0) k) = V c main_v0 (ix2 ((((cfg5.win 5).blk t).view.emb (r5_4.emb x) : S8192x2048.Idx) 0) k) := by
  unfold iblk5
  show V c main_v0 (((cfg5.win 2).blk t).view.emb (r5_4.emb (ix2 (x 0) k))) = _
  refine congrArg _ (funext fun a => Fin.ext ?_)
  fin_cases a
  · blk_simp; rw [(at2 t).1]
    exact (row2 t x).symm
  · blk_simp; rw [(at2 t).2]; exact Nat.zero_add _

/-- Rows 256 to 383 of the block. -/
theorem piece2 (c : Dev nD) (t : Fin cfg5.N) (x : S128x2048.Idx) :
    k5_pay5 (View.ld (iblk5 V c 0 t) r5_4) (View.ld (iblk5 V c 1 t) r5_1) (View.ld (iblk5 V c 2 t) r5_4) (View.ld (iblk5 V c 3 t) r5_2) (View.ld (iblk5 V c 4 t) r5_2) x
      = outRow (V c main_v16) (V c main_v18) (V c main_v0) (V c main_v20) (V c main_v22) (((cfg5.win 5).blk t).view.emb (r5_4.emb x) : S8192x2048.Idx) := by
  have e : ((((cfg5.win 5).blk t).view.emb (r5_4.emb x) : S8192x2048.Idx) 1 : Fin 2048) = x 1 := Fin.ext (by blk_simp; rw [at5 t]; exact Nat.zero_add _)
  rw [pay2]
  rw [show View.ld (iblk5 V c 3 t) r5_2 (ix2 0 (x 1)) = _ from fix3 V c t (x 1), show View.ld (iblk5 V c 4 t) r5_2 (ix2 0 (x 1)) = _ from fix4 V c t (x 1)]
  simp only [read2_0, read2_2, fix1]
  unfold outRow
  rw [e]
  rfl

theorem piece2b (c : Dev nD) (t : Fin cfg5.N) (x : S128x2048.Idx) :
    k5_pay6 (View.ld (iblk5 V c 0 t) r5_4) (View.ld (iblk5 V c 1 t) r5_1) (View.ld (iblk5 V c 2 t) r5_4) (View.ld (iblk5 V c 3 t) r5_2) (View.ld (iblk5 V c 4 t) r5_2) x
      = outRow (V c main_v16) (V c main_v18) (V c main_v0) (V c main_v20) (V c main_v22) (((cfg5.win 6).blk t).view.emb (r5_4.emb x) : S8192x2048.Idx) := by
  have e : (((cfg5.win 6).blk t).view.emb (r5_4.emb x) : S8192x2048.Idx) = (((cfg5.win 5).blk t).view.emb (r5_4.emb x) : S8192x2048.Idx) := by
    refine funext fun a => Fin.ext ?_
    fin_cases a
    · blk_simp; rw [(at6 t).1]
    · blk_simp; rw [(at6 t).2, at5 t]
  rw [e]
  exact piece2 V c t x

theorem pay3 (a : Vec Ideal S128x2048 .bf16) (w : Vec Ideal S2048x2048 .bf16) (x : Vec Ideal S128x2048 .f32) (g b : Vec Ideal S1x2048 .f32)
    (y : S128x2048.Idx) : k5_pay7 a w x g b y
      = normed (fun j => alpha * x (ix2 (y 0) j) + ∑ k : Fin 2048, a (ix2 (y 0) k) * w (ix2 k j)) (g (ix2 0 (y 1))) (b (ix2 0 (y 1))) (y 1) := by
  obtain ⟨p, q, rfl⟩ : ∃ p q, y = ix2 p q := ⟨y 0, y 1, by funext a; fin_cases a <;> rfl⟩
  unfold k5_pay7
  pointwise
  rfl

theorem row3 (t : Fin cfg5.N) (x : S128x2048.Idx) : ((((cfg5.win 5).blk t).view.emb (r5_5.emb x) : S8192x2048.Idx) 0 : Nat) = win5_5.index t 0 * 512 + (384 + (x 0 : Nat)) := by
  blk_simp

theorem read3_0 (c : Dev nD) (t : Fin cfg5.N) (x : S128x2048.Idx) (k : Fin 2048) :
    View.ld (iblk5 V c 0 t) r5_5 (ix2 (x 0) k) = V c main_v16 (ix2 ((((cfg5.win 5).blk t).view.emb (r5_5.emb x) : S8192x2048.Idx) 0) k) := by
  unfold iblk5
  show V c main_v16 (((cfg5.win 0).blk t).view.emb (r5_5.emb (ix2 (x 0) k))) = _
  refine congrArg _ (funext fun a => Fin.ext ?_)
  fin_cases a
  · blk_simp; rw [(at0 t).1]
    exact (row3 t x).symm
  · blk_simp; rw [(at0 t).2]; exact Nat.zero_add _

theorem read3_2 (c : Dev nD) (t : Fin cfg5.N) (x : S128x2048.Idx) (k : Fin 2048) :
    View.ld (iblk5 V c 2 t) r5_5 (ix2 (x 0) k) = V c main_v0 (ix2 ((((cfg5.win 5).blk t).view.emb (r5_5.emb x) : S8192x2048.Idx) 0) k) := by
  unfold iblk5
  show V c main_v0 (((cfg5.win 2).blk t).view.emb (r5_5.emb (ix2 (x 0) k))) = _
  refine congrArg _ (funext fun a => Fin.ext ?_)
  fin_cases a
  · blk_simp; rw [(at2 t).1]
    exact (row3 t x).symm
  · blk_simp; rw [(at2 t).2]; exact Nat.zero_add _

/-- Rows 384 to 511 of the block. -/
theorem piece3 (c : Dev nD) (t : Fin cfg5.N) (x : S128x2048.Idx) :
    k5_pay7 (View.ld (iblk5 V c 0 t) r5_5) (View.ld (iblk5 V c 1 t) r5_1) (View.ld (iblk5 V c 2 t) r5_5) (View.ld (iblk5 V c 3 t) r5_2) (View.ld (iblk5 V c 4 t) r5_2) x
      = outRow (V c main_v16) (V c main_v18) (V c main_v0) (V c main_v20) (V c main_v22) (((cfg5.win 5).blk t).view.emb (r5_5.emb x) : S8192x2048.Idx) := by
  have e : ((((cfg5.win 5).blk t).view.emb (r5_5.emb x) : S8192x2048.Idx) 1 : Fin 2048) = x 1 := Fin.ext (by blk_simp; rw [at5 t]; exact Nat.zero_add _)
  rw [pay3]
  rw [show View.ld (iblk5 V c 3 t) r5_2 (ix2 0 (x 1)) = _ from fix3 V c t (x 1), show View.ld (iblk5 V c 4 t) r5_2 (ix2 0 (x 1)) = _ from fix4 V c t (x 1)]
  simp only [read3_0, read3_2, fix1]
  unfold outRow
  rw [e]
  rfl

theorem piece3b (c : Dev nD) (t : Fin cfg5.N) (x : S128x2048.Idx) :
    k5_pay8 (View.ld (iblk5 V c 0 t) r5_5) (View.ld (iblk5 V c 1 t) r5_1) (View.ld (iblk5 V c 2 t) r5_5) (View.ld (iblk5 V c 3 t) r5_2) (View.ld (iblk5 V c 4 t) r5_2) x
      = outRow (V c main_v16) (V c main_v18) (V c main_v0) (V c main_v20) (V c main_v22) (((cfg5.win 6).blk t).view.emb (r5_5.emb x) : S8192x2048.Idx) := by
  have e : (((cfg5.win 6).blk t).view.emb (r5_5.emb x) : S8192x2048.Idx) = (((cfg5.win 5).blk t).view.emb (r5_5.emb x) : S8192x2048.Idx) := by
    refine funext fun a => Fin.ext ?_
    fin_cases a
    · blk_simp; rw [(at6 t).1]
    · blk_simp; rw [(at6 t).2, at5 t]
  rw [e]
  exact piece3 V c t x

def outNorm (a : FVec Ideal S8192x2048 .bf16) (w : FVec Ideal S2048x2048 .bf16) (x : FVec Ideal S8192x2048 .f32)
    (g b : FVec Ideal S1x2048 .f32) : FVec Ideal S8192x2048 .f32 := fun i => outRow a w x g b i

theorem out_final (c : Dev nD) : (dat5 V c).arrAt 5 cfg5.N
    = outNorm (V c main_v16) (V c main_v18) (V c main_v0) (V c main_v20) (V c main_v22) := by
  refine (dat5 V c).arrAt_eq_of_covers 5 _ (by decide +kernel) fun t hf y => ?_
  blk_simp
  rw [after5_5]
  unfold out5_5
  refine View.canon_apply_of_pieces (Val := Elt Ideal) (e := .f32) (fun y => outNorm (V c main_v16) (V c main_v18) (V c main_v0) (V c main_v20)
    (V c main_v22) (((cfg5.win 5).blk t).view.emb y)) _ ?_ y (cover5_5 _ _ _ _ y)
  intro p hp
  simp only [List.mem_cons, List.not_mem_nil, or_false] at hp
  rcases hp with rfl | rfl | rfl | rfl
  · exact piece3 V c t
  · exact piece2 V c t
  · exact piece1 V c t
  · exact piece0 V c t

def outNormB (a : FVec Ideal S8192x2048 .bf16) (w : FVec Ideal S2048x2048 .bf16) (x : FVec Ideal S8192x2048 .f32)
    (g b : FVec Ideal S1x2048 .f32) : FVec Ideal S8192x2048 .bf16 := fun i => outRow a w x g b i

theorem out_final_b (c : Dev nD) : (dat5 V c).arrAt 6 cfg5.N
    = outNormB (V c main_v16) (V c main_v18) (V c main_v0) (V c main_v20) (V c main_v22) := by
  refine (dat5 V c).arrAt_eq_of_covers 6 _ (by decide +kernel) fun t hf y => ?_
  blk_simp
  rw [after5_6]
  unfold out5_6
  refine View.canon_apply_of_pieces (Val := Elt Ideal) (e := .bf16) (fun y => outNormB (V c main_v16) (V c main_v18) (V c main_v0) (V c main_v20)
    (V c main_v22) (((cfg5.win 6).blk t).view.emb y)) _ ?_ y (cover5_6 _ _ _ _ y)
  intro p hp
  simp only [List.mem_cons, List.not_mem_nil, or_false] at hp
  rcases hp with rfl | rfl | rfl | rfl
  · exact piece3b V c t
  · exact piece2b V c t
  · exact piece1b V c t
  · exact piece0b V c t

end Cert.KernelIdeal.OutNorm

end
-- ==== Proof.KernelValue.lean ====
/-
  The kernel's three results as functions of its arguments, at the ideal instance.
-/
module

public import proofs.«01_k».proof.Proof.Gen.KernelIdeal.Frame
public import Idealize.ShloMosaic.Lib.Pipeline.Value
public import Idealize.ShloMosaic.Lib.Pipeline.ValueKit
public import Idealize.ShloMosaic.Lib.Pointwise
public import proofs.«01_k».proof.Proof.Maths
public import proofs.«01_k».proof.Proof.InWide
public import proofs.«01_k».proof.Proof.MemKv
public import proofs.«01_k».proof.Proof.Attend
public import proofs.«01_k».proof.Proof.Merge
public import proofs.«01_k».proof.Proof.OutNorm
public import proofs.«01_k».proof.Proof.Launch

@[expose] public section

noncomputable section

namespace Cert.KernelIdeal.KernelValue

open Cert.KernelIdeal Cert.KernelIdeal.Gen Cert.Maths
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The input flattened to rows. -/
def flat (x : FVec Ideal S2x4096x2048 .f32) : FVec Ideal S8192x2048 .f32 :=
  shapeCast S8192x2048 x shapeCasts_S2x4096x2048_S8192x2048

/-- The same narrowed. -/
def rows (x : FVec Ideal S2x4096x2048 .f32) : FVec Ideal S8192x2048 .bf16 :=
  truncf .bf16 (flat x) bitsLt_bf16_f32

/-- A 1024-wide array flattened to rows and narrowed. -/
def rowsN (x : FVec Ideal S2x4096x1024 .f32) : FVec Ideal S8192x1024 .bf16 :=
  truncf .bf16 (shapeCast S8192x1024 x shapeCasts_S2x4096x1024_S8192x1024) bitsLt_bf16_f32

/-- The memory slots flattened to rows. -/
def memRows (x : FVec Ideal S2x256x2048 .f32) : FVec Ideal S512x2048 .f32 :=
  shapeCast S512x2048 x shapeCasts_S2x256x2048_S512x2048

/-- The input projection weights transposed. -/
def turned (x : FVec Ideal S1x2048x13856 .f32) : FVec Ideal S1x13856x2048 .f32 :=
  transpose S1x13856x2048 [0, 2, 1] x transposes_S1x2048x13856_S1x13856x2048_0_2_1

/-- The one layer of a 2048-row weight. -/
def sq (x : FVec Ideal S1x2048x2048 .f32) : FVec Ideal S2048x2048 .f32 :=
  shapeCast S2048x2048 x shapeCasts_S1x2048x2048_S2048x2048

/-- The same narrowed. -/
def sqN (x : FVec Ideal S1x2048x2048 .f32) : FVec Ideal S2048x2048 .bf16 :=
  truncf .bf16 (sq x) bitsLt_bf16_f32

/-- The one layer of a 1024-row weight. -/
def half (x : FVec Ideal S1x1024x2048 .f32) : FVec Ideal S1024x2048 .f32 :=
  shapeCast S1024x2048 x shapeCasts_S1x1024x2048_S1024x2048

/-- The one layer of a vector, as a row. -/
def vecRow (x : FVec Ideal S1x2048 .f32) : FVec Ideal S1x2048 .f32 :=
  broadcastInDim S1x2048 ![1] bcast_S2048_S1x2048_1 (shapeCast S2048 x shapeCasts_S1x2048_S2048)

theorem V1_v3 (c : Dev nD) : V1 m ρ c main_v3 = turned (m ((c : Thread nD τ).loc main_arg2)) := by
  show W1 m ρ c _ = _
  after_results
  all_goals first | rfl | (show turned (W0 m ρ c (Proc.devRef .tc main_arg2)) = _; rw [W0_args m ρ c main_arg2 (by decide)])

theorem V1_v2 (c : Dev nD) : V1 m ρ c main_v2 = rows (m ((c : Thread nD τ).loc main_arg0)) := by
  show W1 m ρ c _ = _
  after_results
  all_goals first | rfl | (show rows (W0 m ρ c (Proc.devRef .tc main_arg0)) = _; rw [W0_args m ρ c main_arg0 (by decide)])

theorem V1_v0 (c : Dev nD) : V1 m ρ c main_v0 = flat (m ((c : Thread nD τ).loc main_arg0)) := by
  show W1 m ρ c _ = _
  after_results
  all_goals first | rfl | (show flat (W0 m ρ c (Proc.devRef .tc main_arg0)) = _; rw [W0_args m ρ c main_arg0 (by decide)])

theorem V1_v1 (c : Dev nD) : V1 m ρ c main_v1 = memRows (m ((c : Thread nD τ).loc main_arg1)) := by
  show W1 m ρ c _ = _
  after_results
  all_goals first | rfl | (show memRows (W0 m ρ c (Proc.devRef .tc main_arg1)) = _; rw [W0_args m ρ c main_arg1 (by decide)])

theorem keep1_2_v2 (c : Dev nD) : V2 m ρ c main_v2 = V1 m ρ c main_v2 :=
  W2_of m ρ c main_v2 (by decide +kernel)

/-- The input projection's wide part. -/
def rest (x : FVec Ideal S2x4096x2048 .f32) (w : FVec Ideal S1x2048x13856 .f32) : FVec Ideal S8192x8704 .bf16 :=
  InWide.prod (rows x) (InWide.wide (turned w))

/-- The memory projection. -/
def kv (x : FVec Ideal S2x256x2048 .f32) (w : FVec Ideal S1x2048x2048 .f32) : FVec Ideal S512x2048 .bf16 :=
  MemKv.memProd (memRows x) (sq w)

theorem V3_v5 (c : Dev nD) : V3 m ρ c main_v5 = rest (m ((c : Thread nD τ).loc main_arg0)) (m ((c : Thread nD τ).loc main_arg2)) := by
  refine ((W3_arr m ρ c 2).trans (InWide.prod_final (V2 m ρ) c)).trans ?_
  rw [keep1_2_v2, V1_v2, show V2 m ρ c main_v4 = InWide.wide (V1 m ρ c main_v3) from (W2_arr m ρ c 1).trans (InWide.wide_final (V1 m ρ) c), V1_v3]
  rfl

theorem keep1_4_v1 (c : Dev nD) : V4 m ρ c main_v1 = V1 m ρ c main_v1 :=
  ((W4_of m ρ c main_v1 (by decide +kernel)).trans (W3_of m ρ c main_v1 (by decide +kernel))).trans (W2_of m ρ c main_v1 (by decide +kernel))

theorem V4_v6 (c : Dev nD) : V4 m ρ c main_v6 = sq (m ((c : Thread nD τ).loc main_arg5)) := by
  show W4 m ρ c _ = _
  after_results
  all_goals first | rfl | (show sq (W3 m ρ c (Proc.devRef .tc main_arg5)) = _; rw [W3_args m ρ c main_arg5 (by decide)])

theorem V5_v7 (c : Dev nD) : V5 m ρ c main_v7 = kv (m ((c : Thread nD τ).loc main_arg1)) (m ((c : Thread nD τ).loc main_arg5)) := by
  refine ((W5_arr m ρ c 2).trans (MemKv.mem_final (V4 m ρ) c)).trans ?_
  rw [keep1_4_v1, V1_v1, V4_v6]
  rfl

theorem keep3_5_v5 (c : Dev nD) : V5 m ρ c main_v5 = V3 m ρ c main_v5 :=
  (W5_of m ρ c main_v5 (by decide +kernel)).trans (W4_of m ρ c main_v5 (by decide +kernel))

theorem V6_v8 (c : Dev nD) : V6 m ρ c main_v8 = Attend.attended (V5 m ρ c main_v5) (V5 m ρ c main_v7) :=
  (W6_arr m ρ c 4).trans (Attend.attended_final (V5 m ρ) c)

theorem V7_v10 (c : Dev nD) : V7 m ρ c main_v10 = rows (m ((c : Thread nD τ).loc main_arg3)) := by
  show W7 m ρ c _ = _
  after_results
  all_goals first | rfl | (show rows (W6 m ρ c (Proc.devRef .tc main_arg3)) = _; rw [W6_args m ρ c main_arg3 (by decide)])

theorem V7_v12 (c : Dev nD) : V7 m ρ c main_v12 = rowsN (m ((c : Thread nD τ).loc main_arg4)) := by
  show W7 m ρ c _ = _
  after_results
  all_goals first | rfl | (show rowsN (W6 m ρ c (Proc.devRef .tc main_arg4)) = _; rw [W6_args m ρ c main_arg4 (by decide)])

theorem V7_v13 (c : Dev nD) : V7 m ρ c main_v13 = sq (m ((c : Thread nD τ).loc main_arg6)) := by
  show W7 m ρ c _ = _
  after_results
  all_goals first | rfl | (show sq (W6 m ρ c (Proc.devRef .tc main_arg6)) = _; rw [W6_args m ρ c main_arg6 (by decide)])

theorem V7_v14 (c : Dev nD) : V7 m ρ c main_v14 = half (m ((c : Thread nD τ).loc main_arg7)) := by
  show W7 m ρ c _ = _
  after_results
  all_goals first | rfl | (show half (W6 m ρ c (Proc.devRef .tc main_arg7)) = _; rw [W6_args m ρ c main_arg7 (by decide)])

theorem V7_v15 (c : Dev nD) : V7 m ρ c main_v15 = half (m ((c : Thread nD τ).loc main_arg8)) := by
  show W7 m ρ c _ = _
  after_results
  all_goals first | rfl | (show half (W6 m ρ c (Proc.devRef .tc main_arg8)) = _; rw [W6_args m ρ c main_arg8 (by decide)])

theorem keep6_7_v8 (c : Dev nD) : V7 m ρ c main_v8 = V6 m ρ c main_v8 :=
  W7_of m ρ c main_v8 (by decide +kernel)

theorem keep5_7_v5 (c : Dev nD) : V7 m ρ c main_v5 = V5 m ρ c main_v5 :=
  (W7_of m ρ c main_v5 (by decide +kernel)).trans (W6_of m ρ c main_v5 (by decide +kernel))

theorem V8_v16 (c : Dev nD) : V8 m ρ c main_v16 = Merge.merged (V7 m ρ c main_v10) (V7 m ρ c main_v12) (V7 m ρ c main_v8)
    (V7 m ρ c main_v13) (V7 m ρ c main_v14) (V7 m ρ c main_v15) (V7 m ρ c main_v5) :=
  (W8_arr m ρ c 9).trans (Merge.merged_final (V7 m ρ) c)

theorem V9_v18 (c : Dev nD) : V9 m ρ c main_v18 = sqN (m ((c : Thread nD τ).loc main_arg9)) := by
  show W9 m ρ c _ = _
  after_results
  all_goals first | rfl | (show sqN (W8 m ρ c (Proc.devRef .tc main_arg9)) = _; rw [W8_args m ρ c main_arg9 (by decide)])

theorem V9_v20 (c : Dev nD) : V9 m ρ c main_v20 = vecRow (m ((c : Thread nD τ).loc main_arg10)) := by
  show W9 m ρ c _ = _
  after_results
  all_goals first | rfl | (show vecRow (W8 m ρ c (Proc.devRef .tc main_arg10)) = _; rw [W8_args m ρ c main_arg10 (by decide)])

theorem V9_v22 (c : Dev nD) : V9 m ρ c main_v22 = vecRow (m ((c : Thread nD τ).loc main_arg11)) := by
  show W9 m ρ c _ = _
  after_results
  all_goals first | rfl | (show vecRow (W8 m ρ c (Proc.devRef .tc main_arg11)) = _; rw [W8_args m ρ c main_arg11 (by decide)])

theorem keep8_9_v16 (c : Dev nD) : V9 m ρ c main_v16 = V8 m ρ c main_v16 :=
  W9_of m ρ c main_v16 (by decide +kernel)

theorem keep1_9_v0 (c : Dev nD) : V9 m ρ c main_v0 = V1 m ρ c main_v0 :=
  (((((((W9_of m ρ c main_v0 (by decide +kernel)).trans (W8_of m ρ c main_v0 (by decide +kernel))).trans (W7_of m ρ c main_v0 (by decide +kernel))).trans (W6_of m ρ c main_v0 (by decide +kernel))).trans (W5_of m ρ c main_v0 (by decide +kernel))).trans (W4_of m ρ c main_v0 (by decide +kernel))).trans (W3_of m ρ c main_v0 (by decide +kernel))).trans (W2_of m ρ c main_v0 (by decide +kernel))

theorem keep7_10_v5 (c : Dev nD) : V10 m ρ c main_v5 = V7 m ρ c main_v5 :=
  ((W10_of m ρ c main_v5 (by decide +kernel)).trans (W9_of m ρ c main_v5 (by decide +kernel))).trans (W8_of m ρ c main_v5 (by decide +kernel))

/-- The merged branches. -/
def mix (x : FVec Ideal S2x4096x2048 .f32) (mem : FVec Ideal S2x256x2048 .f32) (w : FVec Ideal S1x2048x13856 .f32)
    (ya : FVec Ideal S2x4096x2048 .f32) (yb : FVec Ideal S2x4096x1024 .f32) (wm wa : FVec Ideal S1x2048x2048 .f32)
    (wb wd : FVec Ideal S1x1024x2048 .f32) : FVec Ideal S8192x2048 .bf16 :=
  Merge.merged (rows ya) (rowsN yb) (Attend.attended (rest x w) (kv mem wm)) (sq wa) (half wb) (half wd) (rest x w)

theorem V9_v16 (c : Dev nD) : V9 m ρ c main_v16 = mix (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [keep8_9_v16, V8_v16, V7_v10, V7_v12, V7_v13, V7_v14, V7_v15, keep6_7_v8, V6_v8, keep5_7_v5, keep3_5_v5, V3_v5, V5_v7]
  rfl

/-- The first result: the wide part of the projection. -/
theorem result0 (c : Dev nD) : W10 m ρ c (Proc.devRef .tc main_v5)
    = rest (m ((c : Thread nD τ).loc main_arg0)) (m ((c : Thread nD τ).loc main_arg2)) :=
  (keep7_10_v5 m ρ c).trans ((keep5_7_v5 m ρ c).trans ((keep3_5_v5 m ρ c).trans (V3_v5 m ρ c)))

/-- The second result: the normalized rows. -/
theorem result1 (c : Dev nD) : W10 m ρ c (Proc.devRef .tc main_v23_0)
    = OutNorm.outNorm (mix (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (sqN (m ((c : Thread nD τ).loc main_arg9))) (flat (m ((c : Thread nD τ).loc main_arg0))) (vecRow (m ((c : Thread nD τ).loc main_arg10))) (vecRow (m ((c : Thread nD τ).loc main_arg11))) := by
  refine ((W10_arr m ρ c 5).trans (OutNorm.out_final (V9 m ρ) c)).trans ?_
  rw [V9_v16, V9_v18, keep1_9_v0, V1_v0, V9_v20, V9_v22]

/-- The third: the same narrowed. -/
theorem result2 (c : Dev nD) : W10 m ρ c (Proc.devRef .tc main_v23_1)
    = OutNorm.outNormB (mix (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (sqN (m ((c : Thread nD τ).loc main_arg9))) (flat (m ((c : Thread nD τ).loc main_arg0))) (vecRow (m ((c : Thread nD τ).loc main_arg10))) (vecRow (m ((c : Thread nD τ).loc main_arg11))) := by
  refine ((W10_arr m ρ c 6).trans (OutNorm.out_final_b (V9 m ρ) c)).trans ?_
  rw [V9_v16, V9_v18, keep1_9_v0, V1_v0, V9_v20, V9_v22]

end Cert.KernelIdeal.KernelValue

end
-- ==== Proof.RefValue.lean ====
/-
  The reference's results as functions of its arguments, at the ideal instance: its operations in stages, each stage at an
  element of the flattened rows the kernel works on.
-/
module

public import proofs.«01_k».proof.Proof.Gen.ReferenceIdeal.Run
public import Idealize.ShloMosaic.Lib.Pointwise
public import Idealize.ShloMosaic.Lib.IdealHost
public import proofs.«01_k».proof.Proof.KernelValue

@[expose] public section

noncomputable section

namespace Cert.ReferenceIdeal.RefValue

open Cert.ReferenceIdeal Cert.ReferenceIdeal.Gen Cert.Maths
open Idealize.ShloMosaic Idealize.ShloMosaic.TcCoe Idealize.SL.Sem

/-- The projection's wide part. -/
def proj (x : FVec Ideal S2x4096x2048 .f32) (w : FVec Ideal S1x2048x13856 .f32) : FVec Ideal S2x4096x8704 .f32 :=
  extractStridedSlice S2x4096x8704 ![0, 0, 5152] (Host.dotGeneral dot_S2x4096x2048_S2048x13856_S2x4096x13856_2_0_01_1_n_n none x
    (shapeCast S2048x13856 w shapeCasts_S1x2048x13856_S2048x13856)) slices_S2x4096x13856_S2x4096x8704_0_0_5152

/-- The memory projection. -/
def memProj (x : FVec Ideal S2x256x2048 .f32) (w : FVec Ideal S1x2048x2048 .f32) : FVec Ideal S2x256x2048 .f32 :=
  Host.dotGeneral dot_S2x256x2048_S2048x2048_S2x256x2048_2_0_01_1_n_n none x (shapeCast S2048x2048 w shapeCasts_S1x2048x2048_S2048x2048)

/-- The scaled scores of every head. -/
def score (p : FVec Ideal S2x4096x8704 .f32) (kv : FVec Ideal S2x256x2048 .f32) : FVec Ideal S2x4x4096x256 .f32 :=
  mulf (Host.dotGeneral dot_S2x4096x4x256_S2x256x4x256_S2x4x4096x256_3_3_1_1_02_02 none
    (shapeCast S2x4096x4x256 (extractStridedSlice S2x4096x1024 ![0, 0, 1536] p slices_S2x4096x8704_S2x4096x1024_0_0_1536) shapeCasts_S2x4096x1024_S2x4096x4x256)
    (shapeCast S2x256x4x256 (extractStridedSlice S2x256x1024 ![0, 0, 0] kv slices_S2x256x2048_S2x256x1024_0_0_0) shapeCasts_S2x256x1024_S2x256x4x256))
    (broadcastInDim S2x4x4096x256 ![] bcast_S_S2x4x4096x256 (constant S_ .f32 0x3D800000#32))

/-- The greatest score of every row. -/
def peaks (s : FVec Ideal S2x4x4096x256 .f32) : FVec Ideal S2x4x4096 .f32 :=
  maximumf (broadcastInDim S2x4x4096 ![] bcast_S_S2x4x4096 (constant S_ .f32 0xFF800000#32))
    (Host.reduce FloatOps.maximumf s (constant S_ .f32 0xFF800000#32) reducesTo_S2x4x4096x256_S2x4x4096_d3 h_S_)

/-- The exponentials of the scores less their row's greatest. -/
def expo (s : FVec Ideal S2x4x4096x256 .f32) : FVec Ideal S2x4x4096x256 .f32 :=
  Host.exp (subf s (broadcastInDim S2x4x4096x256 ![0, 1, 2, 3] bcast_S2x4x4096x1_S2x4x4096x256_0_1_2_3
    (broadcastInDim S2x4x4096x1 ![0, 1, 2] bcast_S2x4x4096_S2x4x4096x1_0_1_2 (peaks s))))

/-- The softmax weights. -/
def soft (e : FVec Ideal S2x4x4096x256 .f32) : FVec Ideal S2x4x4096x256 .f32 :=
  Host.divf e (broadcastInDim S2x4x4096x256 ![0, 1, 2, 3] bcast_S2x4x4096x1_S2x4x4096x256_0_1_2_3
    (broadcastInDim S2x4x4096x1 ![0, 1, 2] bcast_S2x4x4096_S2x4x4096x1_0_1_2
      (Host.reduceAdd e (constant S_ .f32 0x00000000#32) reducesTo_S2x4x4096x256_S2x4x4096_d3 h_S_)))

/-- The attended values, the heads side by side. -/
def heads (kv : FVec Ideal S2x256x2048 .f32) (a : FVec Ideal S2x4x4096x256 .f32) : FVec Ideal S2x4096x1024 .f32 :=
  shapeCast S2x4096x1024 (transpose S2x4096x4x256 [0, 3, 1, 2]
    (Host.dotGeneral dot_S2x256x4x256_S2x4x4096x256_S2x4x256x4096_1_3_3_2_02_01 none
      (shapeCast S2x256x4x256 (extractStridedSlice S2x256x1024 ![0, 0, 1024] kv slices_S2x256x2048_S2x256x1024_0_0_1024) shapeCasts_S2x256x1024_S2x256x4x256) a)
    transposes_S2x4x256x4096_S2x4096x4x256_0_3_1_2) shapeCasts_S2x4096x4x256_S2x4096x1024

/-- The three gates. -/
def gates (p : FVec Ideal S2x4096x8704 .f32) : FVec Ideal S2x4096x3x2048 .f32 :=
  shapeCast S2x4096x3x2048 (Host.divf (broadcastInDim S2x4096x6144 ![] bcast_S_S2x4096x6144 (constant S_ .f32 0x3F800000#32))
    (addf (broadcastInDim S2x4096x6144 ![] bcast_S_S2x4096x6144 (constant S_ .f32 0x3F800000#32))
      (Host.exp (Host.negf (extractStridedSlice S2x4096x6144 ![0, 0, 2560] p slices_S2x4096x8704_S2x4096x6144_0_0_2560)))))
    shapeCasts_S2x4096x6144_S2x4096x3x2048

/-- The gated sum of the branches. -/
def mixed (g : FVec Ideal S2x4096x3x2048 .f32) (a : FVec Ideal S2x4096x2048 .f32) (wa : FVec Ideal S1x2048x2048 .f32)
    (b : FVec Ideal S2x4096x1024 .f32) (wb : FVec Ideal S1x1024x2048 .f32) (d : FVec Ideal S2x4096x1024 .f32)
    (wd : FVec Ideal S1x1024x2048 .f32) : FVec Ideal S2x4096x2048 .f32 :=
  addf (addf (mulf (shapeCast S2x4096x2048 (extractStridedSlice S2x4096x1x2048 ![0, 0, 0, 0] g slices_S2x4096x3x2048_S2x4096x1x2048_0_0_0_0) shapeCasts_S2x4096x1x2048_S2x4096x2048)
      (Host.dotGeneral dot_S2x4096x2048_S2048x2048_S2x4096x2048_2_0_01_1_n_n none a (shapeCast S2048x2048 wa shapeCasts_S1x2048x2048_S2048x2048)))
    (mulf (shapeCast S2x4096x2048 (extractStridedSlice S2x4096x1x2048 ![0, 0, 1, 0] g slices_S2x4096x3x2048_S2x4096x1x2048_0_0_1_0) shapeCasts_S2x4096x1x2048_S2x4096x2048)
      (Host.dotGeneral dot_S2x4096x1024_S1024x2048_S2x4096x2048_2_0_01_1_n_n none b (shapeCast S1024x2048 wb shapeCasts_S1x1024x2048_S1024x2048))))
    (mulf (shapeCast S2x4096x2048 (extractStridedSlice S2x4096x1x2048 ![0, 0, 2, 0] g slices_S2x4096x3x2048_S2x4096x1x2048_0_0_2_0) shapeCasts_S2x4096x1x2048_S2x4096x2048)
      (Host.dotGeneral dot_S2x4096x1024_S1024x2048_S2x4096x2048_2_0_01_1_n_n none d (shapeCast S1024x2048 wd shapeCasts_S1x1024x2048_S1024x2048)))

/-- The residual sum. -/
def resid (x a : FVec Ideal S2x4096x2048 .f32) (w : FVec Ideal S1x2048x2048 .f32) : FVec Ideal S2x4096x2048 .f32 :=
  addf (mulf (broadcastInDim S2x4096x2048 ![] bcast_S_S2x4096x2048 (constant S_ .f32 0x3F9837F0#32)) x)
    (Host.dotGeneral dot_S2x4096x2048_S2048x2048_S2x4096x2048_2_0_01_1_n_n none a (shapeCast S2048x2048 w shapeCasts_S1x2048x2048_S2048x2048))

/-- The mean of every row. -/
def means (h : FVec Ideal S2x4096x2048 .f32) : FVec Ideal S2x4096x1 .f32 :=
  Host.divf (broadcastInDim S2x4096x1 ![0, 1] bcast_S2x4096_S2x4096x1_0_1
    (Host.reduceAdd h (constant S_ .f32 0x00000000#32) reducesTo_S2x4096x2048_S2x4096_d2 h_S_))
    (broadcastInDim S2x4096x1 ![] bcast_S_S2x4096x1 (constant S_ .f32 0x45000000#32))

/-- The rows less their means. -/
def centred (h : FVec Ideal S2x4096x2048 .f32) : FVec Ideal S2x4096x2048 .f32 :=
  subf h (broadcastInDim S2x4096x2048 ![0, 1, 2] bcast_S2x4096x1_S2x4096x2048_0_1_2 (means h))

/-- The normalized rows, flattened. -/
def layer (h : FVec Ideal S2x4096x2048 .f32) (g b : FVec Ideal S1x2048 .f32) : FVec Ideal S8192x2048 .f32 :=
  shapeCast S8192x2048 (addf (mulf (mulf (centred h)
      (broadcastInDim S2x4096x2048 ![0, 1, 2] bcast_S2x4096x1_S2x4096x2048_0_1_2
        (Host.rsqrt (addf (means (mulf (centred h) (centred h))) (broadcastInDim S2x4096x1 ![] bcast_S_S2x4096x1 (constant S_ .f32 0x3727C5AC#32))))))
      (broadcastInDim S2x4096x2048 ![0, 1, 2] bcast_S1x1x2048_S2x4096x2048_0_1_2
        (broadcastInDim S1x1x2048 ![2] bcast_S2048_S1x1x2048_2 (shapeCast S2048 g shapeCasts_S1x2048_S2048))))
      (broadcastInDim S2x4096x2048 ![0, 1, 2] bcast_S1x1x2048_S2x4096x2048_0_1_2
        (broadcastInDim S1x1x2048 ![2] bcast_S2048_S1x1x2048_2 (shapeCast S2048 b shapeCasts_S1x2048_S2048))))
    shapeCasts_S2x4096x2048_S8192x2048

/-- The reference's second result. -/
def whole (x : FVec Ideal S2x4096x2048 .f32) (mem : FVec Ideal S2x256x2048 .f32) (w : FVec Ideal S1x2048x13856 .f32)
    (ya : FVec Ideal S2x4096x2048 .f32) (yb : FVec Ideal S2x4096x1024 .f32) (wm wa : FVec Ideal S1x2048x2048 .f32)
    (wb wd : FVec Ideal S1x1024x2048 .f32) (wo : FVec Ideal S1x2048x2048 .f32) (g b : FVec Ideal S1x2048 .f32) : FVec Ideal S8192x2048 .f32 :=
  layer (resid x (mixed (gates (proj x w)) ya wa yb wb
    (heads (memProj mem wm) (soft (expo (score (proj x w) (memProj mem wm))))) wd) wo) g b

set_option maxRecDepth 8192 in
/-- The generated run's term is the stages composed. -/
theorem res_eq (m : (ℓ : Loc nD τ sig) → Buf (Elt Ideal) ℓ) (c : Dev nD) :
    Value.res_main_v87 (F := Ideal) m c = whole (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))
      (m ((c.tc : Thread nD τ).loc main_arg11)) := rfl

set_option maxRecDepth 8192 in
theorem res_eq_b (m : (ℓ : Loc nD τ sig) → Buf (Elt Ideal) ℓ) (c : Dev nD) :
    Value.res_main_v90 (F := Ideal) m c = (truncf .bf16 (Value.res_main_v87 (F := Ideal) m c : FVec Ideal S8192x2048 .f32) bitsLt_bf16_f32 : FVec Ideal S8192x2048 .bf16) := rfl

/-- The projection at an element. -/
theorem proj_at (x : FVec Ideal S2x4096x2048 .f32) (w : FVec Ideal S1x2048x13856 .f32) (y : S2x4096x8704.Idx) :
    proj x w y = ∑ k : Fin 2048, x (ix3 (y 0) (y 1) k) * w (ix3 0 k ⟨5152 + (y 2 : Nat), by have := (y 2).isLt; simp at this; omega⟩) := by
  unfold proj
  pointwise

theorem memProj_at (x : FVec Ideal S2x256x2048 .f32) (w : FVec Ideal S1x2048x2048 .f32) (y : S2x256x2048.Idx) :
    memProj x w y = ∑ k : Fin 2048, x (ix3 (y 0) (y 1) k) * w (ix3 0 k (y 2)) := by
  unfold memProj
  pointwise

theorem score_at (p : FVec Ideal S2x4096x8704 .f32) (kv : FVec Ideal S2x256x2048 .f32) (y : S2x4x4096x256.Idx) :
    score p kv y = scores (fun d => p (ix3 (y 0) (y 2) ⟨1536 + 256 * (y 1 : Nat) + d, by have := (y 1).isLt; simp at this; omega⟩))
      (fun j d => kv (ix3 (y 0) j ⟨256 * (y 1 : Nat) + d, by have := (y 1).isLt; simp at this; omega⟩)) (y 3) := by
  unfold score scores
  pointwise
  simp only [mul_comm (256 : ℕ), add_assoc]

theorem last_reduces : S2x4x4096x256.Reduces [3] S2x4x4096 := by decide

/-- A row's index with its last coordinate put back. -/
theorem lift_last (y : S2x4x4096.Idx) (j : Fin 256) : last_reduces.lift y j = ix4 (y 0) (y 1) (y 2) j := by
  funext a
  apply Fin.ext
  fin_cases a <;> rfl

/-- The greatest along one axis, at any shape. -/
theorem greatest {s t u : Shape} {a : Fin s.rank} (x : FVec Ideal s .f32) (init : FVec Ideal u .f32) (h' : s.ReducesTo [a] t)
    (h : s.Reduces [a] t) (hu : 0 < u.numel) (j : t.Idx) :
    Host.reduce (FloatOps.maximumf (F := Ideal) (φ := .f32)) x init h' hu j
      = (Finset.univ : Finset (Fin (s.size a))).fold max (init (Shape.Idx.first hu)) (x ∘ h.lift j) :=
  Host.reduce_eq_fold_single (FloatOps.maximumf (F := Ideal) (φ := .f32)) x init h' h hu j

/-- An array bounded below by negative infinity is the array. -/
theorem from_bottom {t : Shape} (hb : S_.BroadcastsInDim t ![]) (r : FVec Ideal t .f32) :
    maximumf (broadcastInDim t ![] hb (constant S_ .f32 0xFF800000#32)) r = r := by
  funext y
  show max (Ideal.ofBits .f32 0xFF800000#32) (r y) = r y
  rw [bottom, bot_sup_eq]

theorem peaks_at (s : FVec Ideal S2x4x4096x256 .f32) (y : S2x4x4096.Idx) :
    peaks s y = Finset.univ.fold max (Ideal.ofBits .f32 0xFF800000#32) fun j => s (ix4 (y 0) (y 1) (y 2) j) := by
  unfold peaks
  rw [from_bottom, greatest s (constant S_ .f32 0xFF800000#32) reducesTo_S2x4x4096x256_S2x4x4096_d3 last_reduces h_S_ y]
  exact congrArg (Finset.fold max (Ideal.ofBits .f32 0xFF800000#32) · (Finset.univ : Finset (Fin 256)))
    (funext fun j => congrArg s (lift_last y j))

theorem expo_at (s : FVec Ideal S2x4x4096x256 .f32) (y : S2x4x4096x256.Idx) :
    expo s y = weights (fun j => s (ix4 (y 0) (y 1) (y 2) j)) (y 3) := by
  unfold expo weights
  pointwise
  rw [peaks_at]
  rfl

theorem soft_at (e : FVec Ideal S2x4x4096x256 .f32) (y : S2x4x4096x256.Idx) :
    soft e y = Ideal.div (e y) (∑ j, e (ix4 (y 0) (y 1) (y 2) j)) := by
  unfold soft
  pointwise

theorem heads_at (kv : FVec Ideal S2x256x2048 .f32) (a : FVec Ideal S2x4x4096x256 .f32) (y : S2x4096x1024.Idx) :
    have h2 : (y 2 : Nat) < 1024 := (y 2).isLt
    heads kv a y = ∑ j : Fin 256, kv (ix3 (y 0) j ⟨1024 + (y 2 : Nat), by omega⟩)
      * a (ix4 (y 0) ⟨(y 2 : Nat) / 256, by omega⟩ (y 1) j) := by
  unfold heads
  pointwise

theorem gates_at (p : FVec Ideal S2x4096x8704 .f32) (y : S2x4096x3x2048.Idx) :
    have h2 : (y 2 : Nat) < 3 := (y 2).isLt
    have h3 : (y 3 : Nat) < 2048 := (y 3).isLt
    gates p y = gate (p (ix3 (y 0) (y 1) ⟨2560 + 2048 * (y 2 : Nat) + (y 3 : Nat), by omega⟩)) := by
  unfold gates gate
  pointwise
  simp only [mul_comm (2048 : ℕ), add_assoc, zero_sub]

theorem mixed_at (g : FVec Ideal S2x4096x3x2048 .f32) (a : FVec Ideal S2x4096x2048 .f32) (wa : FVec Ideal S1x2048x2048 .f32)
    (b : FVec Ideal S2x4096x1024 .f32) (wb : FVec Ideal S1x1024x2048 .f32) (d : FVec Ideal S2x4096x1024 .f32)
    (wd : FVec Ideal S1x1024x2048 .f32) (y : S2x4096x2048.Idx) :
    mixed g a wa b wb d wd y
      = g (ix4 (y 0) (y 1) 0 (y 2)) * ∑ k : Fin 2048, a (ix3 (y 0) (y 1) k) * wa (ix3 0 k (y 2))
        + g (ix4 (y 0) (y 1) 1 (y 2)) * ∑ k : Fin 1024, b (ix3 (y 0) (y 1) k) * wb (ix3 0 k (y 2))
        + g (ix4 (y 0) (y 1) 2 (y 2)) * ∑ k : Fin 1024, d (ix3 (y 0) (y 1) k) * wd (ix3 0 k (y 2)) := by
  unfold mixed
  pointwise

theorem resid_at (x a : FVec Ideal S2x4096x2048 .f32) (w : FVec Ideal S1x2048x2048 .f32) (y : S2x4096x2048.Idx) :
    resid x a w y = alpha * x y + ∑ k : Fin 2048, a (ix3 (y 0) (y 1) k) * w (ix3 0 k (y 2)) := by
  unfold resid alpha
  pointwise

theorem means_at (h : FVec Ideal S2x4096x2048 .f32) (y : S2x4096x1.Idx) :
    means h y = mean (fun k => h (ix3 (y 0) (y 1) k)) := by
  unfold means mean
  pointwise

theorem centred_at (h : FVec Ideal S2x4096x2048 .f32) (y : S2x4096x2048.Idx) :
    centred h y = h y - mean (fun k => h (ix3 (y 0) (y 1) k)) := by
  unfold centred mean means
  pointwise

/-- A row's normalization at an element of the flattened rows. -/
theorem layer_at (h : FVec Ideal S2x4096x2048 .f32) (g b : FVec Ideal S1x2048 .f32) (y : S8192x2048.Idx) :
    have h0 : (y 0 : Nat) < 8192 := (y 0).isLt
    layer h g b y = normed (fun k => h (ix3 ⟨(y 0 : Nat) / 4096, by omega⟩ ⟨(y 0 : Nat) % 4096, by omega⟩ k)) (g (ix2 0 (y 1))) (b (ix2 0 (y 1))) (y 1) := by
  unfold layer normed
  pointwise
  rw [centred_at, means_at]
  unfold mean
  simp only [mulf_apply, centred_at]
  rfl

end Cert.ReferenceIdeal.RefValue

end
-- ==== Proof.Finite.lean ====
/-
  The precondition read: every entry of the input, the memory slots and the two projections' weights is a real number.
-/
module

public import proofs.«01_k».proof.Pre_finite
public import Idealize.ShloMosaic.Lib.ReduceAll
public import Idealize.ShloMosaic.Lib.Pointwise
public import proofs.«01_k».proof.Proof.Maths

@[expose] public section

namespace Cert.Pre_finite

open Idealize.ShloMosaic Cert.Maths Facts

instance : Subsingleton S_.Idx := ⟨fun a b => funext fun i => Fin.elim0 i⟩

theorem infinity : Ideal.ofBits .f32 0x7F800000#32 = ⊤ := by
  simp [Ideal.ofBits, Ideal.ieee]

/-- An array whose absolute values are all below infinity has real entries. -/
theorem proper_of_all {s : Shape} {axes : List (Fin s.rank)} (x : FVec Ideal s .f32) (hb : S_.BroadcastsInDim s ![])
    (h : s.ReducesTo axes S_) (hu : 0 < S_.numel) (init : IVec S_ 1) (j : S_.Idx)
    (e : Host.reduce IntOp.andi (cmpf .olt (Host.absf x) (broadcastInDim s ![] hb (constant S_ .f32 0x7F800000#32))) init h hu j = 1#1)
    (i : s.Idx) : Proper (x i) := by
  have hi := Host.reduce_andi_all _ init h hu j e i
  have hlt : Host.absf x i < Ideal.ofBits .f32 0x7F800000#32 := by
    have : BitVec.ofBool (decide (Host.absf x i < Ideal.ofBits .f32 0x7F800000#32)) = 1#1 := hi
    by_contra hn
    rw [decide_eq_false hn] at this
    exact absurd this (by decide)
  rw [infinity] at hlt
  have habs : Host.absf x i = max (x i) (-(x i)) := rfl
  rw [habs, max_lt_iff] at hlt
  refine ⟨hlt.1.ne, fun hbot => ?_⟩
  rw [hbot] at hlt
  exact absurd hlt.2 (by simp)

/-- The predicate's side conditions. -/
theorem facts : Facts where
  bcast_S_S2x4096x2048 := by decide
  reducesTo_S2x4096x2048_S_d0_1_2 := by decide
  h_S_ := by decide
  bcast_S_S2x256x2048 := by decide
  reducesTo_S2x256x2048_S_d0_1_2 := by decide
  bcast_S_S1x2048x13856 := by decide
  reducesTo_S1x2048x13856_S_d0_1_2 := by decide
  bcast_S_S1x2048x2048 := by decide
  reducesTo_S1x2048x2048_S_d0_1_2 := by decide

variable [Facts]

/-- What the precondition says. -/
theorem finite_args (a0 : FVec Ideal S2x4096x2048 .f32) (a1 : FVec Ideal S2x256x2048 .f32) (a2 : FVec Ideal S1x2048x13856 .f32)
    (a3 : FVec Ideal S2x4096x2048 .f32) (a4 : FVec Ideal S2x4096x1024 .f32) (a5 a6 : FVec Ideal S1x2048x2048 .f32)
    (a7 a8 : FVec Ideal S1x1024x2048 .f32) (a9 : FVec Ideal S1x2048x2048 .f32) (a10 a11 : FVec Ideal S1x2048 .f32) (j : S_.Idx)
    (e : fn (F := Ideal) a0 a1 a2 a3 a4 a5 a6 a7 a8 a9 a10 a11 j = 1#1) :
    (∀ i, Proper (a0 i)) ∧ (∀ i, Proper (a1 i)) ∧ (∀ i, Proper (a2 i)) ∧ ∀ i, Proper (a5 i) := by
  obtain ⟨e, e5⟩ := IntOp.andi_eq_one.1 e
  obtain ⟨e, e2⟩ := IntOp.andi_eq_one.1 e
  obtain ⟨e0, e1⟩ := IntOp.andi_eq_one.1 e
  exact ⟨proper_of_all a0 _ _ _ _ j e0, proper_of_all a1 _ _ _ _ j e1, proper_of_all a2 _ _ _ _ j e2, proper_of_all a5 _ _ _ _ j e5⟩

end Cert.Pre_finite
-- ==== Proof.Agree.lean ====
/-
  The kernel's results and the reference's are the same functions of the arguments where the precondition holds.
-/
module

public import Idealize.ShloMosaic.Lib.Pointwise
public import proofs.«01_k».proof.Proof.Maths
public import proofs.«01_k».proof.Proof.KernelValue
public import proofs.«01_k».proof.Proof.RefValue

@[expose] public section

noncomputable section

namespace Cert.Agree

open Cert.ReferenceIdeal Cert.ReferenceIdeal.Gen Cert.Maths
open Idealize.ShloMosaic
open Cert.KernelIdeal.KernelValue (flat rows rowsN memRows turned sqN half vecRow rest kv mix)
open Cert.ReferenceIdeal.RefValue (proj memProj score expo soft heads gates mixed resid layer whole)

variable (x : FVec Ideal S2x4096x2048 .f32) (mem : FVec Ideal S2x256x2048 .f32) (w : FVec Ideal S1x2048x13856 .f32)
  (ya : FVec Ideal S2x4096x2048 .f32) (yb : FVec Ideal S2x4096x1024 .f32) (wm wa : FVec Ideal S1x2048x2048 .f32)
  (wb wd : FVec Ideal S1x1024x2048 .f32) (wo : FVec Ideal S1x2048x2048 .f32) (g b : FVec Ideal S1x2048 .f32)

/-- The batch entry of a flattened row. -/
def hi (r : Fin 8192) : Fin 2 := ⟨(r : Nat) / 4096, by omega⟩

/-- The position of a flattened row in its batch entry. -/
def lo (r : Fin 8192) : Fin 4096 := ⟨(r : Nat) % 4096, by omega⟩

theorem flat_at (r : Fin 8192) (k : Fin 2048) : flat x (ix2 r k) = x (ix3 (hi r) (lo r) k) := by
  unfold flat hi lo
  pointwise

theorem rows_at (r : Fin 8192) (k : Fin 2048) : rows x (ix2 r k) = x (ix3 (hi r) (lo r) k) := flat_at x r k

theorem rowsN_at (r : Fin 8192) (k : Fin 1024) : rowsN yb (ix2 r k) = yb (ix3 (hi r) (lo r) k) := by
  unfold rowsN hi lo
  pointwise

theorem sq_at (i k : Fin 2048) : Cert.KernelIdeal.KernelValue.sq wa (ix2 i k) = wa (ix3 0 i k) := by
  unfold Cert.KernelIdeal.KernelValue.sq
  pointwise

theorem half_at (i : Fin 1024) (k : Fin 2048) : half wb (ix2 i k) = wb (ix3 0 i k) := by
  unfold half
  pointwise

theorem vecRow_at (k : Fin 2048) : vecRow g (ix2 0 k) = g (ix2 0 k) := by
  unfold vecRow
  pointwise

theorem rest_at (r : Fin 8192) (k : Fin 8704) : rest x w (ix2 r k) = proj x w (ix3 (hi r) (lo r) k) := by
  rw [RefValue.proj_at]
  unfold rest Cert.KernelIdeal.InWide.prod Cert.KernelIdeal.InWide.wide rows flat turned hi lo
  pointwise

theorem kv_at (n : Fin 2) (j : Fin 256) (k : Fin 2048) :
    kv mem wm (ix2 ⟨256 * (n : Nat) + j, by omega⟩ k) = memProj mem wm (ix3 n j k) := by
  rw [RefValue.memProj_at]
  unfold kv Cert.KernelIdeal.MemKv.memProd memRows Cert.KernelIdeal.KernelValue.sq
  pointwise

/-- The first result. -/
theorem first : (truncf .bf16 (shapeCast S8192x8704 (proj x w) shapeCasts_S2x4096x8704_S8192x8704) bitsLt_bf16_f32 : FVec Ideal S8192x8704 .bf16)
    = rest x w := by
  funext i
  obtain ⟨r, k, rfl⟩ : ∃ r k, i = ix2 r k := ⟨i 0, i 1, by funext a; fin_cases a <;> rfl⟩
  rw [rest_at]
  unfold hi lo
  pointwise

theorem proj_proper (hx : ∀ i, Proper (x i)) (hw : ∀ i, Proper (w i)) (i : S2x4096x8704.Idx) : Proper (proj x w i) := by
  rw [RefValue.proj_at]
  exact Proper.sum fun k => (hx _).mul (hw _)

theorem memProj_proper (hm : ∀ i, Proper (mem i)) (hw : ∀ i, Proper (wm i)) (i : S2x256x2048.Idx) : Proper (memProj mem wm i) := by
  rw [RefValue.memProj_at]
  exact Proper.sum fun k => (hm _).mul (hw _)

/-- The attended values agree. -/
theorem heads_at (hx : ∀ i, Proper (x i)) (hm : ∀ i, Proper (mem i)) (hw : ∀ i, Proper (w i)) (hwm : ∀ i, Proper (wm i))
    (r : Fin 8192) (k : Fin 1024) :
    Cert.KernelIdeal.Attend.attended (rest x w) (kv mem wm) (ix2 r k)
      = heads (memProj mem wm) (soft (expo (score (proj x w) (memProj mem wm)))) (ix3 (hi r) (lo r) k) := by
  have hk : (k : Nat) < 1024 := k.isLt
  show attend (fun d : Fin 256 => rest x w (ix2 r ⟨1536 + 256 * ((k : Nat) / 256) + d, by omega⟩))
    (fun j d : Fin 256 => kv mem wm (ix2 ⟨256 * (hi r : Nat) + j, by omega⟩ ⟨256 * ((k : Nat) / 256) + d, by omega⟩))
    (fun j : Fin 256 => kv mem wm (ix2 ⟨256 * (hi r : Nat) + j, by omega⟩ ⟨1024 + (k : Nat), by omega⟩)) = _
  simp only [rest_at, kv_at]
  rw [attend_eq (fun d => proj_proper x w hx hw _) (fun j d => memProj_proper mem wm hm hwm _), RefValue.heads_at]
  unfold attendDiv
  refine Finset.sum_congr rfl fun j _ => ?_
  rw [RefValue.soft_at]
  simp only [RefValue.expo_at, RefValue.score_at]
  rfl

theorem gate_at (n : Fin 3) (i : S8192x2048.Idx) :
    gate (Cert.KernelIdeal.Merge.gateOf (rest x w) n i) = gates (proj x w) (ix4 (hi (i 0)) (lo (i 0)) n (i 1)) := by
  rw [RefValue.gates_at]
  exact congrArg gate (rest_at x w (i 0) _)

/-- The merged branches agree. -/
theorem mixed_at (hx : ∀ i, Proper (x i)) (hm : ∀ i, Proper (mem i)) (hw : ∀ i, Proper (w i)) (hwm : ∀ i, Proper (wm i))
    (r : Fin 8192) (k : Fin 2048) :
    mix x mem w ya yb wm wa wb wd (ix2 r k)
      = mixed (gates (proj x w)) ya wa yb wb (heads (memProj mem wm) (soft (expo (score (proj x w) (memProj mem wm))))) wd (ix3 (hi r) (lo r) k) := by
  rw [RefValue.mixed_at]
  unfold mix Cert.KernelIdeal.Merge.merged
  rw [gate_at, gate_at, gate_at]
  have e1 : ∀ c : Fin 2048, rows ya (ix2 r c) = ya (ix3 (hi r) (lo r) c) := fun c => rows_at ya r c
  have e2 : ∀ c : Fin 1024, rowsN yb (ix2 r c) = yb (ix3 (hi r) (lo r) c) := fun c => rowsN_at yb r c
  have e3 := fun c : Fin 1024 => heads_at x mem w wm hx hm hw hwm r c
  have e4 : ∀ c : Fin 2048, Cert.KernelIdeal.KernelValue.sq wa (ix2 c k) = wa (ix3 0 c k) := fun c => sq_at wa c k
  have e5 : ∀ c : Fin 1024, half wb (ix2 c k) = wb (ix3 0 c k) := fun c => half_at wb c k
  have e6 : ∀ c : Fin 1024, half wd (ix2 c k) = wd (ix3 0 c k) := fun c => half_at wd c k
  show _ * (∑ c : Fin 2048, rows ya (ix2 r c) * Cert.KernelIdeal.KernelValue.sq wa (ix2 c k)) + _ * (∑ c : Fin 1024, rowsN yb (ix2 r c) * half wb (ix2 c k))
    + _ * (∑ c : Fin 1024, Cert.KernelIdeal.Attend.attended (rest x w) (kv mem wm) (ix2 r c) * half wd (ix2 c k)) = _
  simp only [e1, e2, e3, e4, e5, e6]
  rfl

/-- The second result. -/
theorem second (hx : ∀ i, Proper (x i)) (hm : ∀ i, Proper (mem i)) (hw : ∀ i, Proper (w i)) (hwm : ∀ i, Proper (wm i)) :
    whole x mem w ya yb wm wa wb wd wo g b
      = Cert.KernelIdeal.OutNorm.outNorm (mix x mem w ya yb wm wa wb wd) (sqN wo) (flat x) (vecRow g) (vecRow b) := by
  funext i
  obtain ⟨r, k, rfl⟩ : ∃ r k, i = ix2 r k := ⟨i 0, i 1, by funext a; fin_cases a <;> rfl⟩
  unfold whole
  rw [RefValue.layer_at]
  show normed (fun c => resid x _ wo (ix3 (hi r) (lo r) c)) (g (ix2 0 k)) (b (ix2 0 k)) k
    = normed (Cert.KernelIdeal.OutNorm.resid _ _ _ r) (vecRow g (ix2 0 k)) (vecRow b (ix2 0 k)) k
  rw [vecRow_at, vecRow_at]
  refine congrArg (fun h => normed h (g (ix2 0 k)) (b (ix2 0 k)) k) (funext fun c => ?_)
  rw [RefValue.resid_at]
  unfold Cert.KernelIdeal.OutNorm.resid
  rw [flat_at]
  simp only [mixed_at x mem w ya yb wm wa wb wd hx hm hw hwm]
  have e4 : ∀ d : Fin 2048, sqN wo (ix2 d c) = wo (ix3 0 d c) := fun d => sq_at wo d c
  simp only [e4]
  rfl

end Cert.Agree

end
-- ==== Proof.InFrame.lean ====
/- The launch of the first part of the input projection, whose second kernel keeps the rounded rows and the `dt` columns
   in their output buffers from the first column block of a row block to its second. At the first column block both are
   stored; at the second nothing stores them, and the write-back there sends out what the first one left. -/
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Pipeline.ValueKit.Acc

@[expose] public section

set_option maxRecDepth 16384

noncomputable section

namespace Cert.Kernel2Ideal.InFrame

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S1x512x2048 := Rect.unit (s := S1x512x2048) ![0, 0, 0] S1x512x2048.size inb_S1x512x2048_S1x512x2048_0_0_0
abbrev r0_1 : Rect S2048x512 := Rect.unit (s := S2048x512) ![0, 0] S2048x512.size inb_S2048x512_S2048x512_0_0

def out0_1 (x0 : Vec F S1x512x2048 .f32) : Vec F S2048x512 .bf16 :=
  View.canon [⟨r0_1, k0_pay1 (View.ld x0 r0_0)⟩]

theorem cover0_1 (p0 : Vec F S2048x512 .bf16) (y : S2048x512.Idx) :
    ∃ pc ∈ ([⟨r0_1, p0⟩] : List (View.Piece (Elt F) S2048x512 .bf16)), y ∈ pc.1.set :=
  View.cover_of_tiled [⟨r0_1, p0⟩] S2048x512.size (by rfl) y

set_option maxHeartbeats 1000000 in
/-- The cast of one slab of the weights: the body leaves the transposed, rounded slab in its output buffer. -/
theorem sound_kernel0 (c : Dev nD) (E : Set ℕ) (i : grid0.Coords) (arg1 : Memref sig .tc .vmem S1x512x2048 .f32) (harg1 : arg1.IsWhole) (arg2 : Memref sig .tc .vmem S2048x512 .bf16) (harg2 : arg2.IsWhole)
    (x0 : Vec F S1x512x2048 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0_wcast_a i arg1 harg1 arg2 harg2) K := by
  simp only [cc0_wcast_a_eq_skeleton]; unfold cc0_wcast_a_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ (grid0.coords t) _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! ## The second kernel: one block of rows against one of the two column blocks -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The body's `pl.when` is taken at the first column block of every row block. -/
theorem first_iff : ∀ t : Fin cfg1.N, k1_cond1 (grid1.coords t) = 1#1 ↔ t.val % 2 = 0 :=
  (by decide +kernel : ∀ t : Fin grid1.N, k1_cond1 (grid1.coords t) = 1#1 ↔ t.val % 2 = 0)

/-- The point at which a row block meets its first column block. -/
def lead (t : Fin cfg1.N) : Fin cfg1.N := ⟨t.val - t.val % 2, lt_of_le_of_lt (Nat.sub_le _ _) t.isLt⟩

theorem lead_even (t : Fin cfg1.N) (h : t.val % 2 = 0) : lead t = t := by
  apply Fin.ext; show t.val - t.val % 2 = t.val; omega

theorem lead_prev (t : Fin cfg1.N) (h : t.val % 2 = 1) :
    (⟨t.val - 1, Nat.lt_of_le_of_lt (Nat.sub_le _ _) t.isLt⟩ : Fin cfg1.N) = lead t := by
  apply Fin.ext; show t.val - 1 = t.val - t.val % 2; omega

set_option maxHeartbeats 1000000 in
/-- The body at a first column block: the rows are rounded and kept, the `dt` columns and the block are computed. -/
theorem run_first (c : Dev nD) (E : Set ℕ) (i : grid1.Coords) (hc : k1_cond1 i = 1#1)
    (arg2 : Memref sig .tc .vmem S512x2048 .f32) (harg2 : arg2.IsWhole) (arg3 : Memref sig .tc .vmem S2048x2560 .bf16) (harg3 : arg3.IsWhole)
    (arg4 : Memref sig .tc .vmem S2048x128 .bf16) (harg4 : arg4.IsWhole) (arg5 : Memref sig .tc .vmem S512x2560 .bf16) (harg5 : arg5.IsWhole)
    (arg6 : Memref sig .tc .vmem S512x128 .f32) (harg6 : arg6.IsWhole) (arg7 : Memref sig .tc .vmem S512x2048 .bf16) (harg7 : arg7.IsWhole)
    (x0 : Vec F S512x2048 .f32) (x1 : Vec F S2048x2560 .bf16) (x2 : Vec F S2048x128 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k1_pay3 (k1_pay1 x0) x1) ∗ owns (c : Thread nD τ) arg6 fullShare (k1_pay2 x0 x2)
            ∗ owns (c : Thread nD τ) arg7 fullShare (k1_pay1 x0)) -∗ K ⟨⟩))
      ⊢ wp frame (wpE (defs₀ (F := F)) Variants.none c none) E (cc1_inproj i arg2 harg2 arg3 harg3 arg4 harg4 arg5 harg5 arg6 harg6 arg7 harg7) K := by
  simp only [cc1_inproj_eq_skeleton]; unfold cc1_inproj_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  obtain rfl := harg2.eq_unread hf0; obtain rfl := harg3.eq_unread hf1; obtain rfl := harg4.eq_unread hf2
  sl_exec (disch := sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    rw [View.read_writes_eq_canon _ _ _ (fun y => View.cover_of_tiled _ S512x2560.size (by rfl) y)]
    sl_unfold_words
    frame_out
  isplitl [H4]
  · iexists _; isplitr
    swap; · iexact H4
    ipureintro
    rw [View.read_writes_eq_canon _ _ _ (fun y => View.cover_of_tiled _ S512x128.size (by rfl) y)]
    frame_out
  iexists _; isplitr
  swap; · iexact H5
  ipureintro
  sl_unfold_words
  rw [View.read_writes_eq_canon _ _ _ (fun y => View.cover_of_tiled _ S512x2048.size (by rfl) y)]
  frame_out

set_option maxHeartbeats 1000000 in
/-- The body at a second column block: the block is computed from the kept rows; nothing else is stored. -/
theorem run_second (c : Dev nD) (E : Set ℕ) (i : grid1.Coords) (hc : ¬ k1_cond1 i = 1#1)
    (arg2 : Memref sig .tc .vmem S512x2048 .f32) (harg2 : arg2.IsWhole) (arg3 : Memref sig .tc .vmem S2048x2560 .bf16) (harg3 : arg3.IsWhole)
    (arg4 : Memref sig .tc .vmem S2048x128 .bf16) (harg4 : arg4.IsWhole) (arg5 : Memref sig .tc .vmem S512x2560 .bf16) (harg5 : arg5.IsWhole)
    (arg6 : Memref sig .tc .vmem S512x128 .f32) (harg6 : arg6.IsWhole) (arg7 : Memref sig .tc .vmem S512x2048 .bf16) (harg7 : arg7.IsWhole)
    (x1 : Vec F S2048x2560 .bf16) (b : Vec F S512x2048 .bf16) (K : PUnit → sProp 𝕄) :
    iprop(owns (c : Thread nD τ) arg3 fullShare x1 ∗ (∃ d, owns (c : Thread nD τ) arg5 fullShare d) ∗ owns (c : Thread nD τ) arg7 fullShare b
        ∗ (iprop(owns (c : Thread nD τ) arg3 fullShare x1 ∗ owns (c : Thread nD τ) arg5 fullShare (k1_pay3 b x1)
            ∗ owns (c : Thread nD τ) arg7 fullShare b) -∗ K ⟨⟩))
      ⊢ wp frame (wpE (defs₀ (F := F)) Variants.none c none) E (cc1_inproj i arg2 harg2 arg3 harg3 arg4 harg4 arg5 harg5 arg6 harg6 arg7 harg7) K := by
  simp only [cc1_inproj_eq_skeleton]; unfold cc1_inproj_skel
  unfold owns
  iintro ⟨⟨%f1, %hf1, H1⟩, ⟨%d3, %f3, -, H3⟩, ⟨%f5, %hf5, H5⟩, Hk⟩
  obtain rfl := harg3.eq_unread hf1; obtain rfl := harg7.eq_unread hf5
  sl_exec (disch := sl_exact hc)
  sl_step
  iapply Hk
  isplitl [H1]
  · iexists _; isplitr; · ipureintro; exact harg3.read_unread _
    iexact H1
  isplitl [H3]
  · iexists _; isplitr
    swap; · iexact H3
    ipureintro
    rw [View.read_writes_eq_canon _ _ _ (fun y => View.cover_of_tiled _ S512x2560.size (by rfl) y)]
    frame_out
  iexists _; isplitr; · ipureintro; exact harg7.read_unread _
  iexact H5

/-! ## What the kernel's buffers hold, point by point -/

/-- After the body: each input's block as it was; the block of the projection; and the `dt` columns and the rounded rows of
    the row block, those of its first point. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (k1_pay1 (iblk1 V c 0 (lead t))) (iblk1 V c 1 t)
    | ⟨4, _⟩ => k1_pay2 (iblk1 V c 0 (lead t)) (iblk1 V c 2 (lead t))
    | ⟨5, _⟩ => k1_pay1 (iblk1 V c 0 (lead t))
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay3 (k1_pay1 (iblk1 V c 0 (lead t))) (iblk1 V c 1 t) := by dsimp only [dat1]
theorem after1_4 (c : Dev nD) (t : Fin cfg1.N) :
    (dat1 V c).after 4 t = k1_pay2 (iblk1 V c 0 (lead t)) (iblk1 V c 2 (lead t)) := by dsimp only [dat1]
theorem after1_5 (c : Dev nD) (t : Fin cfg1.N) : (dat1 V c).after 5 t = k1_pay1 (iblk1 V c 0 (lead t)) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

theorem live1 (w : Fin cfg1.W) (hw : w = 4 ∨ w = 5) (t : Fin cfg1.N) (h : t.val % 2 = 0) :
    cfg1.idle w (cfg1.grid.coords t) = false := by
  have e := (first_iff t).mpr h
  rcases hw with rfl | rfl
  · show (!(k1_cond1 (grid1.coords t) == 1#1)) = false
    rw [e]; rfl
  · show (!(k1_cond1 (grid1.coords t) == 1#1)) = false
    rw [e]; rfl

theorem still1 (w : Fin cfg1.W) (hw : w = 4 ∨ w = 5) (t : Fin cfg1.N) (h : t.val % 2 = 1) :
    cfg1.idle w (cfg1.grid.coords t) = true := by
  have e : ¬ k1_cond1 (grid1.coords t) = 1#1 := fun h' => by have := (first_iff t).mp h'; omega
  have e' : (k1_cond1 (grid1.coords t) == 1#1) = false := by simpa using e
  rcases hw with rfl | rfl
  · show (!(k1_cond1 (grid1.coords t) == 1#1)) = true
    rw [e']; rfl
  · show (!(k1_cond1 (grid1.coords t) == 1#1)) = true
    rw [e']; rfl

theorem keeps1 (w : Fin cfg1.W) (hw : w = 4 ∨ w = 5) (t : Fin cfg1.N) (h : t.val % 2 = 0) :
    (cfg1.win w).flush t = false := by
  rcases hw with rfl | rfl
  · exact Bool.eq_false_iff.mpr fun e => by have := (flush1_4 t).mp e; omega
  · exact Bool.eq_false_iff.mpr fun e => by have := (flush1_5 t).mp e; omega

/-- At a second column block the buffer of the `dt` columns holds what the first left. -/
theorem found1_4 (c : Dev nD) (t : Fin cfg1.N) (h : t.val % 2 = 1) (d) :
    (dat1 V c).before 4 t d = k1_pay2 (iblk1 V c 0 (lead t)) (iblk1 V c 2 (lead t)) := by
  have hp := lead_prev t h
  have h0 : (lead t).val % 2 = 0 := by show (t.val - t.val % 2) % 2 = 0; omega
  rw [(dat1 V c).before_of_pos 4 t (by omega) ((cfg1.win 4).fetch_out rfl t), hp, keeps1 4 (.inl rfl) _ h0, if_neg Bool.false_ne_true]
  unfold Dat.left
  rw [live1 4 (.inl rfl) _ h0]
  show (dat1 V c).kept 4 (lead t) d = _
  unfold Dat.kept
  rw [Pipeline.fill_of_clip_none (cfg := cfg1) 4 _ (fun _ => rfl) d ((dat1 V c).after 4 (lead t)), Pipeline.Window.fill_cut, after1_4,
    lead_even _ h0]

/-- At a second column block the buffer of the rounded rows holds what the first left. -/
theorem found1_5 (c : Dev nD) (t : Fin cfg1.N) (h : t.val % 2 = 1) (d) :
    (dat1 V c).before 5 t d = k1_pay1 (iblk1 V c 0 (lead t)) := by
  have hp := lead_prev t h
  have h0 : (lead t).val % 2 = 0 := by show (t.val - t.val % 2) % 2 = 0; omega
  rw [(dat1 V c).before_of_pos 5 t (by omega) ((cfg1.win 5).fetch_out rfl t), hp, keeps1 5 (.inr rfl) _ h0, if_neg Bool.false_ne_true]
  unfold Dat.left
  rw [live1 5 (.inr rfl) _ h0]
  show (dat1 V c).kept 5 (lead t) d = _
  unfold Dat.kept
  rw [Pipeline.fill_of_clip_none (cfg := cfg1) 5 _ (fun _ => rfl) d ((dat1 V c).after 5 (lead t)), Pipeline.Window.fill_cut, after1_5,
    lead_even _ h0]

/-! ## The body at a point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t ∗ (dat1 V c).leavesExact 5 t)

theorem leaves_4 (c : Dev nD) (t : Fin cfg1.N) : (dat1 V c).leavesExact 4 t
    = owns (c : Thread nD τ) (st1_4 t) fullShare (k1_pay2 (iblk1 V c 0 (lead t)) (iblk1 V c 2 (lead t))) := by
  rw [← after1_4]
  unfold Dat.leavesExact
  rcases Nat.mod_two_eq_zero_or_one t.val with h | h
  · rw [live1 4 (.inl rfl) t h]
  · rw [still1 4 (.inl rfl) t h, (flush1_4 t).mpr h]

theorem leaves_5 (c : Dev nD) (t : Fin cfg1.N) : (dat1 V c).leavesExact 5 t
    = owns (c : Thread nD τ) (st1_5 t) fullShare (k1_pay1 (iblk1 V c 0 (lead t))) := by
  rw [← after1_5]
  unfold Dat.leavesExact
  rcases Nat.mod_two_eq_zero_or_one t.val with h | h
  · rw [live1 5 (.inr rfl) t h]
  · rw [still1 5 (.inr rfl) t h, (flush1_5 t).mpr h]

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  rw [leaves_4, leaves_5,
    show (dat1 V c).leavesExact 0 t = owns (c : Thread nD τ) (st1_0 t) fullShare ((dat1 V c).after 0 t) from rfl,
    show (dat1 V c).leavesExact 1 t = owns (c : Thread nD τ) (st1_1 t) fullShare ((dat1 V c).after 1 t) from rfl,
    show (dat1 V c).leavesExact 2 t = owns (c : Thread nD τ) (st1_2 t) fullShare ((dat1 V c).after 2 t) from rfl,
    show (dat1 V c).leavesExact 3 t = owns (c : Thread nD τ) (st1_3 t) fullShare ((dat1 V c).after 3 t) from rfl,
    after1_0, after1_1, after1_2, after1_3]
  simp only [before1_0, before1_1, before1_2]
  rw [show (dat1 V c).Φ t.succ = (dat1 V c).Φ t.castSucc from rfl,
    show (dat1 V c).owesAt () t.succ = (dat1 V c).owesAt () t.castSucc from rfl]
  rcases Nat.mod_two_eq_zero_or_one t.val with h | h
  · rw [lead_even t h]
    iintro ⟨HΦ, Ho, ⟨%d0, H0⟩, ⟨%d1, H1⟩, ⟨%d2, H2⟩, ⟨%d3, H3⟩, ⟨%d4, H4⟩, ⟨%d5, H5⟩⟩
    iapply (run_first c Set.univ (grid1.coords t) ((first_iff t).mpr h) _ _ _ _ _ _ _ _ _ _ _ _ (iblk1 V c 0 t) (iblk1 V c 1 t) (iblk1 V c 2 t) _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · simp only [found1_4 V c t h, found1_5 V c t h]
    iintro ⟨HΦ, Ho, ⟨%d0, H0⟩, ⟨%d1, H1⟩, ⟨%d2, H2⟩, ⟨%d3, H3⟩, ⟨%d4, H4⟩, ⟨%d5, H5⟩⟩
    iapply (run_second c Set.univ (grid1.coords t) (fun e => by have := (first_iff t).mp e; omega) _ _ _ _ _ _ _ _ _ _ _ _ (iblk1 V c 1 t)
      (k1_pay1 (iblk1 V c 0 (lead t))) _)
    isplitl [H1]; · iexact H1
    isplitl [H3]; · iexists _; iexact H3
    isplitl [H5]; · iexact H5
    iintro ⟨H1, H3, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

abbrev argRefs : List (Ref sig .tc) := [main_arg0, main_arg1]

theorem hostOps0_fresh : (hostOps0 : List (HloOp τ sig (Elt F))).Forall fun op => op.fresh = ∅ := by
  simp only [List.Forall]; repeat' constructor
abbrev hostOps0_W : List (Ref sig .tc) := [main_v0, main_v1, main_v2, main_v3, main_v4, main_c]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps0_1_fresh : (hostOps0_1 : List (HloOp τ sig (Elt F))).Forall fun op => op.fresh = ∅ := by
  simp only [List.Forall]; repeat' constructor
abbrev hostOps0_1_W : List (Ref sig .tc) := [main_call0_v0, main_v5]
theorem hostOps0_1_writes : (hostOps0_1 : List (HloOp τ sig (Elt F))).Forall fun op => op.writes ⊆ (hostOps0_1_W.map (Proc.devRef (τ := τ) .tc)).toFinset :=
  StableHlo.forall_writes_sub_of_map rfl
theorem hostOps0_1_args : ∀ a ∈ argRefs, a ∉ hostOps0_1_W := ListAll.forall_mem_of_all_decide (by decide +kernel)

theorem hostOps0_2_fresh : (hostOps0_2 : List (HloOp τ sig (Elt F))).Forall fun op => op.fresh = ∅ := by
  simp only [List.Forall]; repeat' constructor
abbrev hostOps0_2_W : List (Ref sig .tc) := [main_v6]
theorem hostOps0_2_writes : (hostOps0_2 : List (HloOp τ sig (Elt F))).Forall fun op => op.writes ⊆ (hostOps0_2_W.map (Proc.devRef (τ := τ) .tc)).toFinset :=
  StableHlo.forall_writes_sub_of_map rfl
theorem hostOps0_2_args : ∀ a ∈ argRefs, a ∉ hostOps0_2_W := ListAll.forall_mem_of_all_decide (by decide +kernel)

theorem hostOps2_fresh : (hostOps2 : List (HloOp τ sig (Elt F))).Forall fun op => op.fresh = ∅ := by
  simp only [List.Forall]; repeat' constructor
abbrev hostOps2_W : List (Ref sig .tc) := [main_v9]
theorem hostOps2_writes : (hostOps2 : List (HloOp τ sig (Elt F))).Forall fun op => op.writes ⊆ (hostOps2_W.map (Proc.devRef (τ := τ) .tc)).toFinset :=
  StableHlo.forall_writes_sub_of_map rfl
theorem hostOps2_args : ∀ a ∈ argRefs, a ∉ hostOps2_W := ListAll.forall_mem_of_all_decide (by decide +kernel)

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev W2 : Dev nD → Valuation τ sig (Elt F) := fun c => StableHlo.after hostOps0_1 (W1 m ρ c)
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a (hostOps0_1_args a ha)).trans (W1_args m ρ c a ha)
abbrev W3 : Dev nD → Valuation τ sig (Elt F) := fun c => StableHlo.after hostOps0_2 (W2 m ρ c)
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W3_args (c : Dev nD) : ∀ a ∈ argRefs, W3 m ρ c (Proc.devRef .tc a) = m ((c : Thread nD τ).loc a) :=
  fun a ha => (W3_of m ρ c a (hostOps0_2_args a ha)).trans (W2_args m ρ c a ha)
abbrev V3 : (c : Dev nD) → (b : Ref sig .tc) → Buf (Elt F) ((c : Thread nD τ).loc b) := fun c b => W3 m ρ c b
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
theorem W4_of (c : Dev nD) (r : Ref sig .tc) (h : ∀ w : Fin cfg0.W, Pipeline.arrRef spec0 w = r → (cfg0.win w).isOut = false) :
    W4 m ρ c (Proc.devRef .tc r) = W3 m ρ c (Proc.devRef .tc r) := by
  by_cases hw : ∃ w : Fin cfg0.W, Pipeline.arrRef spec0 w = r
  · obtain ⟨w, rfl⟩ := hw
    exact (W4_arr m ρ c w).trans (((dat0 (V3 m ρ) c).arrAt_in w (h w rfl) _).trans (A_eq0 (V3 m ρ) c w))
  · exact W4_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn0 a ha)).trans (W3_args m ρ c a ha)
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
theorem W5_of (c : Dev nD) (r : Ref sig .tc) (h : ∀ w : Fin cfg1.W, Pipeline.arrRef spec1 w = r → (cfg1.win w).isOut = false) :
    W5 m ρ c (Proc.devRef .tc r) = W4 m ρ c (Proc.devRef .tc r) := by
  by_cases hw : ∃ w : Fin cfg1.W, Pipeline.arrRef spec1 w = r
  · obtain ⟨w, rfl⟩ := hw
    exact (W5_arr m ρ c w).trans (((dat1 (V4 m ρ) c).arrAt_in w (h w rfl) _).trans (A_eq1 (V4 m ρ) c w))
  · exact W5_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn1 a ha)).trans (W4_args m ρ c a ha)
abbrev V5 : (c : Dev nD) → (b : Ref sig .tc) → Buf (Elt F) ((c : Thread nD τ).loc b) := fun c b => W5 m ρ c b
theorem hF1 (c : Dev nD) (w : Fin cfg1.W) : (dat1 (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)

abbrev W6 : Dev nD → Valuation τ sig (Elt F) := fun c => StableHlo.after hostOps2 (W5 m ρ c)
theorem W6_of (c : Dev nD) (r : Ref sig .tc) (h : r ∉ hostOps2_W) : W6 m ρ c (Proc.devRef .tc r) = W5 m ρ c (Proc.devRef .tc r) :=
  StableHlo.after_of_writes_sub hostOps2 _ hostOps2_writes h
theorem W6_args (c : Dev nD) : ∀ a ∈ argRefs, W6 m ρ c (Proc.devRef .tc a) = m ((c : Thread nD τ).loc a) :=
  fun a ha => (W6_of m ρ c a (hostOps2_args a ha)).trans (W5_args m ρ c a ha)

theorem W6_main_arg0 (c : Dev nD) : W6 m ρ c (Proc.devRef .tc main_arg0) = m ((c : Thread nD τ).loc main_arg0) :=
  W6_args m ρ c main_arg0 (by decide)
theorem W6_main_arg1 (c : Dev nD) : W6 m ρ c (Proc.devRef .tc main_arg1) = m ((c : Thread nD τ).loc main_arg1) :=
  W6_args m ρ c main_arg1 (by decide)

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V4 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) (A_eq0 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V4 m ρ c) (A_eq1 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .region (reg1 m ρ),
    .host (hseg hostOps2 hostOps2_sub hostOps2_fresh (W5 m ρ)) ]
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- Every execution ends, with the arguments as launched and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨(fun c =>
      ⟨(h c _ (mem_uc main_arg0 (by decide))).trans (W6_main_arg0 m ρ c),
       (h c _ (mem_uc main_arg1 (by decide))).trans (W6_main_arg1 m ρ c)⟩), funext fun g => hz g (.inr (no_unscoped g.2))⟩)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h => h.1) (frame m ρ)

end Cert.Kernel2Ideal.InFrame

end
-- ==== Proof.InRun.lean ====
/-
  The run of the first part of the input projection, read at its three results: every fair execution ends with them as the
  last segment leaves them, the arguments as launched and every counter at zero. Over any float values.
-/
module

public import proofs.«01_k».proof.Proof.InFrame

@[expose] public section

set_option maxRecDepth 16384

noncomputable section

namespace Cert.Kernel2Ideal.InRun

open Cert.Kernel2Ideal Cert.Kernel2Ideal.Gen Cert.Kernel2Ideal.InFrame
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch over the program's segments, the last thread state read at the results and at the arguments. -/
theorem run : θ_run defs (onTc (τ := τ) (main (F := F))) ⟨m, fun _ => 0, ρ⟩ (fun r => (∀ c : Dev nD,
      r.2.mem ((c.tc : Thread nD τ).loc main_v8_0) = W6 m ρ c (Proc.devRef .tc main_v8_0)
      ∧ r.2.mem ((c.tc : Thread nD τ).loc main_v9) = W6 m ρ c (Proc.devRef .tc main_v9)
      ∧ r.2.mem ((c.tc : Thread nD τ).loc main_v8_2) = W6 m ρ c (Proc.devRef .tc main_v8_2)
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨(fun c =>
      ⟨h c _ (mem_uc main_v8_0 (by decide)),
       h c _ (mem_uc main_v9 (by decide)),
       h c _ (mem_uc main_v8_2 (by decide)),
       (h c _ (mem_uc main_arg0 (by decide))).trans (W6_main_arg0 m ρ c),
       (h c _ (mem_uc main_arg1 (by decide))).trans (W6_main_arg1 m ρ c)⟩), funext fun g => hz g (.inr (no_unscoped g.2))⟩)

end Cert.Kernel2Ideal.InRun

end
-- ==== Proof.InFirst.lean ====
/-
  The first part of the input projection: its two regions as functions of the arrays they are entered with, at the ideal
  instance.
-/
module

public import proofs.«01_k».proof.Proof.InFrame
public import Idealize.ShloMosaic.Lib.Pipeline.Value
public import Idealize.ShloMosaic.Lib.Pipeline.ValueKit
public import Idealize.ShloMosaic.Lib.Pointwise

@[expose] public section

noncomputable section

namespace Cert.Kernel2Ideal.InFirst

open Cert.Kernel2Ideal Cert.Kernel2Ideal.Gen Cert.Kernel2Ideal.InFrame
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The weight columns the first region lays out: entry `(k, j)` is row `j`, column `k` of the transposed weights. -/
def front (w : FVec Ideal S1x13856x2048 .f32) : FVec Ideal S2048x5120 .bf16 :=
  fun i => w (ix3 0 ⟨(i 1 : Nat), by have := (i 1).isLt; simp at this; omega⟩ (i 0))

theorem front_final (c : Dev nD) : (dat0 V c).arrAt 1 cfg0.N = front (V c main_v1) := by
  refine (dat0 V c).arrAt_eq_of_covers 1 _ (by decide +kernel) fun t hf y => ?_
  blk_simp
  rw [after0_1]
  unfold out0_1
  frame_out
  unfold k0_pay1
  pointwise
  unfold iblk0
  show V c main_v1 (((cfg0.win 0).blk t).view.emb (ix3 0 (y 1) (y 0))) = _
  unfold front
  have h0 : ∀ t : Fin grid0.N, cc0_transform_0 (grid0.coords t) = ![0, 512 * t.val, 0] := by decide +kernel
  have h1 : ∀ t : Fin grid0.N, win0_1.index t 0 = 0 ∧ win0_1.index t 1 = t.val := by decide +kernel
  refine congrArg _ (funext fun a => Fin.ext ?_)
  refine (ValueKit.view_emb_slice_whole_unit_val main_v1 (cc0_transform_0 (grid0.coords t)) S1x512x2048.size (hinbE0_0 _) _ a).trans ?_
  refine (congrArg (· + _) (congrFun (h0 t) a)).trans ?_
  fin_cases a
  · rfl
  · show 512 * t.val + (y 1).val = ((((cfg0.win 1).blk t).view.emb y : S2048x5120.Idx) 1).val
    blk_simp
    rw [(h1 t).2]; omega
  · show 0 + (y 0).val = ((((cfg0.win 1).blk t).view.emb y : S2048x5120.Idx) 0).val
    blk_simp
    rw [(h1 t).1]; omega

/-- Rows times columns. -/
def prodA (x : FVec Ideal S8192x2048 .f32) (w : FVec Ideal S2048x5120 .bf16) : FVec Ideal S8192x5120 .bf16 :=
  fun i => ∑ k : Fin 2048, x (ix2 (i 0) k) * w (ix2 k (i 1))

/-- Rows times the padded `dt` columns. -/
def prodDt (x : FVec Ideal S8192x2048 .f32) (w : FVec Ideal S2048x128 .bf16) : FVec Ideal S8192x128 .f32 :=
  fun i => ∑ k : Fin 2048, x (ix2 (i 0) k) * w (ix2 k (i 1))

/-- The rows narrowed. -/
def narrow (x : FVec Ideal S8192x2048 .f32) : FVec Ideal S8192x2048 .bf16 := truncf .bf16 x bitsLt_bf16_f32

/-- The block of rows at a point is the one of the point's row. -/
theorem lead_rows : ∀ t : Fin grid1.N, win1_0.index (lead t) 0 = t.val / 2 ∧ win1_0.index (lead t) 1 = 0 := by decide +kernel

theorem rows_block (c : Dev nD) (t : Fin cfg1.N) (p : Fin 512) (k : Fin 2048) (r : Fin 8192) (hr : r.val = t.val / 2 * 512 + p.val) :
    iblk1 V c 0 (lead t) (ix2 p k) = V c main_v0 (ix2 r k) := by
  unfold iblk1
  show V c main_v0 (((cfg1.win 0).blk (lead t)).view.emb (ix2 p k)) = _
  refine congrArg _ (funext fun a => Fin.ext ?_)
  fin_cases a
  · blk_simp; simp only [(lead_rows t).1]
    show _ + p.val = r.val
    rw [hr]
  · blk_simp; simp only [(lead_rows t).2]; exact Nat.zero_add _

theorem prodA_final (c : Dev nD) : (dat1 V c).arrAt 3 cfg1.N = prodA (V c main_v0) (V c main_v7) := by
  refine (dat1 V c).arrAt_eq_of_covers 3 _ (by decide +kernel) fun t hf y => ?_
  blk_simp
  rw [after1_3]
  unfold k1_pay3 k1_pay1
  pointwise
  have h3 : ∀ t : Fin grid1.N, win1_3.index t 0 = t.val / 2 := by decide +kernel
  have h1 : ∀ t : Fin grid1.N, win1_1.index t 0 = 0 ∧ win1_1.index t 1 = win1_3.index t 1 := by decide +kernel
  have hx : ∀ k : Fin 2048, iblk1 V c 0 (lead t) (ix2 (y 0) k) = V c main_v0 (ix2 ((((cfg1.win 3).blk t).view.emb y : S8192x5120.Idx) 0) k) := fun k => by
    refine rows_block V c t (y 0) k _ ?_
    blk_simp
    rw [h3 t]
  have hw : ∀ k : Fin 2048, iblk1 V c 1 t (ix2 k (y 1)) = V c main_v7 (ix2 k ((((cfg1.win 3).blk t).view.emb y : S8192x5120.Idx) 1)) := fun k => by
    unfold iblk1
    show V c main_v7 (((cfg1.win 1).blk t).view.emb (ix2 k (y 1))) = _
    refine congrArg _ (funext fun a => Fin.ext ?_)
    fin_cases a
    · blk_simp; simp only [(h1 t).1]; exact Nat.zero_add _
    · blk_simp; simp only [(h1 t).2]
      show _ + (y 1).val = ((((cfg1.win 3).blk t).view.emb y : S8192x5120.Idx) 1).val
      blk_simp
  simp only [hx, hw]
  rfl

theorem prodDt_final (c : Dev nD) : (dat1 V c).arrAt 4 cfg1.N = prodDt (V c main_v0) (V c main_v6) := by
  refine (dat1 V c).arrAt_eq_of_covers 4 _ (by decide +kernel) fun t hf y => ?_
  blk_simp
  rw [after1_4]
  unfold k1_pay2 k1_pay1
  pointwise
  have h4 : ∀ t : Fin grid1.N, win1_4.index t 0 = t.val / 2 ∧ win1_4.index t 1 = 0 := by decide +kernel
  have h2 : ∀ t : Fin grid1.N, win1_2.index (lead t) 0 = 0 ∧ win1_2.index (lead t) 1 = 0 := by decide +kernel
  have hx : ∀ k : Fin 2048, iblk1 V c 0 (lead t) (ix2 (y 0) k) = V c main_v0 (ix2 ((((cfg1.win 4).blk t).view.emb y : S8192x128.Idx) 0) k) := fun k => by
    refine rows_block V c t (y 0) k _ ?_
    blk_simp
    rw [(h4 t).1]
  have hw : ∀ k : Fin 2048, iblk1 V c 2 (lead t) (ix2 k (y 1)) = V c main_v6 (ix2 k ((((cfg1.win 4).blk t).view.emb y : S8192x128.Idx) 1)) := fun k => by
    unfold iblk1
    show V c main_v6 (((cfg1.win 2).blk (lead t)).view.emb (ix2 k (y 1))) = _
    refine congrArg _ (funext fun a => Fin.ext ?_)
    fin_cases a
    · blk_simp; simp only [(h2 t).1]; exact Nat.zero_add _
    · blk_simp; simp only [(h2 t).2]
      show _ + (y 1).val = ((((cfg1.win 4).blk t).view.emb y : S8192x128.Idx) 1).val
      blk_simp
      rw [(h4 t).2]; omega
  simp only [hx, hw]
  rfl

theorem narrow_final (c : Dev nD) : (dat1 V c).arrAt 5 cfg1.N = narrow (V c main_v0) := by
  refine (dat1 V c).arrAt_eq_of_covers 5 _ (by decide +kernel) fun t hf y => ?_
  blk_simp
  rw [after1_5]
  unfold k1_pay1 narrow
  pointwise
  have h5 : ∀ t : Fin grid1.N, win1_5.index t 0 = t.val / 2 ∧ win1_5.index t 1 = 0 := by decide +kernel
  obtain ⟨p, k, rfl⟩ : ∃ p k, y = ix2 p k := ⟨y 0, y 1, by funext a; fin_cases a <;> rfl⟩
  refine (rows_block V c t p k ((((cfg1.win 5).blk t).view.emb (ix2 p k) : S8192x2048.Idx) 0) ?_).trans ?_
  · blk_simp
    rw [(h5 t).1]
  · refine congrArg _ (funext fun a => Fin.ext ?_)
    fin_cases a
    · rfl
    · show k.val = ((((cfg1.win 5).blk t).view.emb (ix2 p k) : S8192x2048.Idx) 1).val
      blk_simp
      rw [(h5 t).2]
      exact (Nat.zero_add _).symm

end Cert.Kernel2Ideal.InFirst

end
-- ==== Proof.InValue.lean ====
/-
  The three results of the first part of the input projection as functions of its two arguments, and the reference's, at the
  ideal instance: the same functions.
-/
module

public import proofs.«01_k».proof.Proof.InFirst
public import proofs.«01_k».proof.Proof.Gen.Reference2Ideal.Run
public import Idealize.ShloMosaic.Lib.IdealHost
public import Idealize.ShloMosaic.Lib.KernelVsHost

@[expose] public section

noncomputable section

namespace Cert.Kernel2Ideal.InValue

open Cert.Kernel2Ideal Cert.Kernel2Ideal.Gen Cert.Kernel2Ideal.InFrame Cert.Kernel2Ideal.InFirst
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The input flattened to rows. -/
def flat (x : FVec Ideal S2x4096x2048 .f32) : FVec Ideal S8192x2048 .f32 :=
  shapeCast S8192x2048 x shapeCasts_S2x4096x2048_S8192x2048

/-- The input projection weights transposed. -/
def turned (x : FVec Ideal S1x2048x13856 .f32) : FVec Ideal S1x13856x2048 .f32 :=
  transpose S1x13856x2048 [0, 2, 1] x transposes_S1x2048x13856_S1x13856x2048_0_2_1

/-- The 32 `dt` columns of the weights. -/
def thin (x : FVec Ideal S1x2048x13856 .f32) : FVec Ideal S2048x32 .f32 :=
  transpose S2048x32 [1, 0] (shapeCast S32x2048 (extractStridedSlice S1x32x2048 ![0, 5120, 0] (turned x)
    slices_S1x13856x2048_S1x32x2048_0_5120_0) shapeCasts_S1x32x2048_S32x2048) transposes_S32x2048_S2048x32_1_0

/-- The same padded to 128 columns and narrowed. -/
def padded (x : FVec Ideal S1x2048x13856 .f32) : FVec Ideal S2048x128 .bf16 :=
  truncf .bf16 (pad S2048x128 ![0, 0] ![0, 96] ![0, 0] (thin x) (sitofp .f32 (constantI S_ 32 0#32) : FVec Ideal S_ .f32)
    pads_S2048x32_S2048x128_000_0960 h_S_) bitsLt_bf16_f32

theorem W1_v0 (c : Dev nD) : W1 m ρ c (Proc.devRef .tc main_v0) = flat (m ((c : Thread nD τ).loc main_arg0)) := by
  after_results
  all_goals first | rfl | (show flat (W0 m ρ c (Proc.devRef .tc main_arg0)) = _; rw [W0_args m ρ c main_arg0 (by decide)])

theorem W1_v1 (c : Dev nD) : W1 m ρ c (Proc.devRef .tc main_v1) = turned (m ((c : Thread nD τ).loc main_arg1)) := by
  after_results
  all_goals first | rfl | (show turned (W0 m ρ c (Proc.devRef .tc main_arg1)) = _; rw [W0_args m ρ c main_arg1 (by decide)])

theorem W1_v4 (c : Dev nD) : W1 m ρ c (Proc.devRef .tc main_v4) = thin (m ((c : Thread nD τ).loc main_arg1)) := by
  after_results
  all_goals first | rfl | (show thin (W0 m ρ c (Proc.devRef .tc main_arg1)) = _; rw [W0_args m ρ c main_arg1 (by decide)])

theorem W1_c (c : Dev nD) : W1 m ρ c (Proc.devRef .tc main_c) = (constantI S_ 32 0#32 : IVec S_ 32) := by
  after_results
  all_goals rfl

theorem W2_v5 (c : Dev nD) : W2 m ρ c (Proc.devRef .tc main_v5)
    = pad S2048x128 ![0, 0] ![0, 96] ![0, 0] (thin (m ((c : Thread nD τ).loc main_arg1)))
      (sitofp .f32 (constantI S_ 32 0#32) : FVec Ideal S_ .f32) pads_S2048x32_S2048x128_000_0960 h_S_ := by
  rw [← W1_v4 m ρ c, ← W1_c m ρ c]
  after_results
  all_goals rfl

theorem W3_v6 (c : Dev nD) : W3 m ρ c (Proc.devRef .tc main_v6) = padded (m ((c : Thread nD τ).loc main_arg1)) := by
  unfold padded
  rw [← W2_v5 m ρ c]
  after_results
  all_goals rfl

theorem V3_v0 (c : Dev nD) : V3 m ρ c main_v0 = flat (m ((c : Thread nD τ).loc main_arg0)) :=
  ((W3_of m ρ c main_v0 (by decide +kernel)).trans (W2_of m ρ c main_v0 (by decide +kernel))).trans (W1_v0 m ρ c)

theorem V3_v1 (c : Dev nD) : V3 m ρ c main_v1 = turned (m ((c : Thread nD τ).loc main_arg1)) :=
  ((W3_of m ρ c main_v1 (by decide +kernel)).trans (W2_of m ρ c main_v1 (by decide +kernel))).trans (W1_v1 m ρ c)

theorem V4_v0 (c : Dev nD) : V4 m ρ c main_v0 = flat (m ((c : Thread nD τ).loc main_arg0)) :=
  (W4_of m ρ c main_v0 (by decide +kernel)).trans (V3_v0 m ρ c)

theorem V4_v6 (c : Dev nD) : V4 m ρ c main_v6 = padded (m ((c : Thread nD τ).loc main_arg1)) :=
  (W4_of m ρ c main_v6 (by decide +kernel)).trans (W3_v6 m ρ c)

theorem V4_v7 (c : Dev nD) : V4 m ρ c main_v7 = front (turned (m ((c : Thread nD τ).loc main_arg1))) := by
  refine ((W4_arr m ρ c 1).trans (front_final (V3 m ρ) c)).trans ?_
  rw [V3_v1]

/-- The first 5120 columns. -/
def part (x : FVec Ideal S2x4096x2048 .f32) (w : FVec Ideal S1x2048x13856 .f32) : FVec Ideal S8192x5120 .bf16 :=
  prodA (flat x) (front (turned w))

/-- The 32 `dt` columns. -/
def steps (x : FVec Ideal S2x4096x2048 .f32) (w : FVec Ideal S1x2048x13856 .f32) : FVec Ideal S8192x32 .f32 :=
  extractStridedSlice S8192x32 ![0, 0] (prodDt (flat x) (padded w)) slices_S8192x128_S8192x32_0_0

theorem result0 (c : Dev nD) : W6 m ρ c (Proc.devRef .tc main_v8_0)
    = part (m ((c : Thread nD τ).loc main_arg0)) (m ((c : Thread nD τ).loc main_arg1)) := by
  refine (W6_of m ρ c main_v8_0 (by decide +kernel)).trans (((W5_arr m ρ c 3).trans (prodA_final (V4 m ρ) c)).trans ?_)
  rw [V4_v0, V4_v7]
  rfl

theorem W5_dt (c : Dev nD) : W5 m ρ c (Proc.devRef .tc main_v8_1)
    = prodDt (flat (m ((c : Thread nD τ).loc main_arg0))) (padded (m ((c : Thread nD τ).loc main_arg1))) := by
  refine ((W5_arr m ρ c 4).trans (prodDt_final (V4 m ρ) c)).trans ?_
  rw [V4_v0, V4_v6]

theorem result1 (c : Dev nD) : W6 m ρ c (Proc.devRef .tc main_v9)
    = steps (m ((c : Thread nD τ).loc main_arg0)) (m ((c : Thread nD τ).loc main_arg1)) := by
  unfold steps
  rw [← W5_dt m ρ c]
  after_results
  all_goals rfl

theorem result2 (c : Dev nD) : W6 m ρ c (Proc.devRef .tc main_v8_2)
    = narrow (flat (m ((c : Thread nD τ).loc main_arg0))) := by
  refine (W6_of m ρ c main_v8_2 (by decide +kernel)).trans (((W5_arr m ρ c 5).trans (narrow_final (V4 m ρ) c)).trans ?_)
  rw [V4_v0]

section Agree
variable (x : FVec Ideal S2x4096x2048 .f32) (w : FVec Ideal S1x2048x13856 .f32)

/-- The reference's whole projection. -/
def proj : FVec Ideal Cert.Reference2Ideal.S2x4096x13856 .f32 :=
  Host.dotGeneral Cert.Reference2Ideal.dot_S2x4096x2048_S2048x13856_S2x4096x13856_2_0_01_1_n_n none x
    (shapeCast Cert.Reference2Ideal.S2048x13856 w Cert.Reference2Ideal.Gen.shapeCasts_S1x2048x13856_S2048x13856)

/-- The batch entry of a flattened row. -/
def hi (r : Fin 8192) : Fin 2 := ⟨(r : Nat) / 4096, by omega⟩

/-- The position of a flattened row in its batch entry. -/
def lo (r : Fin 8192) : Fin 4096 := ⟨(r : Nat) % 4096, by omega⟩

theorem flat_at (r : Fin 8192) (k : Fin 2048) : flat x (ix2 r k) = x (ix3 (hi r) (lo r) k) := by
  unfold flat hi lo
  pointwise

theorem turned_at (j : Fin 13856) (k : Fin 2048) : turned w (ix3 0 j k) = w (ix3 0 k j) := by
  unfold turned
  pointwise

theorem thin_at (k : Fin 2048) (j : Fin 32) : thin w (ix2 k j) = w (ix3 0 k ⟨5120 + (j : Nat), by omega⟩) := by
  rw [← turned_at w]
  unfold thin
  pointwise

theorem padded_at (k : Fin 2048) (j : Fin 32) : padded w (ix2 k ⟨(j : Nat), by omega⟩) = w (ix3 0 k ⟨5120 + (j : Nat), by omega⟩) := by
  rw [← thin_at w]
  refine pad_apply_of_inside ![0, 0] ![0, 96] ![0, 0] (thin w) (sitofp .f32 (constantI S_ 32 0#32) : FVec Ideal S_ .f32)
    pads_S2048x32_S2048x128_000_0960 h_S_ (ix2 k ⟨(j : Nat), by omega⟩) (ix2 k j) fun a => ?_
  fin_cases a
  · show k.val = 0 + k.val * (0 + 1); omega
  · show j.val = 0 + j.val * (0 + 1); omega

theorem proj_at (y : Cert.Reference2Ideal.S2x4096x13856.Idx) :
    proj x w y = ∑ k : Fin 2048, x (ix3 (y 0) (y 1) k) * w (ix3 0 k (y 2)) := by
  unfold proj
  pointwise

theorem first : (truncf .bf16 (shapeCast Cert.Reference2Ideal.S8192x5120 (extractStridedSlice Cert.Reference2Ideal.S2x4096x5120 ![0, 0, 0] (proj x w)
      Cert.Reference2Ideal.Gen.slices_S2x4096x13856_S2x4096x5120_0_0_0) Cert.Reference2Ideal.Gen.shapeCasts_S2x4096x5120_S8192x5120)
      Cert.Reference2Ideal.Gen.bitsLt_bf16_f32 : FVec Ideal S8192x5120 .bf16) = part x w := by
  funext i
  obtain ⟨r, j, rfl⟩ : ∃ r j, i = ix2 r j := ⟨i 0, i 1, by funext a; fin_cases a <;> rfl⟩
  have e : part x w (ix2 r j) = proj x w (ix3 (hi r) (lo r) ⟨(j : Nat), by omega⟩) := by
    rw [proj_at]
    show (∑ k : Fin 2048, flat x (ix2 r k) * turned w (ix3 0 ⟨(j : Nat), by omega⟩ k)) = _
    simp only [flat_at, turned_at]
    rfl
  rw [e]
  unfold hi lo
  pointwise

theorem second : (shapeCast Cert.Reference2Ideal.S8192x32 (extractStridedSlice Cert.Reference2Ideal.S2x4096x32 ![0, 0, 5120] (proj x w)
      Cert.Reference2Ideal.Gen.slices_S2x4096x13856_S2x4096x32_0_0_5120) Cert.Reference2Ideal.Gen.shapeCasts_S2x4096x32_S8192x32
      : FVec Ideal S8192x32 .f32) = steps x w := by
  funext i
  obtain ⟨r, j, rfl⟩ : ∃ r j, i = ix2 r j := ⟨i 0, i 1, by funext a; fin_cases a <;> rfl⟩
  have e : steps x w (ix2 r j) = proj x w (ix3 (hi r) (lo r) ⟨5120 + (j : Nat), by omega⟩) := by
    rw [proj_at]
    have s : steps x w (ix2 r j) = prodDt (flat x) (padded w) (ix2 r ⟨(j : Nat), by omega⟩) := by
      unfold steps
      pointwise
    rw [s]
    show (∑ k : Fin 2048, flat x (ix2 r k) * padded w (ix2 k ⟨(j : Nat), by omega⟩)) = _
    simp only [flat_at, padded_at]
    rfl
  rw [e]
  unfold hi lo
  pointwise

end Agree

end Cert.Kernel2Ideal.InValue

end
-- ==== Proof.Dest.lean ====
/-
  The slot numbers of the assignments as a function of the arrays the region is entered with, at the ideal instance.
-/
module

public import proofs.«01_k».proof.Proof.Gen.Kernel3Ideal.Frame
public import Idealize.ShloMosaic.Lib.Pipeline.Value
public import Idealize.ShloMosaic.Lib.Pipeline.ValueKit
public import Idealize.ShloMosaic.Lib.Pointwise

@[expose] public section

noncomputable section

namespace Cert.Kernel3Ideal.Dest

open Cert.Kernel3Ideal Cert.Kernel3Ideal.Gen
open Idealize.ShloMosaic Idealize.ShloMosaic.TcCoe Idealize.SL.Sem
open Idealize.ShloMosaic.Pipeline (Dat)

/-- The start of expert `x`'s slots, picked out of the 64 starts by comparing every expert's number with `x`. -/
def pick (ps : FVec Ideal S64x1 .f32) (x : BitVec 32) : EReal :=
  ∑ e : Fin 64, if BitVec.ofNat 32 e.val = x then ps (ix2 e 0) else 0

/-- What the body computes for one row of expert numbers. -/
def row (ps : FVec Ideal S64x1 .f32) (x : IVec S1x2048 32) : FVec Ideal S1x2048 .f32 :=
  shapeCast S1x2048 (multiReduction .add [0] S2048 (select (cmpi .eq (iota .tc S64x2048 32 [0] iota_S64x2048_d0_w32)
    (broadcastTo S64x2048 x broadcasts_S1x2048_S64x2048))
    (broadcastTo S64x2048 (shapeCast S64x1 (shapeCast S64x1 ps shapeCasts_S64x1_S64x1) shapeCasts_S64x1_S64x1) broadcasts_S64x1_S64x2048 : FVec Ideal S64x2048 .f32)
    (broadcast S64x2048 (Scalar.ofBits .f32 0x00000000#32 : Ideal .f32))) 0x00000000#32 reduces_S64x2048_S2048 (.inl rfl) rfl)
    shapeCasts_S2048_S1x2048

theorem row_at (ps : FVec Ideal S64x1 .f32) (x : IVec S1x2048 32) (j : Fin 2048) :
    row ps x (ix2 0 j) = pick ps (x (ix2 0 j)) := by
  unfold row pick
  pointwise
  refine Finset.sum_congr rfl fun e _ => ?_
  by_cases h : BitVec.ofNat 32 e.val = x (ix2 0 j)
  · rw [if_pos h, h]
    simp [Scalar.select, IntOp.cmpi]
  · have hb : (BitVec.ofNat 32 e.val == x (ix2 0 j)) = false := beq_eq_false_iff_ne.2 h
    rw [if_neg h]
    simp [Scalar.select, IntOp.cmpi, hb]

/-- Eight rows stacked. -/
def stack (r : Fin 8 → FVec Ideal S1x2048 .f32) : FVec Ideal S8x2048 .f32 :=
  concatenate S8x2048 0 [⟨S1x2048, r 0⟩, ⟨S1x2048, r 1⟩, ⟨S1x2048, r 2⟩, ⟨S1x2048, r 3⟩, ⟨S1x2048, r 4⟩, ⟨S1x2048, r 5⟩, ⟨S1x2048, r 6⟩, ⟨S1x2048, r 7⟩]
    concatenates_S1x2048_S1x2048_S1x2048_S1x2048_S1x2048_S1x2048_S1x2048_S1x2048_S8x2048_d0

theorem stack_at (r : Fin 8 → FVec Ideal S1x2048 .f32) (k : Fin 8) (j : Fin 2048) :
    stack r (ix2 k j) = r k (ix2 0 j) := by
  unfold stack
  fin_cases k <;> pointwise

/-- The rows of a block of expert numbers. -/
def rowsOf (x : IVec S8x2048 32) (k : Fin 8) : IVec S1x2048 32 := fun i => x (ix2 k (i 1))

theorem load_row (x : Vec Ideal S8x2048 .i32) (k : Fin 8) (off : Fin 2 → Nat) (h0 : off 0 = k.val) (h1 : off 1 = 0)
    (inb : ∀ a, off a + S1x2048.size a ≤ S8x2048.size a) :
    View.ld x (Rect.unit (s := S8x2048) off S1x2048.size inb) = rowsOf x k := by
  rw [View.ld_unit]
  funext i
  refine congrArg x (funext fun a => Fin.ext ?_)
  fin_cases a
  · show off 0 + (i 0).val = k.val
    have : (i 0).val < 1 := (i 0).isLt
    omega
  · show off 1 + (i 1).val = (i 1).val
    omega

theorem out_eq (x0 x1 : Vec Ideal S8x2048 .i32) (x2 : Vec Ideal S64x1 .f32) :
    out0_3 x0 x1 x2 = addi (fptosi 32 (stack fun k => row x2 (rowsOf x0 k))) x1 := by
  unfold out0_3
  frame_out
  rw [show View.ld x0 r0_1 = rowsOf x0 0 from load_row x0 0 _ rfl rfl _,
    show View.ld x0 r0_2 = rowsOf x0 1 from load_row x0 1 _ rfl rfl _,
    show View.ld x0 r0_3 = rowsOf x0 2 from load_row x0 2 _ rfl rfl _,
    show View.ld x0 r0_4 = rowsOf x0 3 from load_row x0 3 _ rfl rfl _,
    show View.ld x0 r0_5 = rowsOf x0 4 from load_row x0 4 _ rfl rfl _,
    show View.ld x0 r0_6 = rowsOf x0 5 from load_row x0 5 _ rfl rfl _,
    show View.ld x0 r0_7 = rowsOf x0 6 from load_row x0 6 _ rfl rfl _,
    show View.ld x0 r0_8 = rowsOf x0 7 from load_row x0 7 _ rfl rfl _]
  rfl

theorem out_at (x0 x1 : Vec Ideal S8x2048 .i32) (x2 : Vec Ideal S64x1 .f32) (y : S8x2048.Idx) :
    out0_3 x0 x1 x2 y = Ideal.fptosi 32 (pick x2 (x0 y)) + x1 y := by
  obtain ⟨k, j, rfl⟩ : ∃ k j, y = ix2 k j := ⟨y 0, y 1, by funext a; fin_cases a <;> rfl⟩
  have e : stack (fun k => row x2 (rowsOf x0 k)) (ix2 k j) = pick x2 (x0 (ix2 k j)) := (stack_at _ k j).trans (row_at _ _ j)
  rw [out_eq]
  show Ideal.fptosi 32 (stack (fun k => row x2 (rowsOf x0 k)) (ix2 k j)) + x1 (ix2 k j) = _
  rw [e]

variable (m : (ℓ : Loc nD τ sig) → Buf (Elt Ideal) ℓ)

/-- The slot numbers from the starts as numbers. -/
def slots (ps : FVec Ideal S64x1 .f32) (idx rank : IVec S8x8192 32) : IVec S8x8192 32 :=
  fun i => Ideal.fptosi 32 (pick ps (idx i)) + rank i

theorem final (c : Dev nD) :
    (dats m 0 c).arrAt 3 cfg0.N = slots (V m c main_v1) (V m c main_arg0) (V m c main_arg1) := by
  refine (dats m 0 c).arrAt_eq_of_covers 3 _ (by decide +kernel) fun t hf y => ?_
  rw [after0_3, out_at]
  have h0 : ∀ t : Fin cfg0.N, win0_0.index t 0 = win0_3.index t 0 ∧ win0_0.index t 1 = win0_3.index t 1 := by decide +kernel
  have h1 : ∀ t : Fin cfg0.N, win0_1.index t 0 = win0_3.index t 0 ∧ win0_1.index t 1 = win0_3.index t 1 := by decide +kernel
  have h2 : ∀ t : Fin cfg0.N, win0_2.index t 0 = 0 ∧ win0_2.index t 1 = 0 := by decide +kernel
  have e0 : iblk m c 0 t y = V m c main_arg0 (((cfg0.win 3).blk t).view.emb y) := by
    unfold iblk
    show V m c main_arg0 (((cfg0.win 0).blk t).view.emb y) = _
    refine congrArg _ (funext fun a => Fin.ext ?_)
    fin_cases a
    · blk_simp; simp only [(h0 t).1]
    · blk_simp; simp only [(h0 t).2]
  have e1 : iblk m c 1 t y = V m c main_arg1 (((cfg0.win 3).blk t).view.emb y) := by
    unfold iblk
    show V m c main_arg1 (((cfg0.win 1).blk t).view.emb y) = _
    refine congrArg _ (funext fun a => Fin.ext ?_)
    fin_cases a
    · blk_simp; simp only [(h1 t).1]
    · blk_simp; simp only [(h1 t).2]
  have e2 : iblk m c 2 t = V m c main_v1 := by
    unfold iblk
    funext z
    show V m c main_v1 (((cfg0.win 2).blk t).view.emb z) = _
    refine congrArg _ (funext fun a => Fin.ext ?_)
    fin_cases a
    · blk_simp; simp only [(h2 t).1]; exact Nat.zero_add _
    · blk_simp; simp only [(h2 t).2]
  rw [e0, e1, e2]
  rfl

/-- The starts as numbers, as one column. -/
theorem V_starts (c : Dev nD) : V m c main_v1 = broadcastInDim S64x1 ![0] bcast_S64_S64x1_0
    (sitofp .f32 (m ((c : Thread nD τ).loc main_arg2)) : FVec Ideal S64 .f32) := by
  after_results
  all_goals rfl

theorem whole_number (n : BitVec 32) : Ideal.fptosi 32 ((n.toInt : ℝ) : EReal) = n := by
  have hlo := BitVec.le_toInt n
  have hhi := BitVec.toInt_lt (x := n)
  have e : Ideal.toIntClamped (-(2 ^ (32 - 1) : Nat)) ((2 ^ (32 - 1) : Nat) - 1) ((n.toInt : ℝ) : EReal) = n.toInt := by
    show max _ (min _ (if 0 ≤ ((n.toInt : ℝ)) then ⌊(n.toInt : ℝ)⌋ else ⌈(n.toInt : ℝ)⌉)) = _
    rw [Int.floor_intCast, Int.ceil_intCast, ite_self]
    norm_num at hlo hhi ⊢
    omega
  unfold Ideal.fptosi
  rw [e, BitVec.ofInt_toInt]

/-- Among the 64 experts one has the number `x`. -/
theorem pick_of_lt (ps : FVec Ideal S64x1 .f32) (x : BitVec 32) (h : x.toNat < 64) : pick ps x = ps (ix2 ⟨x.toNat, h⟩ 0) := by
  unfold pick
  rw [Finset.sum_eq_single (⟨x.toNat, h⟩ : Fin 64)]
  · exact if_pos (by show BitVec.ofNat 32 x.toNat = x; simp)
  · intro e _ he
    refine if_neg fun hx => he (Fin.ext ?_)
    show e.val = x.toNat
    have hn := congrArg BitVec.toNat hx
    rw [BitVec.toNat_ofNat] at hn
    have := e.isLt
    omega
  · intro hn
    exact absurd (Finset.mem_univ _) hn

theorem starts_at (s : IVec S64 32) (e : Fin 64) : broadcastInDim S64x1 ![0] bcast_S64_S64x1_0
    (sitofp .f32 s : FVec Ideal S64 .f32) (ix2 e 0) = (((s (ix1 e)).toInt : ℝ) : EReal) := by
  pointwise
  rfl

/-- With expert numbers below 64 the slot number is the expert's start plus the rank. -/
theorem slots_eq (s : IVec S64 32) (idx rank : IVec S8x8192 32) (h : ∀ i, (idx i).toNat < 64) :
    slots (broadcastInDim S64x1 ![0] bcast_S64_S64x1_0 (sitofp .f32 s : FVec Ideal S64 .f32)) idx rank
      = fun i => s (ix1 ⟨(idx i).toNat, h i⟩) + rank i := by
  funext i
  unfold slots
  rw [pick_of_lt _ _ (h i), starts_at, whole_number]

end Cert.Kernel3Ideal.Dest

end
-- ==== Proof.DestRef.lean ====
/-
  The precondition on the expert numbers read, and the reference's slot numbers, at the ideal instance.
-/
module

public import proofs.«01_k».proof.Pre_routed
public import proofs.«01_k».proof.Proof.Gen.Reference3Ideal.Run
public import Idealize.ShloMosaic.Lib.ReduceAll
public import Idealize.ShloMosaic.Lib.Pointwise
public import Idealize.ShloMosaic.Lib.ValueIdxCore

@[expose] public section

namespace Cert.Pre_routed

open Idealize.ShloMosaic Facts

instance : Subsingleton S_.Idx := ⟨fun a b => funext fun i => Fin.elim0 i⟩

/-- An array all of whose entries are at least zero and below 64, read signed. -/
theorem below_of_all {s : Shape} {axes : List (Fin s.rank)} (x : IVec s 32) (hb hb' : S_.BroadcastsInDim s ![])
    (h : s.ReducesTo axes S_) (hu : 0 < S_.numel) (init : IVec S_ 1) (j : S_.Idx)
    (e : Host.reduce IntOp.andi (andi (cmpi .sge x (broadcastInDim s ![] hb (constantI S_ 32 0#32)))
      (cmpi .slt x (broadcastInDim s ![] hb' (constantI S_ 32 64#32)))) init h hu j = 1#1) (i : s.Idx) :
    (x i).toNat < 64 ∧ (x i).toInt.toNat = (x i).toNat := by
  have hi := Host.reduce_andi_all _ init h hu j e i
  obtain ⟨h1, h2⟩ := IntOp.andi_eq_one.1 hi
  have h1 : BitVec.ofBool ((0#32).sle (x i)) = 1#1 := h1
  have h2 : BitVec.ofBool ((x i).slt 64#32) = 1#1 := h2
  have h1 : (0#32).sle (x i) = true := by
    by_contra hn
    rw [Bool.not_eq_true _ |>.mp hn] at h1
    exact absurd h1 (by decide)
  have h2 : (x i).slt 64#32 = true := by
    by_contra hn
    rw [Bool.not_eq_true _ |>.mp hn] at h2
    exact absurd h2 (by decide)
  rw [BitVec.sle_iff_toInt_le] at h1
  rw [BitVec.slt_iff_toInt_lt] at h2
  have z : (0#32 : BitVec 32).toInt = 0 := by decide
  have w : (64#32 : BitVec 32).toInt = 64 := by decide
  rw [z] at h1
  rw [w] at h2
  have hx := BitVec.toInt_eq_toNat_cond (x := x i)
  have hl := (x i).isLt
  split at hx <;> omega

variable [Facts]

/-- What the precondition says: every expert number is below 64, read signed or unsigned. -/
theorem routed_args (idx rank : IVec S8x8192 32) (starts : IVec S64 32) (j : S_.Idx)
    (e : fn (F := Ideal) idx rank starts j = 1#1) (i : S8x8192.Idx) :
    (idx i).toNat < 64 ∧ (idx i).toInt.toNat = (idx i).toNat := by
  unfold fn at e
  exact below_of_all idx bcast_S_S8x8192 bcast_S_S8x8192 reducesTo_S8x8192_S_d0_1 h_S_ _ j e i

end Cert.Pre_routed

namespace Cert.Reference3Ideal.Dest

open Cert.Reference3Ideal Cert.Reference3Ideal.Gen
open Idealize.ShloMosaic

/-- The reference's slot number: the expert's start plus the rank. -/
theorem take_eq (s : IVec S64 32) (idx rank : IVec S8x8192 32) (h : ∀ i, (idx i).toNat < 64 ∧ (idx i).toInt.toNat = (idx i).toNat) :
    addi (Host.gather gather_S64_S8x8192x1_S8x8192_n_0_n_n_0_2_1 s (broadcastInDim S8x8192x1 ![0, 1] bcast_S8x8192_S8x8192x1_0_1 idx)) rank
      = fun i => s (ix1 ⟨(idx i).toNat, (h i).1⟩) + rank i := by
  funext i
  show Host.gather gather_S64_S8x8192x1_S8x8192_n_0_n_n_0_2_1 s (broadcastInDim S8x8192x1 ![0, 1] bcast_S8x8192_S8x8192x1_0_1 idx) i + rank i = _
  have e : Host.gather gather_S64_S8x8192x1_S8x8192_n_0_n_n_0_2_1 s (broadcastInDim S8x8192x1 ![0, 1] bcast_S8x8192_S8x8192x1_0_1 idx) i = _ :=
    ValueIdx.gather_take_apply (by decide) _ s _ i
  have p : broadcastInDim S8x8192x1 ![0, 1] bcast_S8x8192_S8x8192x1_0_1 idx (ValueIdx.takeIdx i) = idx i := by
    obtain ⟨k, j, rfl⟩ : ∃ k j, i = ix2 k j := ⟨i 0, i 1, by funext a; fin_cases a <;> rfl⟩
    refine congrArg idx (funext fun a => Fin.ext ?_)
    fin_cases a <;> rfl
  rw [e]
  refine congrArg (· + rank i) (congrArg s (congrArg ix1 (Fin.ext ?_)))
  show min (broadcastInDim S8x8192x1 ![0, 1] bcast_S8x8192_S8x8192x1_0_1 idx (ValueIdx.takeIdx i)).toInt.toNat (64 - 1) = (idx i).toNat
  rw [p, (h i).2]
  have := (h i).1
  omega

end Cert.Reference3Ideal.Dest
-- ==== Proof.SwaCore.lean ====
/- The sliding-window attention of one pair of heads: the two heads' queries are laid one above the other with
   the other head's columns at zero, so one product gives both heads' scores, and the weights of each row are the
   exponentials over their sum, the sink's exponential in it. -/
module

public import proofs.«01_k».proof.Proof.Gen.Kernel4Ideal.Frame
public import Idealize.ShloMosaic.Lib.Pipeline.Value
public import Idealize.ShloMosaic.Lib.Pipeline.ValueKit
public import Idealize.ShloMosaic.Lib.Pointwise
public import Idealize.ShloMosaic.Lib.IdealHost

@[expose] public section

noncomputable section

namespace Cert.Kernel4Ideal.Swa

open Cert.Kernel4Ideal Cert.Kernel4Ideal.Gen
open Idealize.ShloMosaic Idealize.ShloMosaic.TcCoe Idealize.SL.Sem

/-- A column of arrays one above the other, at a row of the first. -/
theorem rows_left {α : Type} {a b n w : ℕ} (x : (⟨2, ![a, w]⟩ : Shape).Idx → α) (y : (⟨2, ![b, w]⟩ : Shape).Idx → α)
    (h : Shape.Concatenates [⟨2, ![a, w]⟩, ⟨2, ![b, w]⟩] ⟨2, ![n, w]⟩ 0) (k : Fin n) (c : Fin w) (r : Fin a) (e : (k : Nat) = r) :
    concatenate ⟨2, ![n, w]⟩ 0 [⟨⟨2, ![a, w]⟩, x⟩, ⟨⟨2, ![b, w]⟩, y⟩] h (ix2 k c) = x (ix2 r c) :=
  concatenate_pair_apply_left (t := ⟨2, ![n, w]⟩) 0 x y h (ix2 k c) rfl (ix2 r c) fun d => by
    match d with
    | ⟨0, _⟩ => exact e.symm
    | ⟨1, _⟩ => rfl

theorem rows_right {α : Type} {a b n w : ℕ} (x : (⟨2, ![a, w]⟩ : Shape).Idx → α) (y : (⟨2, ![b, w]⟩ : Shape).Idx → α)
    (h : Shape.Concatenates [⟨2, ![a, w]⟩, ⟨2, ![b, w]⟩] ⟨2, ![n, w]⟩ 0) (k : Fin n) (c : Fin w) (r : Fin b) (e : (k : Nat) = a + r) :
    concatenate ⟨2, ![n, w]⟩ 0 [⟨⟨2, ![a, w]⟩, x⟩, ⟨⟨2, ![b, w]⟩, y⟩] h (ix2 k c) = y (ix2 r c) :=
  concatenate_pair_apply_right (t := ⟨2, ![n, w]⟩) 0 x y h (ix2 k c) rfl rfl (ix2 r c) (fun d hd => by
    match d with
    | ⟨0, _⟩ => exact absurd rfl hd
    | ⟨1, _⟩ => rfl) ((Nat.add_comm _ _).trans e.symm)

/-- Two arrays side by side, at a column of the first. -/
theorem cols_left {α : Type} {a b n w : ℕ} (x : (⟨2, ![w, a]⟩ : Shape).Idx → α) (y : (⟨2, ![w, b]⟩ : Shape).Idx → α)
    (h : Shape.Concatenates [⟨2, ![w, a]⟩, ⟨2, ![w, b]⟩] ⟨2, ![w, n]⟩ 1) (c : Fin w) (k : Fin n) (r : Fin a) (e : (k : Nat) = r) :
    concatenate ⟨2, ![w, n]⟩ 1 [⟨⟨2, ![w, a]⟩, x⟩, ⟨⟨2, ![w, b]⟩, y⟩] h (ix2 c k) = x (ix2 c r) :=
  concatenate_pair_apply_left (t := ⟨2, ![w, n]⟩) 1 x y h (ix2 c k) rfl (ix2 c r) fun d => by
    match d with
    | ⟨0, _⟩ => rfl
    | ⟨1, _⟩ => exact e.symm

theorem cols_right {α : Type} {a b n w : ℕ} (x : (⟨2, ![w, a]⟩ : Shape).Idx → α) (y : (⟨2, ![w, b]⟩ : Shape).Idx → α)
    (h : Shape.Concatenates [⟨2, ![w, a]⟩, ⟨2, ![w, b]⟩] ⟨2, ![w, n]⟩ 1) (c : Fin w) (k : Fin n) (r : Fin b) (e : (k : Nat) = a + r) :
    concatenate ⟨2, ![w, n]⟩ 1 [⟨⟨2, ![w, a]⟩, x⟩, ⟨⟨2, ![w, b]⟩, y⟩] h (ix2 c k) = y (ix2 c r) :=
  concatenate_pair_apply_right (t := ⟨2, ![w, n]⟩) 1 x y h (ix2 c k) rfl rfl (ix2 c r) (fun d hd => by
    match d with
    | ⟨0, _⟩ => rfl
    | ⟨1, _⟩ => exact absurd rfl hd) ((Nat.add_comm _ _).trans e.symm)

/-- The greatest of a row of scores and its sink. -/
def peak (s : Fin 256 → EReal) (k : EReal) : EReal := max (Finset.univ.fold max (Ideal.ofBits .f32 0xFF800000#32) s) k

/-- The sum a row's weights are divided by: the exponentials of its scores, and of its sink. -/
def denom (s : Fin 256 → EReal) (k : EReal) : EReal :=
  (∑ j, Ideal.exp (s j - peak s k)) + Ideal.exp (k - peak s k)

/-- A row's weight at one key. -/
def prob (s : Fin 256 → EReal) (k : EReal) (j : Fin 256) : EReal :=
  Ideal.exp (s j - peak s k) * Ideal.div 1 (denom s k)

/-- The two heads' queries of a pair, one above the other. -/
def stacked (lq hq : FVec Ideal S1x128 .bf16) (q : FVec Ideal S128x128 .bf16) : FVec Ideal S256x128 .bf16 :=
  concatenate S256x128 0 [⟨S128x128, mulf q (broadcastTo S128x128 lq broadcasts_S1x128_S128x128)⟩,
    ⟨S128x128, mulf q (broadcastTo S128x128 hq broadcasts_S1x128_S128x128)⟩] concatenates_S128x128_S128x128_S256x128_d0

/-- The scores of the pair. -/
def scored (qs k : FVec Ideal S256x128 .bf16) (b : FVec Ideal S1x1x256x256 .f32) : FVec Ideal S256x256 .f32 :=
  addf (matmul dot_S256x128_S256x128_S256x256_1_1_0_0_n_n none qs k (constant S256x256 .f32 0x00000000#32))
    (shapeCast S256x256 b shapeCasts_S1x1x256x256_S256x256)

/-- The sinks of the pair, by row. -/
def sinks (r : IVec S256x1 32) (s0 s1 : EReal) : FVec Ideal S256x1 .f32 :=
  select (cmpi .slt r (broadcast S256x1 128#32)) (broadcast S256x1 s0) (broadcast S256x1 s1)

/-- The weights of the pair. -/
def probs (s : FVec Ideal S256x256 .f32) (k : FVec Ideal S256x1 .f32) : FVec Ideal S256x256 .bf16 :=
  have m : FVec Ideal S256x1 .f32 := maximumf (shapeCast S256x1 (multiReduction .maximumf [1] S256 s 0xFF800000#32 reduces_S256x256_S256 (.inl rfl) rfl) shapeCasts_S256_S256x1) k
  have e : FVec Ideal S256x256 .f32 := exp (subf s (broadcastTo S256x256 m broadcasts_S256x1_S256x256))
  have d : FVec Ideal S256x1 .f32 := addf (shapeCast S256x1 (multiReduction .add [1] S256 e 0x00000000#32 reduces_S256x256_S256 (.inl rfl) rfl) shapeCasts_S256_S256x1) (exp (subf k m))
  truncf .bf16 (mulf e (broadcastTo S256x256 (divf (broadcast S256x1 (Scalar.ofBits .f32 0x3F800000#32 : Ideal .f32)) d) broadcasts_S256x1_S256x256)) bitsLt_bf16_f32

/-- The pair's result. -/
def gathered (p : FVec Ideal S256x256 .bf16) (v : FVec Ideal S256x128 .bf16) (lo hi : FVec Ideal S1x128 .bf16) : FVec Ideal S128x128 .bf16 :=
  truncf .bf16 (matmul dot_S128x512_S512x128_S128x128_1_0_0_1_n_n none
    (concatenate S128x512 1 [⟨S128x256, extractStridedSlice S128x256 ![0, 0] p slices_S256x256_o0_0_S128x256⟩,
      ⟨S128x256, extractStridedSlice S128x256 ![128, 0] p slices_S256x256_o128_0_S128x256⟩] concatenates_S128x256_S128x256_S128x512_d1)
    (concatenate S512x128 0 [⟨S256x128, mulf v (broadcastTo S256x128 lo broadcasts_S1x128_S256x128)⟩,
      ⟨S256x128, mulf v (broadcastTo S256x128 hi broadcasts_S1x128_S256x128)⟩] concatenates_S256x128_S256x128_S512x128_d0)
    (constant S128x128 .f32 0x00000000#32)) bitsLt_bf16_f32

theorem pay_eq (lo hi lq hq : FVec Ideal S1x128 .bf16) (k v : FVec Ideal S256x128 .bf16) (r : IVec S256x1 32)
    (q : Vec Ideal S128x128 .bf16) (b : Vec Ideal S1x1x256x256 .f32) (s0 s1 : Elt Ideal .f32) :
    k0_pay26 lo hi k v r lq hq q b s0 s1 = gathered (probs (scored (stacked lq hq q) k b) (sinks r s0 s1)) v lo hi := rfl

theorem probs_at (s : FVec Ideal S256x256 .f32) (k : FVec Ideal S256x1 .f32) (r j : Fin 256) :
    probs s k (ix2 r j) = prob (fun j => s (ix2 r j)) (k (ix2 r 0)) j := by
  unfold probs
  pointwise
  rfl

theorem scored_at (qs k : FVec Ideal S256x128 .bf16) (b : FVec Ideal S1x1x256x256 .f32) (r j : Fin 256) :
    scored qs k b (ix2 r j) = (∑ d : Fin 128, qs (ix2 r d) * k (ix2 j d)) + b (ix4 0 0 r j) := by
  unfold scored
  pointwise

theorem stacked_top (lq hq : FVec Ideal S1x128 .bf16) (q : FVec Ideal S128x128 .bf16) (r d : Fin 128) :
    stacked lq hq q (ix2 ⟨r, by omega⟩ d) = q (ix2 r d) * lq (ix2 0 d) := by
  unfold stacked
  refine Eq.trans (rows_left _ _ _ _ _ r rfl) ?_
  pointwise

theorem stacked_bot (lq hq : FVec Ideal S1x128 .bf16) (q : FVec Ideal S128x128 .bf16) (r d : Fin 128) :
    stacked lq hq q (ix2 ⟨128 + r, by omega⟩ d) = q (ix2 r d) * hq (ix2 0 d) := by
  unfold stacked
  refine Eq.trans (rows_right _ _ _ _ _ r rfl) ?_
  pointwise

theorem lo_at (l : Fin 128) : k0_pay4 (F := Ideal) (ix2 0 l) = if (l : Nat) < 64 then 1 else 0 := by
  unfold k0_pay4 k0_pay3
  pointwise
  have hl : (l : Nat) < 128 := l.isLt
  have e : (BitVec.ofNat 32 (l : Nat)).slt 64#32 = decide ((l : Nat) < 64) := by
    rw [BitVec.slt, BitVec.toInt_eq_toNat_of_lt (by simp; omega)]
    simp
    omega
  simp only [Scalar.select, IntOp.cmpi, e]
  by_cases h : (l : Nat) < 64 <;> simp [h]

theorem gathered_at (p : FVec Ideal S256x256 .bf16) (v : FVec Ideal S256x128 .bf16) (lo hi : FVec Ideal S1x128 .bf16) (r c : Fin 128) :
    gathered p v lo hi (ix2 r c) = (∑ j : Fin 256, p (ix2 ⟨r, by omega⟩ j) * (v (ix2 j c) * lo (ix2 0 c)))
      + ∑ j : Fin 256, p (ix2 ⟨128 + r, by omega⟩ j) * (v (ix2 j c) * hi (ix2 0 c)) := by
  unfold gathered
  generalize h1 : concatenate S128x512 1 _ _ = a
  generalize h2 : concatenate S512x128 0 _ _ = b
  have e : (∑ x : Fin 512, a (ix2 r x) * b (ix2 x c)) = (∑ j : Fin 256, p (ix2 ⟨r, by omega⟩ j) * (v (ix2 j c) * lo (ix2 0 c)))
      + ∑ j : Fin 256, p (ix2 ⟨128 + r, by omega⟩ j) * (v (ix2 j c) * hi (ix2 0 c)) := by
    refine (Fin.sum_univ_add (a := 256) (b := 256) _).trans ?_
    subst h1 h2
    refine congrArg₂ _ (Finset.sum_congr rfl fun j _ => ?_) (Finset.sum_congr rfl fun j _ => ?_)
    · refine congrArg₂ _ ?_ ?_
      · refine Eq.trans (cols_left _ _ _ _ _ j rfl) ?_
        pointwise
      · refine Eq.trans (rows_left _ _ _ _ _ j rfl) ?_
        pointwise
    · refine congrArg₂ _ ?_ ?_
      · refine Eq.trans (cols_right _ _ _ _ _ j rfl) ?_
        pointwise
      · refine Eq.trans (rows_right _ _ _ _ _ j rfl) ?_
        pointwise
  pointwise
  exact e

theorem hi_at (l : Fin 128) : k0_pay5 (F := Ideal) (ix2 0 l) = if (l : Nat) < 64 then 0 else 1 := by
  have e : k0_pay5 (F := Ideal) (ix2 0 l) = 1 - k0_pay4 (F := Ideal) (ix2 0 l) := by
    unfold k0_pay5 k0_pay4
    pointwise
  rw [e, lo_at]
  by_cases h : (l : Nat) < 64
  · rw [if_pos h, if_pos h]
    exact EReal.sub_self (EReal.coe_ne_top 1) (EReal.coe_ne_bot 1)
  · rw [if_neg h, if_neg h, sub_zero]

/-- The factor on the scores. -/
def eighth : EReal := Ideal.ofBits .f32 0x3E000000#32

theorem lq_at (l : Fin 128) : k0_pay17 (k0_pay3 (F := Ideal)) (ix2 0 l) = if (l : Nat) < 64 then eighth else 0 := by
  have e : k0_pay17 (k0_pay3 (F := Ideal)) (ix2 0 l) = k0_pay4 (F := Ideal) (ix2 0 l) * eighth := by
    unfold k0_pay17 k0_pay4
    pointwise
    rfl
  rw [e, lo_at]
  by_cases h : (l : Nat) < 64
  · rw [if_pos h, if_pos h, one_mul]
  · rw [if_neg h, if_neg h, zero_mul]

theorem hq_at (l : Fin 128) : k0_pay18 (k0_pay3 (F := Ideal)) (ix2 0 l) = if (l : Nat) < 64 then 0 else eighth := by
  have e : k0_pay18 (k0_pay3 (F := Ideal)) (ix2 0 l) = k0_pay5 (F := Ideal) (ix2 0 l) * eighth := by
    unfold k0_pay18 k0_pay5
    pointwise
    rfl
  rw [e, hi_at]
  by_cases h : (l : Nat) < 64
  · rw [if_pos h, if_pos h, zero_mul]
  · rw [if_neg h, if_neg h, one_mul]

/-- The halves of a tile's lanes exchanged. -/
def swapped (t : FVec Ideal S256x128 .bf16) : FVec Ideal S256x128 .bf16 :=
  concatenate S256x128 1 [⟨S256x64, extractStridedSlice S256x64 ![0, 64] t slices_S256x128_o0_64_S256x64⟩,
    ⟨S256x64, extractStridedSlice S256x64 ![0, 0] t slices_S256x128_o0_0_S256x64⟩] concatenates_S256x64_S256x64_S256x128_d1

/-- A tile's first half of lanes, twice. -/
def firstTwice (t : FVec Ideal S256x128 .bf16) : FVec Ideal S256x128 .bf16 :=
  addf (mulf t (broadcastTo S256x128 (k0_pay4 (F := Ideal)) broadcasts_S1x128_S256x128))
    (mulf (swapped t) (broadcastTo S256x128 (k0_pay5 (F := Ideal)) broadcasts_S1x128_S256x128))

/-- A tile's second half of lanes, twice. -/
def secondTwice (t : FVec Ideal S256x128 .bf16) : FVec Ideal S256x128 .bf16 :=
  addf (mulf (swapped t) (broadcastTo S256x128 (k0_pay4 (F := Ideal)) broadcasts_S1x128_S256x128))
    (mulf t (broadcastTo S256x128 (k0_pay5 (F := Ideal)) broadcasts_S1x128_S256x128))

theorem swapped_lo (t : FVec Ideal S256x128 .bf16) (j : Fin 256) (l : Fin 128) (h : (l : Nat) < 64) :
    swapped t (ix2 j l) = t (ix2 j ⟨64 + l, by omega⟩) := by
  unfold swapped
  refine Eq.trans (cols_left _ _ _ _ _ ⟨l, h⟩ rfl) ?_
  pointwise

theorem swapped_hi (t : FVec Ideal S256x128 .bf16) (j : Fin 256) (l : Fin 128) (h : ¬ (l : Nat) < 64) :
    swapped t (ix2 j l) = t (ix2 j ⟨l - 64, by omega⟩) := by
  have hl : (l : Nat) < 128 := l.isLt
  unfold swapped
  refine Eq.trans (cols_right _ _ _ _ _ ⟨l - 64, by omega⟩ (by show (l : Nat) = 64 + (l - 64); omega)) ?_
  pointwise

theorem firstTwice_at (t : FVec Ideal S256x128 .bf16) (j : Fin 256) (l : Fin 128) :
    firstTwice t (ix2 j l) = t (ix2 j ⟨(l : Nat) % 64, by omega⟩) := by
  have hl : (l : Nat) < 128 := l.isLt
  have e : firstTwice t (ix2 j l) = t (ix2 j l) * k0_pay4 (F := Ideal) (ix2 0 l) + swapped t (ix2 j l) * k0_pay5 (F := Ideal) (ix2 0 l) := by
    unfold firstTwice
    pointwise
  rw [e, lo_at, hi_at]
  by_cases h : (l : Nat) < 64
  · rw [if_pos h, if_pos h, mul_one, mul_zero, add_zero]
    exact congrArg (fun k => t (ix2 j k)) (Fin.ext (by show (l : Nat) = l % 64; omega))
  · rw [if_neg h, if_neg h, mul_one, mul_zero, zero_add, swapped_hi t j l h]
    exact congrArg (fun k => t (ix2 j k)) (Fin.ext (by show (l : Nat) - 64 = l % 64; omega))

theorem secondTwice_at (t : FVec Ideal S256x128 .bf16) (j : Fin 256) (l : Fin 128) :
    secondTwice t (ix2 j l) = t (ix2 j ⟨64 + (l : Nat) % 64, by omega⟩) := by
  have hl : (l : Nat) < 128 := l.isLt
  have e : secondTwice t (ix2 j l) = swapped t (ix2 j l) * k0_pay4 (F := Ideal) (ix2 0 l) + t (ix2 j l) * k0_pay5 (F := Ideal) (ix2 0 l) := by
    unfold secondTwice
    pointwise
  rw [e, lo_at, hi_at]
  by_cases h : (l : Nat) < 64
  · rw [if_pos h, if_pos h, mul_one, mul_zero, add_zero, swapped_lo t j l h]
    exact congrArg (fun k => t (ix2 j k)) (Fin.ext (by show 64 + (l : Nat) = 64 + l % 64; omega))
  · rw [if_neg h, if_neg h, mul_one, mul_zero, zero_add]
    exact congrArg (fun k => t (ix2 j k)) (Fin.ext (by show (l : Nat) = 64 + l % 64; omega))

theorem lanes_lo (g : Fin 128 → EReal) (h : ∀ d : Fin 64, g ⟨64 + d, by omega⟩ = 0) : ∑ l, g l = ∑ d : Fin 64, g ⟨d, by omega⟩ := by
  refine (Fin.sum_univ_add (a := 64) (b := 64) g).trans ?_
  rw [Finset.sum_eq_zero (f := fun d : Fin 64 => g (Fin.natAdd 64 d)) fun d _ => h d, add_zero]
  rfl

theorem lanes_hi (g : Fin 128 → EReal) (h : ∀ d : Fin 64, g ⟨d, by omega⟩ = 0) : ∑ l, g l = ∑ d : Fin 64, g ⟨64 + d, by omega⟩ := by
  refine (Fin.sum_univ_add (a := 64) (b := 64) g).trans ?_
  rw [Finset.sum_eq_zero (f := fun d : Fin 64 => g (Fin.castAdd 64 d)) fun d _ => h d, zero_add]
  rfl

/-- The rows' numbers. -/
def rowNumbers : IVec S256x1 32 := iota .tc S256x1 32 [0] iota_S256x1_d0_w32

theorem sinks_at (s0 s1 : EReal) (r : Fin 256) : sinks rowNumbers s0 s1 (ix2 r 0) = if (r : Nat) < 128 then s0 else s1 := by
  have hr : (r : Nat) < 256 := r.isLt
  unfold sinks rowNumbers
  pointwise
  have e : (BitVec.ofNat 32 (r : Nat)).slt 128#32 = decide ((r : Nat) < 128) := by
    rw [BitVec.slt, BitVec.toInt_eq_toNat_of_lt (by simp; omega)]
    simp
    omega
  simp only [Scalar.select, IntOp.cmpi, e]
  by_cases h : (r : Nat) < 128 <;> simp [h]

theorem pair_lo (K V : FVec Ideal S256x128 .bf16) (Q : Vec Ideal S128x128 .bf16) (B : Vec Ideal S1x1x256x256 .f32) (s0 s1 : Elt Ideal .f32)
    (r c : Fin 128) (hc : (c : Nat) < 64) :
    k0_pay26 (F := Ideal) k0_pay4 k0_pay5 K V rowNumbers (k0_pay17 k0_pay3) (k0_pay18 k0_pay3) Q B s0 s1 (ix2 r c)
      = ∑ j, prob (fun j => (∑ d : Fin 64, Q (ix2 r ⟨d, by omega⟩) * eighth * K (ix2 j ⟨d, by omega⟩)) + B (ix4 0 0 ⟨r, by omega⟩ j)) s0 j * V (ix2 j c) := by
  rw [pay_eq, gathered_at, lo_at, hi_at, if_pos hc, if_pos hc]
  simp only [mul_one, mul_zero, Finset.sum_const_zero, add_zero, probs_at, sinks_at, scored_at, stacked_top, lq_at]
  refine Finset.sum_congr rfl fun j _ => ?_
  refine congrArg (· * _) ?_
  rw [if_pos (show (r : Nat) < 128 from r.isLt)]
  refine congrArg (fun s => prob s s0 j) (funext fun j => ?_)
  refine congrArg (· + _) ((lanes_lo _ fun d => ?_).trans (Finset.sum_congr rfl fun d _ => ?_))
  · rw [if_neg (by show ¬ 64 + (d : Nat) < 64; omega), mul_zero, zero_mul]
  · rw [if_pos (show (d : Nat) < 64 from d.isLt)]

theorem pair_hi (K V : FVec Ideal S256x128 .bf16) (Q : Vec Ideal S128x128 .bf16) (B : Vec Ideal S1x1x256x256 .f32) (s0 s1 : Elt Ideal .f32)
    (r c : Fin 128) (hc : ¬ (c : Nat) < 64) :
    k0_pay26 (F := Ideal) k0_pay4 k0_pay5 K V rowNumbers (k0_pay17 k0_pay3) (k0_pay18 k0_pay3) Q B s0 s1 (ix2 r c)
      = ∑ j, prob (fun j => (∑ d : Fin 64, Q (ix2 r ⟨64 + d, by omega⟩) * eighth * K (ix2 j ⟨64 + d, by omega⟩)) + B (ix4 0 0 ⟨128 + r, by omega⟩ j)) s1 j * V (ix2 j c) := by
  rw [pay_eq, gathered_at, lo_at, hi_at, if_neg hc, if_neg hc]
  simp only [mul_one, mul_zero, Finset.sum_const_zero, zero_add, probs_at, sinks_at, scored_at, stacked_bot, hq_at]
  refine Finset.sum_congr rfl fun j _ => ?_
  refine congrArg (· * _) ?_
  rw [if_neg (show ¬ 128 + (r : Nat) < 128 by omega)]
  refine congrArg (fun s => prob s s1 j) (funext fun j => ?_)
  refine congrArg (· + _) ((lanes_hi _ fun d => ?_).trans (Finset.sum_congr rfl fun d _ => ?_))
  · rw [if_pos (show (d : Nat) < 64 from d.isLt), mul_zero, zero_mul]
  · rw [if_neg (by show ¬ 64 + (d : Nat) < 64; omega)]

end Cert.Kernel4Ideal.Swa

end
-- ==== Proof.SwaRun.lean ====
/- What the body writes at one grid point: the attention of the eight pairs of heads side by side, each element
   given by its own row, head and column. -/
module

public import proofs.«01_k».proof.Proof.SwaCore
public import Idealize.ShloMosaic.Lib.Pipeline.Value
public import Idealize.ShloMosaic.Lib.Pipeline.ValueKit
public import Idealize.ShloMosaic.Lib.Pointwise

@[expose] public section

noncomputable section

namespace Cert.Kernel4Ideal.Swa

open Cert.Kernel4Ideal Cert.Kernel4Ideal.Gen
open Idealize.ShloMosaic Idealize.ShloMosaic.TcCoe Idealize.SL.Sem
open Idealize.ShloMosaic.Pipeline (Dat)

/-- The keys or values of the previous rows and of the current ones. -/
def band (a b : Vec Ideal S128x256 .bf16) : FVec Ideal S256x256 .bf16 := k0_pay1 a b

/-- The attention of one block of 128 rows, at one element. -/
def swaBlock (x0 : Vec Ideal S16 .f32) (x1 : Vec Ideal S128x1024 .bf16) (x2 x3 x4 x5 : Vec Ideal S128x256 .bf16) (x6 : Vec Ideal S1x8x256x256 .f32) : Vec Ideal S128x1024 .bf16 :=
  fun y =>
    have h0 : (y 0 : Nat) < 128 := (y 0).isLt
    have h1 : (y 1 : Nat) < 1024 := (y 1).isLt
    ∑ j : Fin 256, prob (fun j : Fin 256 => (∑ d : Fin 64, x1 (ix2 ⟨(y 0 : Nat), h0⟩ ⟨64 * ((y 1 : Nat) / 64) + d, by omega⟩) * eighth
        * band x2 x3 (ix2 j ⟨64 * ((y 1 : Nat) / 256) + d, by omega⟩))
          + x6 (ix4 0 ⟨(y 1 : Nat) / 128, by omega⟩ ⟨128 * ((y 1 : Nat) / 64 % 2) + (y 0 : Nat), by omega⟩ j))
        (x0 (ix1 ⟨(y 1 : Nat) / 64, by omega⟩)) j
      * band x4 x5 (ix2 j ⟨64 * ((y 1 : Nat) / 256) + (y 1 : Nat) % 64, by omega⟩)

/-- One pair's result is its columns of the block. -/
theorem pair_block (p : Fin 8) (x0 : Vec Ideal S16 .f32) (x1 : Vec Ideal S128x1024 .bf16) (x2 x3 x4 x5 : Vec Ideal S128x256 .bf16) (x6 : Vec Ideal S1x8x256x256 .f32)
    (K V : FVec Ideal S256x128 .bf16) (Q : Vec Ideal S128x128 .bf16) (B : Vec Ideal S1x1x256x256 .f32) (s0 s1 : Elt Ideal .f32)
    (hK : ∀ (j : Fin 256) (l : Fin 128), K (ix2 j l) = band x2 x3 (ix2 j ⟨64 * ((p : Nat) / 2) + (l : Nat) % 64, by omega⟩))
    (hV : ∀ (j : Fin 256) (l : Fin 128), V (ix2 j l) = band x4 x5 (ix2 j ⟨64 * ((p : Nat) / 2) + (l : Nat) % 64, by omega⟩))
    (hQ : ∀ (r l : Fin 128), Q (ix2 r l) = x1 (ix2 r ⟨128 * (p : Nat) + l, by omega⟩))
    (hB : ∀ (r j : Fin 256), B (ix4 0 0 r j) = x6 (ix4 0 p r j))
    (h0 : s0 = x0 (ix1 ⟨2 * (p : Nat), by omega⟩)) (h1 : s1 = x0 (ix1 ⟨2 * (p : Nat) + 1, by omega⟩)) (r c : Fin 128) :
    k0_pay26 (F := Ideal) k0_pay4 k0_pay5 K V rowNumbers (k0_pay17 k0_pay3) (k0_pay18 k0_pay3) Q B s0 s1 (ix2 r c)
      = swaBlock x0 x1 x2 x3 x4 x5 x6 (ix2 r ⟨128 * (p : Nat) + c, by omega⟩) := by
  have hp := p.isLt
  have hc := c.isLt
  unfold swaBlock
  show _ = ∑ j : Fin 256, prob (fun j : Fin 256 => (∑ d : Fin 64, x1 (ix2 r ⟨64 * ((128 * (p : Nat) + c) / 64) + d, by omega⟩) * eighth
        * band x2 x3 (ix2 j ⟨64 * ((128 * (p : Nat) + c) / 256) + d, by omega⟩))
          + x6 (ix4 0 ⟨(128 * (p : Nat) + c) / 128, by omega⟩ ⟨128 * ((128 * (p : Nat) + c) / 64 % 2) + r, by omega⟩ j))
        (x0 (ix1 ⟨(128 * (p : Nat) + c) / 64, by omega⟩)) j
      * band x4 x5 (ix2 j ⟨64 * ((128 * (p : Nat) + c) / 256) + (128 * (p : Nat) + c) % 64, by omega⟩)
  by_cases h : (c : Nat) < 64
  · rw [pair_lo _ _ _ _ _ _ _ _ h, h0]
    simp only [hK, hV, hQ, hB]
    refine Finset.sum_congr rfl fun j _ => congrArg₂ (· * ·) (congrFun (congrArg₂ prob (funext fun j => congrArg₂ (· + ·) (Finset.sum_congr rfl fun d _ => congrArg₂ (· * ·) (congrArg (· * _) ?_) ?_) ?_) ?_) j) ?_
    · exact congrArg (fun k => x1 (ix2 r k)) (Fin.ext (by show 128 * (p : Nat) + d = 64 * ((128 * (p : Nat) + c) / 64) + d; omega))
    · exact congrArg (fun k => band x2 x3 (ix2 j k)) (Fin.ext (by show 64 * ((p : Nat) / 2) + (d : Nat) % 64 = 64 * ((128 * (p : Nat) + c) / 256) + d; omega))
    · exact congrArg₂ (fun a b => x6 (ix4 0 a b j)) (Fin.ext (by show (p : Nat) = (128 * (p : Nat) + c) / 128; omega))
        (Fin.ext (by show (r : Nat) = 128 * ((128 * (p : Nat) + c) / 64 % 2) + r; omega))
    · exact congrArg (fun k => x0 (ix1 k)) (Fin.ext (by show 2 * (p : Nat) = (128 * (p : Nat) + c) / 64; omega))
    · exact congrArg (fun k => band x4 x5 (ix2 j k)) (Fin.ext (by show 64 * ((p : Nat) / 2) + (c : Nat) % 64 = 64 * ((128 * (p : Nat) + c) / 256) + (128 * (p : Nat) + c) % 64; omega))
  · rw [pair_hi _ _ _ _ _ _ _ _ h, h1]
    simp only [hK, hV, hQ, hB]
    refine Finset.sum_congr rfl fun j _ => congrArg₂ (· * ·) (congrFun (congrArg₂ prob (funext fun j => congrArg₂ (· + ·) (Finset.sum_congr rfl fun d _ => congrArg₂ (· * ·) (congrArg (· * _) ?_) ?_) ?_) ?_) j) ?_
    · exact congrArg (fun k => x1 (ix2 r k)) (Fin.ext (by show 128 * (p : Nat) + (64 + d) = 64 * ((128 * (p : Nat) + c) / 64) + d; omega))
    · exact congrArg (fun k => band x2 x3 (ix2 j k)) (Fin.ext (by show 64 * ((p : Nat) / 2) + (64 + (d : Nat)) % 64 = 64 * ((128 * (p : Nat) + c) / 256) + d; omega))
    · exact congrArg₂ (fun a b => x6 (ix4 0 a b j)) (Fin.ext (by show (p : Nat) = (128 * (p : Nat) + c) / 128; omega))
        (Fin.ext (by show 128 + (r : Nat) = 128 * ((128 * (p : Nat) + c) / 64 % 2) + r; omega))
    · exact congrArg (fun k => x0 (ix1 k)) (Fin.ext (by show 2 * (p : Nat) + 1 = (128 * (p : Nat) + c) / 64; omega))
    · exact congrArg (fun k => band x4 x5 (ix2 j k)) (Fin.ext (by show 64 * ((p : Nat) / 2) + (c : Nat) % 64 = 64 * ((128 * (p : Nat) + c) / 256) + (128 * (p : Nat) + c) % 64; omega))

theorem twice0 (a b : Vec Ideal S128x256 .bf16) (j : Fin 256) (l : Fin 128) :
    firstTwice (extractStridedSlice S256x128 ![0, 0] (band a b) slices_S256x256_o0_0_S256x128) (ix2 j l) = band a b (ix2 j ⟨64 * 0 + (l : Nat) % 64, by omega⟩) := by
  rw [firstTwice_at]
  generalize band a b = t
  pointwise

theorem twice1 (a b : Vec Ideal S128x256 .bf16) (j : Fin 256) (l : Fin 128) :
    secondTwice (extractStridedSlice S256x128 ![0, 0] (band a b) slices_S256x256_o0_0_S256x128) (ix2 j l) = band a b (ix2 j ⟨64 * 1 + (l : Nat) % 64, by omega⟩) := by
  rw [secondTwice_at]
  generalize band a b = t
  pointwise

theorem twice2 (a b : Vec Ideal S128x256 .bf16) (j : Fin 256) (l : Fin 128) :
    firstTwice (extractStridedSlice S256x128 ![0, 128] (band a b) slices_S256x256_o0_128_S256x128) (ix2 j l) = band a b (ix2 j ⟨64 * 2 + (l : Nat) % 64, by omega⟩) := by
  rw [firstTwice_at]
  generalize band a b = t
  pointwise

theorem twice3 (a b : Vec Ideal S128x256 .bf16) (j : Fin 256) (l : Fin 128) :
    secondTwice (extractStridedSlice S256x128 ![0, 128] (band a b) slices_S256x256_o0_128_S256x128) (ix2 j l) = band a b (ix2 j ⟨64 * 3 + (l : Nat) % 64, by omega⟩) := by
  rw [secondTwice_at]
  generalize band a b = t
  pointwise
  exact congrArg (fun k => t (ix2 j k)) (Fin.ext (by show 128 + (64 + (l : Nat) % 64) = 192 + (l : Nat) % 64; omega))

theorem whole_load {S : Shape} {κ : Kind} {sp : Space} {e : EltTy} {sg : RefSig} (m : Memref sg κ sp S e) (hm : m.IsWhole) (x : S.Idx → Elt Ideal e) (B : Rect S) :
    View.readAt (Elt Ideal) m.view B.toLoadRect (hm.unread x) = View.ld x B := by
  rw [View.readAt_eq_ld, Memref.IsWhole.read_unread]

/-- A load of a whole block. -/
theorem load_all (x : Vec Ideal S128x256 .bf16) (h : ∀ a, (![0, 0] : Fin 2 → ℕ) a + S128x256.size a ≤ S128x256.size a) :
    View.ld x (Rect.unit (s := S128x256) ![0, 0] S128x256.size h) = x := by
  funext i
  refine congrArg x (funext fun a => Fin.ext ?_)
  match a with
  | ⟨0, h0⟩ => show 0 + 1 * (i ⟨0, h0⟩ : Nat) = i ⟨0, h0⟩; omega
  | ⟨1, h1⟩ => show 0 + 1 * (i ⟨1, h1⟩ : Nat) = i ⟨1, h1⟩; omega

/-- A load of 128 columns of the queries. -/
theorem load_query (x : Vec Ideal S128x1024 .bf16) (p : Fin 8) (o : ℕ) (ho : o = 128 * (p : Nat))
    (h : ∀ a, (![0, o] : Fin 2 → ℕ) a + S128x128.size a ≤ S128x1024.size a) (r l : Fin 128) :
    View.ld x (Rect.unit (s := S128x1024) ![0, o] S128x128.size h) (ix2 r l) = x (ix2 r ⟨128 * (p : Nat) + l, by omega⟩) := by
  refine congrArg x (funext fun a => Fin.ext ?_)
  match a with
  | ⟨0, _⟩ => show 0 + 1 * (r : Nat) = r; omega
  | ⟨1, _⟩ => show o + 1 * (l : Nat) = 128 * (p : Nat) + l; omega

/-- A load of one pair's bias. -/
theorem load_bias (x : Vec Ideal S1x8x256x256 .f32) (p : Fin 8) (o : ℕ) (ho : o = (p : Nat))
    (h : ∀ a, (![0, o, 0, 0] : Fin 4 → ℕ) a + S1x1x256x256.size a ≤ S1x8x256x256.size a) (r j : Fin 256) :
    View.ld x (Rect.unit (s := S1x8x256x256) ![0, o, 0, 0] S1x1x256x256.size h) (ix4 0 0 r j) = x (ix4 0 p r j) := by
  refine congrArg x (funext fun a => Fin.ext ?_)
  match a with
  | ⟨0, _⟩ => rfl
  | ⟨1, _⟩ => show o + 1 * 0 = (p : Nat); omega
  | ⟨2, _⟩ => show 0 + 1 * (r : Nat) = r; omega
  | ⟨3, _⟩ => show 0 + 1 * (j : Nat) = j; omega

/-- A load of one sink. -/
theorem load_sink (x : Vec Ideal S16 .f32) (o : ℕ) (k : Fin 16) (ho : o = (k : Nat)) (h : ∀ a, (![o] : Fin 1 → ℕ) a + S1.size a ≤ S16.size a)
    (i : S1.Idx) : View.ld x (Rect.unit (s := S16) ![o] S1.size h) i = x (ix1 k) := by
  refine congrArg x (funext fun a => Fin.ext ?_)
  match a with
  | ⟨0, h0⟩ =>
    have hi : (i ⟨0, h0⟩ : Nat) < 1 := (i ⟨0, h0⟩).isLt
    show o + 1 * (i ⟨0, h0⟩ : Nat) = k
    omega

/-- Where a pair's columns are in the block. -/
theorem place (p : Fin 8) (o : ℕ) (ho : o = 128 * (p : Nat)) (h : ∀ a, (![0, o] : Fin 2 → ℕ) a + S128x128.size a ≤ S128x1024.size a) (r c : Fin 128) :
    (Rect.unit (s := S128x1024) ![0, o] S128x128.size h).emb (ix2 r c) = ix2 r ⟨128 * (p : Nat) + c, by omega⟩ := by
  refine funext fun a => Fin.ext ?_
  match a with
  | ⟨0, _⟩ => show 0 + 1 * (r : Nat) = r; omega
  | ⟨1, _⟩ => show o + 1 * (c : Nat) = 128 * (p : Nat) + c; omega

theorem pair_eq27 (lo hi lq hq : FVec Ideal S1x128 .bf16) (k v : FVec Ideal S256x128 .bf16) (r : IVec S256x1 32) (q : Vec Ideal S128x128 .bf16) (b : Vec Ideal S1x1x256x256 .f32) (s0 s1 : Elt Ideal .f32) :
    k0_pay27 lo hi k v r lq hq q b s0 s1 = k0_pay26 lo hi k v r lq hq q b s0 s1 := rfl

theorem pair_eq28 (lo hi lq hq : FVec Ideal S1x128 .bf16) (k v : FVec Ideal S256x128 .bf16) (r : IVec S256x1 32) (q : Vec Ideal S128x128 .bf16) (b : Vec Ideal S1x1x256x256 .f32) (s0 s1 : Elt Ideal .f32) :
    k0_pay28 lo hi k v r lq hq q b s0 s1 = k0_pay26 lo hi k v r lq hq q b s0 s1 := rfl

theorem pair_eq29 (lo hi lq hq : FVec Ideal S1x128 .bf16) (k v : FVec Ideal S256x128 .bf16) (r : IVec S256x1 32) (q : Vec Ideal S128x128 .bf16) (b : Vec Ideal S1x1x256x256 .f32) (s0 s1 : Elt Ideal .f32) :
    k0_pay29 lo hi k v r lq hq q b s0 s1 = k0_pay26 lo hi k v r lq hq q b s0 s1 := rfl

theorem pair_eq30 (lo hi lq hq : FVec Ideal S1x128 .bf16) (k v : FVec Ideal S256x128 .bf16) (r : IVec S256x1 32) (q : Vec Ideal S128x128 .bf16) (b : Vec Ideal S1x1x256x256 .f32) (s0 s1 : Elt Ideal .f32) :
    k0_pay30 lo hi k v r lq hq q b s0 s1 = k0_pay26 lo hi k v r lq hq q b s0 s1 := rfl

theorem pair_eq25 (lo hi lq hq : FVec Ideal S1x128 .bf16) (k v : FVec Ideal S256x128 .bf16) (r : IVec S256x1 32) (q : Vec Ideal S128x128 .bf16) (b : Vec Ideal S1x1x256x256 .f32) (s0 s1 : Elt Ideal .f32) :
    k0_pay25 lo hi k v r hq q (k0_pay24 lq) b s0 s1 = k0_pay26 lo hi k v r lq hq q b s0 s1 := rfl

theorem pair_eq23 (lo hi lq hq : FVec Ideal S1x128 .bf16) (k v : FVec Ideal S256x128 .bf16) (r : IVec S256x1 32) (q : Vec Ideal S128x128 .bf16) (b : Vec Ideal S1x1x256x256 .f32) (s0 s1 : Elt Ideal .f32) :
    k0_pay23 lo hi k v r hq q (k0_pay22 lq q) b s0 s1 = k0_pay26 lo hi k v r lq hq q b s0 s1 := rfl

theorem pair_eq21 (lo hi : FVec Ideal S1x128 .bf16) (k v : FVec Ideal S256x128 .bf16) (r : IVec S256x1 32) (q : Vec Ideal S128x128 .bf16) (b : Vec Ideal S1x1x256x256 .f32) (s0 s1 : Elt Ideal .f32) (m : FVec Ideal S1x128 .f32) :
    k0_pay21 lo hi k v r q (k0_pay19 m q) (k0_pay20 m) b s0 s1 = k0_pay26 lo hi k v r (k0_pay17 m) (k0_pay18 m) q b s0 s1 := rfl

theorem keys0 (a b : Vec Ideal S128x256 .bf16) : k0_pay6 a b = firstTwice (extractStridedSlice S256x128 ![0, 0] (band a b) slices_S256x256_o0_0_S256x128) := rfl

theorem values0 (a b : Vec Ideal S128x256 .bf16) : k0_pay13 (k0_pay2 a b) k0_pay4 k0_pay5 = firstTwice (extractStridedSlice S256x128 ![0, 0] (band a b) slices_S256x256_o0_0_S256x128) := rfl

theorem keys1 (a b : Vec Ideal S128x256 .bf16) : k0_pay7 a b = secondTwice (extractStridedSlice S256x128 ![0, 0] (band a b) slices_S256x256_o0_0_S256x128) := rfl

theorem values1 (a b : Vec Ideal S128x256 .bf16) : k0_pay14 (k0_pay2 a b) k0_pay4 k0_pay5 = secondTwice (extractStridedSlice S256x128 ![0, 0] (band a b) slices_S256x256_o0_0_S256x128) := rfl

theorem keys2 (a b : Vec Ideal S128x256 .bf16) : k0_pay8 a b = firstTwice (extractStridedSlice S256x128 ![0, 128] (band a b) slices_S256x256_o0_128_S256x128) := rfl

theorem values2 (a b : Vec Ideal S128x256 .bf16) : k0_pay15 (k0_pay2 a b) k0_pay4 k0_pay5 = firstTwice (extractStridedSlice S256x128 ![0, 128] (band a b) slices_S256x256_o0_128_S256x128) := rfl

theorem keys3 (a b : Vec Ideal S128x256 .bf16) : k0_pay12 k0_pay4 k0_pay5 (k0_pay9 a b) (k0_pay10 a b) (k0_pay11 a b) = secondTwice (extractStridedSlice S256x128 ![0, 128] (band a b) slices_S256x256_o0_128_S256x128) := rfl

theorem values3 (a b : Vec Ideal S128x256 .bf16) : k0_pay16 (k0_pay2 a b) k0_pay4 k0_pay5 = secondTwice (extractStridedSlice S256x128 ![0, 128] (band a b) slices_S256x256_o0_128_S256x128) := rfl

/-- Pair 0's piece of the block. -/
theorem piece0 (x0 : Vec Ideal S16 .f32) (x1 : Vec Ideal S128x1024 .bf16) (x2 x3 x4 x5 : Vec Ideal S128x256 .bf16) (x6 : Vec Ideal S1x8x256x256 .f32) (i : S1.Idx) (r c : Fin 128) :
    k0_pay21 (F := Ideal) k0_pay4 k0_pay5 (k0_pay6 (View.ld x2 (Rect.unit (s := S128x256) ![0, 0] S128x256.size inb_S128x256_S128x256_0_0)) (View.ld x3 (Rect.unit (s := S128x256) ![0, 0] S128x256.size inb_S128x256_S128x256_0_0)))
      (k0_pay13 (k0_pay2 (View.ld x4 (Rect.unit (s := S128x256) ![0, 0] S128x256.size inb_S128x256_S128x256_0_0)) (View.ld x5 (Rect.unit (s := S128x256) ![0, 0] S128x256.size inb_S128x256_S128x256_0_0))) k0_pay4 k0_pay5) rowNumbers (View.ld x1 (Rect.unit (s := S128x1024) ![0, 0] S128x128.size inb_S128x1024_S128x128_0_0)) (k0_pay19 k0_pay3 (View.ld x1 (Rect.unit (s := S128x1024) ![0, 0] S128x128.size inb_S128x1024_S128x128_0_0))) (k0_pay20 k0_pay3)
      (View.ld x6 (Rect.unit (s := S1x8x256x256) ![0, 0, 0, 0] S1x1x256x256.size inb_S1x8x256x256_S1x1x256x256_0_0_0_0))
      (View.ld x0 (Rect.unit (s := S16) ![0] S1.size inb_S16_S1_0) i) (View.ld x0 (Rect.unit (s := S16) ![1] S1.size inb_S16_S1_1) i) (ix2 r c)
      = swaBlock x0 x1 x2 x3 x4 x5 x6 ((Rect.unit (s := S128x1024) ![0, 0] S128x128.size inb_S128x1024_S128x128_0_0).emb (ix2 r c)) := by
  rw [load_all, load_all, load_all, load_all, pair_eq21, keys0, values0, load_sink x0 0 0 rfl, load_sink x0 1 1 rfl]
  exact (pair_block 0 x0 x1 x2 x3 x4 x5 x6 _ _ _ _ _ _ (twice0 x2 x3) (twice0 x4 x5) (load_query x1 0 0 rfl _) (load_bias x6 0 0 rfl _) rfl rfl r c).trans
    (congrArg _ (place 0 0 rfl _ r c).symm)

/-- Pair 1's piece of the block. -/
theorem piece1 (x0 : Vec Ideal S16 .f32) (x1 : Vec Ideal S128x1024 .bf16) (x2 x3 x4 x5 : Vec Ideal S128x256 .bf16) (x6 : Vec Ideal S1x8x256x256 .f32) (i : S1.Idx) (r c : Fin 128) :
    k0_pay23 (F := Ideal) k0_pay4 k0_pay5 (k0_pay6 (View.ld x2 (Rect.unit (s := S128x256) ![0, 0] S128x256.size inb_S128x256_S128x256_0_0)) (View.ld x3 (Rect.unit (s := S128x256) ![0, 0] S128x256.size inb_S128x256_S128x256_0_0)))
      (k0_pay13 (k0_pay2 (View.ld x4 (Rect.unit (s := S128x256) ![0, 0] S128x256.size inb_S128x256_S128x256_0_0)) (View.ld x5 (Rect.unit (s := S128x256) ![0, 0] S128x256.size inb_S128x256_S128x256_0_0))) k0_pay4 k0_pay5) rowNumbers (k0_pay18 k0_pay3) (View.ld x1 (Rect.unit (s := S128x1024) ![0, 128] S128x128.size inb_S128x1024_S128x128_0_128)) (k0_pay22 (k0_pay17 k0_pay3) (View.ld x1 (Rect.unit (s := S128x1024) ![0, 128] S128x128.size inb_S128x1024_S128x128_0_128)))
      (View.ld x6 (Rect.unit (s := S1x8x256x256) ![0, 1, 0, 0] S1x1x256x256.size inb_S1x8x256x256_S1x1x256x256_0_1_0_0))
      (View.ld x0 (Rect.unit (s := S16) ![2] S1.size inb_S16_S1_2) i) (View.ld x0 (Rect.unit (s := S16) ![3] S1.size inb_S16_S1_3) i) (ix2 r c)
      = swaBlock x0 x1 x2 x3 x4 x5 x6 ((Rect.unit (s := S128x1024) ![0, 128] S128x128.size inb_S128x1024_S128x128_0_128).emb (ix2 r c)) := by
  rw [load_all, load_all, load_all, load_all, pair_eq23, keys0, values0, load_sink x0 2 2 rfl, load_sink x0 3 3 rfl]
  exact (pair_block 1 x0 x1 x2 x3 x4 x5 x6 _ _ _ _ _ _ (twice0 x2 x3) (twice0 x4 x5) (load_query x1 1 128 rfl _) (load_bias x6 1 1 rfl _) rfl rfl r c).trans
    (congrArg _ (place 1 128 rfl _ r c).symm)

/-- Pair 2's piece of the block. -/
theorem piece2 (x0 : Vec Ideal S16 .f32) (x1 : Vec Ideal S128x1024 .bf16) (x2 x3 x4 x5 : Vec Ideal S128x256 .bf16) (x6 : Vec Ideal S1x8x256x256 .f32) (i : S1.Idx) (r c : Fin 128) :
    k0_pay25 (F := Ideal) k0_pay4 k0_pay5 (k0_pay7 (View.ld x2 (Rect.unit (s := S128x256) ![0, 0] S128x256.size inb_S128x256_S128x256_0_0)) (View.ld x3 (Rect.unit (s := S128x256) ![0, 0] S128x256.size inb_S128x256_S128x256_0_0)))
      (k0_pay14 (k0_pay2 (View.ld x4 (Rect.unit (s := S128x256) ![0, 0] S128x256.size inb_S128x256_S128x256_0_0)) (View.ld x5 (Rect.unit (s := S128x256) ![0, 0] S128x256.size inb_S128x256_S128x256_0_0))) k0_pay4 k0_pay5) rowNumbers (k0_pay18 k0_pay3) (View.ld x1 (Rect.unit (s := S128x1024) ![0, 256] S128x128.size inb_S128x1024_S128x128_0_256)) (k0_pay24 (k0_pay17 k0_pay3))
      (View.ld x6 (Rect.unit (s := S1x8x256x256) ![0, 2, 0, 0] S1x1x256x256.size inb_S1x8x256x256_S1x1x256x256_0_2_0_0))
      (View.ld x0 (Rect.unit (s := S16) ![4] S1.size inb_S16_S1_4) i) (View.ld x0 (Rect.unit (s := S16) ![5] S1.size inb_S16_S1_5) i) (ix2 r c)
      = swaBlock x0 x1 x2 x3 x4 x5 x6 ((Rect.unit (s := S128x1024) ![0, 256] S128x128.size inb_S128x1024_S128x128_0_256).emb (ix2 r c)) := by
  rw [load_all, load_all, load_all, load_all, pair_eq25, keys1, values1, load_sink x0 4 4 rfl, load_sink x0 5 5 rfl]
  exact (pair_block 2 x0 x1 x2 x3 x4 x5 x6 _ _ _ _ _ _ (twice1 x2 x3) (twice1 x4 x5) (load_query x1 2 256 rfl _) (load_bias x6 2 2 rfl _) rfl rfl r c).trans
    (congrArg _ (place 2 256 rfl _ r c).symm)

/-- Pair 3's piece of the block. -/
theorem piece3 (x0 : Vec Ideal S16 .f32) (x1 : Vec Ideal S128x1024 .bf16) (x2 x3 x4 x5 : Vec Ideal S128x256 .bf16) (x6 : Vec Ideal S1x8x256x256 .f32) (i : S1.Idx) (r c : Fin 128) :
    k0_pay26 (F := Ideal) k0_pay4 k0_pay5 (k0_pay7 (View.ld x2 (Rect.unit (s := S128x256) ![0, 0] S128x256.size inb_S128x256_S128x256_0_0)) (View.ld x3 (Rect.unit (s := S128x256) ![0, 0] S128x256.size inb_S128x256_S128x256_0_0)))
      (k0_pay14 (k0_pay2 (View.ld x4 (Rect.unit (s := S128x256) ![0, 0] S128x256.size inb_S128x256_S128x256_0_0)) (View.ld x5 (Rect.unit (s := S128x256) ![0, 0] S128x256.size inb_S128x256_S128x256_0_0))) k0_pay4 k0_pay5) rowNumbers (k0_pay17 k0_pay3) (k0_pay18 k0_pay3) (View.ld x1 (Rect.unit (s := S128x1024) ![0, 384] S128x128.size inb_S128x1024_S128x128_0_384))
      (View.ld x6 (Rect.unit (s := S1x8x256x256) ![0, 3, 0, 0] S1x1x256x256.size inb_S1x8x256x256_S1x1x256x256_0_3_0_0))
      (View.ld x0 (Rect.unit (s := S16) ![6] S1.size inb_S16_S1_6) i) (View.ld x0 (Rect.unit (s := S16) ![7] S1.size inb_S16_S1_7) i) (ix2 r c)
      = swaBlock x0 x1 x2 x3 x4 x5 x6 ((Rect.unit (s := S128x1024) ![0, 384] S128x128.size inb_S128x1024_S128x128_0_384).emb (ix2 r c)) := by
  rw [load_all, load_all, load_all, load_all, keys1, values1, load_sink x0 6 6 rfl, load_sink x0 7 7 rfl]
  exact (pair_block 3 x0 x1 x2 x3 x4 x5 x6 _ _ _ _ _ _ (twice1 x2 x3) (twice1 x4 x5) (load_query x1 3 384 rfl _) (load_bias x6 3 3 rfl _) rfl rfl r c).trans
    (congrArg _ (place 3 384 rfl _ r c).symm)

/-- Pair 4's piece of the block. -/
theorem piece4 (x0 : Vec Ideal S16 .f32) (x1 : Vec Ideal S128x1024 .bf16) (x2 x3 x4 x5 : Vec Ideal S128x256 .bf16) (x6 : Vec Ideal S1x8x256x256 .f32) (i : S1.Idx) (r c : Fin 128) :
    k0_pay27 (F := Ideal) k0_pay4 k0_pay5 (k0_pay8 (View.ld x2 (Rect.unit (s := S128x256) ![0, 0] S128x256.size inb_S128x256_S128x256_0_0)) (View.ld x3 (Rect.unit (s := S128x256) ![0, 0] S128x256.size inb_S128x256_S128x256_0_0)))
      (k0_pay15 (k0_pay2 (View.ld x4 (Rect.unit (s := S128x256) ![0, 0] S128x256.size inb_S128x256_S128x256_0_0)) (View.ld x5 (Rect.unit (s := S128x256) ![0, 0] S128x256.size inb_S128x256_S128x256_0_0))) k0_pay4 k0_pay5) rowNumbers (k0_pay17 k0_pay3) (k0_pay18 k0_pay3) (View.ld x1 (Rect.unit (s := S128x1024) ![0, 512] S128x128.size inb_S128x1024_S128x128_0_512))
      (View.ld x6 (Rect.unit (s := S1x8x256x256) ![0, 4, 0, 0] S1x1x256x256.size inb_S1x8x256x256_S1x1x256x256_0_4_0_0))
      (View.ld x0 (Rect.unit (s := S16) ![8] S1.size inb_S16_S1_8) i) (View.ld x0 (Rect.unit (s := S16) ![9] S1.size inb_S16_S1_9) i) (ix2 r c)
      = swaBlock x0 x1 x2 x3 x4 x5 x6 ((Rect.unit (s := S128x1024) ![0, 512] S128x128.size inb_S128x1024_S128x128_0_512).emb (ix2 r c)) := by
  rw [load_all, load_all, load_all, load_all, pair_eq27, keys2, values2, load_sink x0 8 8 rfl, load_sink x0 9 9 rfl]
  exact (pair_block 4 x0 x1 x2 x3 x4 x5 x6 _ _ _ _ _ _ (twice2 x2 x3) (twice2 x4 x5) (load_query x1 4 512 rfl _) (load_bias x6 4 4 rfl _) rfl rfl r c).trans
    (congrArg _ (place 4 512 rfl _ r c).symm)

/-- Pair 5's piece of the block. -/
theorem piece5 (x0 : Vec Ideal S16 .f32) (x1 : Vec Ideal S128x1024 .bf16) (x2 x3 x4 x5 : Vec Ideal S128x256 .bf16) (x6 : Vec Ideal S1x8x256x256 .f32) (i : S1.Idx) (r c : Fin 128) :
    k0_pay28 (F := Ideal) k0_pay4 k0_pay5 (k0_pay8 (View.ld x2 (Rect.unit (s := S128x256) ![0, 0] S128x256.size inb_S128x256_S128x256_0_0)) (View.ld x3 (Rect.unit (s := S128x256) ![0, 0] S128x256.size inb_S128x256_S128x256_0_0)))
      (k0_pay15 (k0_pay2 (View.ld x4 (Rect.unit (s := S128x256) ![0, 0] S128x256.size inb_S128x256_S128x256_0_0)) (View.ld x5 (Rect.unit (s := S128x256) ![0, 0] S128x256.size inb_S128x256_S128x256_0_0))) k0_pay4 k0_pay5) rowNumbers (k0_pay17 k0_pay3) (k0_pay18 k0_pay3) (View.ld x1 (Rect.unit (s := S128x1024) ![0, 640] S128x128.size inb_S128x1024_S128x128_0_640))
      (View.ld x6 (Rect.unit (s := S1x8x256x256) ![0, 5, 0, 0] S1x1x256x256.size inb_S1x8x256x256_S1x1x256x256_0_5_0_0))
      (View.ld x0 (Rect.unit (s := S16) ![10] S1.size inb_S16_S1_10) i) (View.ld x0 (Rect.unit (s := S16) ![11] S1.size inb_S16_S1_11) i) (ix2 r c)
      = swaBlock x0 x1 x2 x3 x4 x5 x6 ((Rect.unit (s := S128x1024) ![0, 640] S128x128.size inb_S128x1024_S128x128_0_640).emb (ix2 r c)) := by
  rw [load_all, load_all, load_all, load_all, pair_eq28, keys2, values2, load_sink x0 10 10 rfl, load_sink x0 11 11 rfl]
  exact (pair_block 5 x0 x1 x2 x3 x4 x5 x6 _ _ _ _ _ _ (twice2 x2 x3) (twice2 x4 x5) (load_query x1 5 640 rfl _) (load_bias x6 5 5 rfl _) rfl rfl r c).trans
    (congrArg _ (place 5 640 rfl _ r c).symm)

/-- Pair 6's piece of the block. -/
theorem piece6 (x0 : Vec Ideal S16 .f32) (x1 : Vec Ideal S128x1024 .bf16) (x2 x3 x4 x5 : Vec Ideal S128x256 .bf16) (x6 : Vec Ideal S1x8x256x256 .f32) (i : S1.Idx) (r c : Fin 128) :
    k0_pay29 (F := Ideal) k0_pay4 k0_pay5 (k0_pay12 k0_pay4 k0_pay5 (k0_pay9 (View.ld x2 (Rect.unit (s := S128x256) ![0, 0] S128x256.size inb_S128x256_S128x256_0_0)) (View.ld x3 (Rect.unit (s := S128x256) ![0, 0] S128x256.size inb_S128x256_S128x256_0_0))) (k0_pay10 (View.ld x2 (Rect.unit (s := S128x256) ![0, 0] S128x256.size inb_S128x256_S128x256_0_0)) (View.ld x3 (Rect.unit (s := S128x256) ![0, 0] S128x256.size inb_S128x256_S128x256_0_0))) (k0_pay11 (View.ld x2 (Rect.unit (s := S128x256) ![0, 0] S128x256.size inb_S128x256_S128x256_0_0)) (View.ld x3 (Rect.unit (s := S128x256) ![0, 0] S128x256.size inb_S128x256_S128x256_0_0))))
      (k0_pay16 (k0_pay2 (View.ld x4 (Rect.unit (s := S128x256) ![0, 0] S128x256.size inb_S128x256_S128x256_0_0)) (View.ld x5 (Rect.unit (s := S128x256) ![0, 0] S128x256.size inb_S128x256_S128x256_0_0))) k0_pay4 k0_pay5) rowNumbers (k0_pay17 k0_pay3) (k0_pay18 k0_pay3) (View.ld x1 (Rect.unit (s := S128x1024) ![0, 768] S128x128.size inb_S128x1024_S128x128_0_768))
      (View.ld x6 (Rect.unit (s := S1x8x256x256) ![0, 6, 0, 0] S1x1x256x256.size inb_S1x8x256x256_S1x1x256x256_0_6_0_0))
      (View.ld x0 (Rect.unit (s := S16) ![12] S1.size inb_S16_S1_12) i) (View.ld x0 (Rect.unit (s := S16) ![13] S1.size inb_S16_S1_13) i) (ix2 r c)
      = swaBlock x0 x1 x2 x3 x4 x5 x6 ((Rect.unit (s := S128x1024) ![0, 768] S128x128.size inb_S128x1024_S128x128_0_768).emb (ix2 r c)) := by
  rw [load_all, load_all, load_all, load_all, pair_eq29, keys3, values3, load_sink x0 12 12 rfl, load_sink x0 13 13 rfl]
  exact (pair_block 6 x0 x1 x2 x3 x4 x5 x6 _ _ _ _ _ _ (twice3 x2 x3) (twice3 x4 x5) (load_query x1 6 768 rfl _) (load_bias x6 6 6 rfl _) rfl rfl r c).trans
    (congrArg _ (place 6 768 rfl _ r c).symm)

/-- Pair 7's piece of the block. -/
theorem piece7 (x0 : Vec Ideal S16 .f32) (x1 : Vec Ideal S128x1024 .bf16) (x2 x3 x4 x5 : Vec Ideal S128x256 .bf16) (x6 : Vec Ideal S1x8x256x256 .f32) (i : S1.Idx) (r c : Fin 128) :
    k0_pay30 (F := Ideal) k0_pay4 k0_pay5 (k0_pay12 k0_pay4 k0_pay5 (k0_pay9 (View.ld x2 (Rect.unit (s := S128x256) ![0, 0] S128x256.size inb_S128x256_S128x256_0_0)) (View.ld x3 (Rect.unit (s := S128x256) ![0, 0] S128x256.size inb_S128x256_S128x256_0_0))) (k0_pay10 (View.ld x2 (Rect.unit (s := S128x256) ![0, 0] S128x256.size inb_S128x256_S128x256_0_0)) (View.ld x3 (Rect.unit (s := S128x256) ![0, 0] S128x256.size inb_S128x256_S128x256_0_0))) (k0_pay11 (View.ld x2 (Rect.unit (s := S128x256) ![0, 0] S128x256.size inb_S128x256_S128x256_0_0)) (View.ld x3 (Rect.unit (s := S128x256) ![0, 0] S128x256.size inb_S128x256_S128x256_0_0))))
      (k0_pay16 (k0_pay2 (View.ld x4 (Rect.unit (s := S128x256) ![0, 0] S128x256.size inb_S128x256_S128x256_0_0)) (View.ld x5 (Rect.unit (s := S128x256) ![0, 0] S128x256.size inb_S128x256_S128x256_0_0))) k0_pay4 k0_pay5) rowNumbers (k0_pay17 k0_pay3) (k0_pay18 k0_pay3) (View.ld x1 (Rect.unit (s := S128x1024) ![0, 896] S128x128.size inb_S128x1024_S128x128_0_896))
      (View.ld x6 (Rect.unit (s := S1x8x256x256) ![0, 7, 0, 0] S1x1x256x256.size inb_S1x8x256x256_S1x1x256x256_0_7_0_0))
      (View.ld x0 (Rect.unit (s := S16) ![14] S1.size inb_S16_S1_14) i) (View.ld x0 (Rect.unit (s := S16) ![15] S1.size inb_S16_S1_15) i) (ix2 r c)
      = swaBlock x0 x1 x2 x3 x4 x5 x6 ((Rect.unit (s := S128x1024) ![0, 896] S128x128.size inb_S128x1024_S128x128_0_896).emb (ix2 r c)) := by
  rw [load_all, load_all, load_all, load_all, pair_eq30, keys3, values3, load_sink x0 14 14 rfl, load_sink x0 15 15 rfl]
  exact (pair_block 7 x0 x1 x2 x3 x4 x5 x6 _ _ _ _ _ _ (twice3 x2 x3) (twice3 x4 x5) (load_query x1 7 896 rfl _) (load_bias x6 7 7 rfl _) rfl rfl r c).trans
    (congrArg _ (place 7 896 rfl _ r c).symm)

set_option maxHeartbeats 1000000 in
theorem out_block (c : Dev nD) (i : grid0.Coords) (arg2 : Memref sig .tc .smem S16 .f32) (harg2 : arg2.IsWhole) (arg3 : Memref sig .tc .vmem S128x1024 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S128x256 .bf16) (harg6 : arg6.IsWhole) (arg7 : Memref sig .tc .vmem S128x256 .bf16) (harg7 : arg7.IsWhole) (arg8 : Memref sig .tc .vmem S1x8x256x256 .f32) (harg8 : arg8.IsWhole) (arg9 : Memref sig .tc .vmem S128x1024 .bf16) (harg9 : arg9.IsWhole)    (x0 : Vec Ideal S16 .f32) (x1 : Vec Ideal S128x1024 .bf16) (x2 : Vec Ideal S128x256 .bf16) (x3 : Vec Ideal S128x256 .bf16) (x4 : Vec Ideal S128x256 .bf16) (x5 : Vec Ideal S128x256 .bf16) (x6 : Vec Ideal S1x8x256x256 .f32) : out0_A_7 (F := Ideal) c i arg2 harg2 arg3 harg3 arg4 harg4 arg5 harg5 arg6 harg6 arg7 harg7 arg8 harg8 arg9 harg9 x0 x1 x2 x3 x4 x5 x6 = swaBlock x0 x1 x2 x3 x4 x5 x6 := by
  funext y
  unfold out0_A_7
  refine View.read_writes_apply_of_pieces _ _ (swaBlock x0 x1 x2 x3 x4 x5 x6) _ ?_ y (cover0_A_7 (F := Ideal) c i arg2 harg2 arg3 harg3 arg4 harg4 arg5 harg5 arg6 harg6 arg7 harg7 arg8 harg8 arg9 harg9 x0 x1 x2 x3 x4 x5 x6 y)
  intro p hp x
  unfold kernelRun0_A at hp
  dsimp only at hp
  simp only [List.mem_cons, List.not_mem_nil, or_false] at hp
  rcases hp with rfl | rfl | rfl | rfl | rfl | rfl | rfl | rfl
  · obtain ⟨r, c, rfl⟩ : ∃ r c : Fin 128, x = (ix2 r c : S128x128.Idx) := ⟨x 0, x 1, funext fun a => by fin_cases a <;> rfl⟩
    dsimp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r, kernelRun0_A.sl.v88]
    simp only [whole_load]
    exact piece7 x0 x1 x2 x3 x4 x5 x6 _ r c
  · obtain ⟨r, c, rfl⟩ : ∃ r c : Fin 128, x = (ix2 r c : S128x128.Idx) := ⟨x 0, x 1, funext fun a => by fin_cases a <;> rfl⟩
    dsimp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r, kernelRun0_A.sl.v88]
    simp only [whole_load]
    exact piece6 x0 x1 x2 x3 x4 x5 x6 _ r c
  · obtain ⟨r, c, rfl⟩ : ∃ r c : Fin 128, x = (ix2 r c : S128x128.Idx) := ⟨x 0, x 1, funext fun a => by fin_cases a <;> rfl⟩
    dsimp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r, kernelRun0_A.sl.v88]
    simp only [whole_load]
    exact piece5 x0 x1 x2 x3 x4 x5 x6 _ r c
  · obtain ⟨r, c, rfl⟩ : ∃ r c : Fin 128, x = (ix2 r c : S128x128.Idx) := ⟨x 0, x 1, funext fun a => by fin_cases a <;> rfl⟩
    dsimp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r, kernelRun0_A.sl.v88]
    simp only [whole_load]
    exact piece4 x0 x1 x2 x3 x4 x5 x6 _ r c
  · obtain ⟨r, c, rfl⟩ : ∃ r c : Fin 128, x = (ix2 r c : S128x128.Idx) := ⟨x 0, x 1, funext fun a => by fin_cases a <;> rfl⟩
    dsimp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r, kernelRun0_A.sl.v88]
    simp only [whole_load]
    exact piece3 x0 x1 x2 x3 x4 x5 x6 _ r c
  · obtain ⟨r, c, rfl⟩ : ∃ r c : Fin 128, x = (ix2 r c : S128x128.Idx) := ⟨x 0, x 1, funext fun a => by fin_cases a <;> rfl⟩
    dsimp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r, kernelRun0_A.sl.v88]
    simp only [whole_load]
    exact piece2 x0 x1 x2 x3 x4 x5 x6 _ r c
  · obtain ⟨r, c, rfl⟩ : ∃ r c : Fin 128, x = (ix2 r c : S128x128.Idx) := ⟨x 0, x 1, funext fun a => by fin_cases a <;> rfl⟩
    dsimp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r, kernelRun0_A.sl.v88]
    simp only [whole_load]
    exact piece1 x0 x1 x2 x3 x4 x5 x6 _ r c
  · obtain ⟨r, c, rfl⟩ : ∃ r c : Fin 128, x = (ix2 r c : S128x128.Idx) := ⟨x 0, x 1, funext fun a => by fin_cases a <;> rfl⟩
    dsimp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r, kernelRun0_A.sl.v88]
    simp only [whole_load]
    exact piece0 x0 x1 x2 x3 x4 x5 x6 _ r c

end Cert.Kernel4Ideal.Swa

end
-- ==== Proof.SwaLaunch.lean ====
/- The sliding-window attention's whole array: the blocks the launch writes, put together, are the attention of
   the whole input, read row by row. -/
module

public import proofs.«01_k».proof.Proof.SwaRun

@[expose] public section

noncomputable section

namespace Cert.Kernel4Ideal.Swa

open Cert.Kernel4Ideal Cert.Kernel4Ideal.Gen
open Idealize.ShloMosaic Idealize.ShloMosaic.TcCoe Idealize.SL.Sem
open Idealize.ShloMosaic.Pipeline (Dat)

/-- The row of the input that holds key `j` of output row `r`: the keys are the rows of the block before and of
    the block itself, and the first block of a sequence has itself before it. -/
def keyRow (r j : Nat) : Nat :=
  if j < 128 then 128 * (32 * (r / 4096) + (r / 128 % 32 - 1)) + j else 128 * (r / 128) + (j - 128)

theorem keyRow_lt (r j : Nat) (hr : r < 8192) (hj : j < 256) : keyRow r j < 8192 := by
  unfold keyRow
  split <;> omega

/-- The score of key `j` for output row `r` and column `n`, before the bias. -/
def near (p : FVec Ideal S8192x8704 .bf16) (r : Fin 8192) (n : Fin 1024) (j : Fin 256) : EReal :=
  ∑ d : Fin 64, p (ix2 r ⟨64 * ((n : Nat) / 64) + d, by omega⟩) * eighth
    * p (ix2 ⟨keyRow r j, keyRow_lt _ _ r.isLt j.isLt⟩ ⟨1024 + (64 * ((n : Nat) / 256) + d), by omega⟩)

/-- The bias of key `j`, read off the prepared table. -/
def listed (t : FVec Ideal S2x8x256x256 .f32) (r : Fin 8192) (n : Fin 1024) (j : Fin 256) : EReal :=
  t (ix4 ⟨min ((r : Nat) / 128 % 32) 1, by omega⟩ ⟨(n : Nat) / 128, by omega⟩ ⟨128 * ((n : Nat) / 64 % 2) + (r : Nat) % 128, by omega⟩ j)

/-- The value of key `j`. -/
def worth (p : FVec Ideal S8192x8704 .bf16) (r : Fin 8192) (n : Fin 1024) (j : Fin 256) : EReal :=
  p (ix2 ⟨keyRow r j, keyRow_lt _ _ r.isLt j.isLt⟩ ⟨1280 + (64 * ((n : Nat) / 256) + (n : Nat) % 64), by omega⟩)

/-- The attention of one output row and column. -/
def swaAt (p : FVec Ideal S8192x8704 .bf16) (k : FVec Ideal S16 .f32) (t : FVec Ideal S2x8x256x256 .f32) (r : Fin 8192) (n : Fin 1024) : EReal :=
  ∑ j : Fin 256, prob (fun j => near p r n j + listed t r n j) (k (ix1 ⟨(n : Nat) / 64, by omega⟩)) j * worth p r n j

/-- The attention of the whole input. -/
def swaArr (p : FVec Ideal S8192x8704 .bf16) (k : FVec Ideal S16 .f32) (t : FVec Ideal S2x8x256x256 .f32) : FVec Ideal S8192x1024 .bf16 :=
  fun i => swaAt p k t (i 0) (i 1)

theorem band_lo (a b : Vec Ideal S128x256 .bf16) (j : Fin 256) (d : Fin 256) (h : (j : Nat) < 128) :
    band a b (ix2 j d) = a (ix2 ⟨j, h⟩ d) := by
  unfold band
  unfold k0_pay1
  exact rows_left _ _ _ _ _ _ rfl

theorem band_hi (a b : Vec Ideal S128x256 .bf16) (j : Fin 256) (d : Fin 256) (h : ¬ (j : Nat) < 128) :
    band a b (ix2 j d) = b (ix2 ⟨(j : Nat) - 128, by omega⟩ d) := by
  unfold band
  unfold k0_pay1
  exact rows_right _ _ _ _ _ _ (by show (j : Nat) = 128 + ((j : Nat) - 128); omega)

variable (m : (ℓ : Loc nD τ sig) → Buf (Elt Ideal) ℓ)

theorem at0 : ∀ t : Fin grid0.N, win0_0.index t 0 = 0 := by decide +kernel
theorem at1 : ∀ t : Fin grid0.N, win0_1.index t 0 = win0_7.index t 0 ∧ win0_1.index t 1 = 0 := by decide +kernel
theorem at2 : ∀ t : Fin grid0.N, win0_2.index t 0 = 32 * (win0_7.index t 0 / 32) + (win0_7.index t 0 % 32 - 1) ∧ win0_2.index t 1 = 4 := by decide +kernel
theorem at3 : ∀ t : Fin grid0.N, win0_3.index t 0 = win0_7.index t 0 ∧ win0_3.index t 1 = 4 := by decide +kernel
theorem at4 : ∀ t : Fin grid0.N, win0_4.index t 0 = 32 * (win0_7.index t 0 / 32) + (win0_7.index t 0 % 32 - 1) ∧ win0_4.index t 1 = 5 := by decide +kernel
theorem at5 : ∀ t : Fin grid0.N, win0_5.index t 0 = win0_7.index t 0 ∧ win0_5.index t 1 = 5 := by decide +kernel
theorem at6 : ∀ t : Fin grid0.N, win0_6.index t 0 = min (win0_7.index t 0 % 32) 1 ∧ win0_6.index t 1 = 0 ∧ win0_6.index t 2 = 0 ∧ win0_6.index t 3 = 0 := by decide +kernel
theorem at7 : ∀ t : Fin grid0.N, win0_7.index t 0 < 64 ∧ win0_7.index t 1 = 0 := by decide +kernel

variable (c : Dev nD) (t : Fin cfg0.N)

theorem read0 (h : Fin 16) : iblk m c 0 t (ix1 h) = V m c main_arg1 (ix1 h) := by
  unfold iblk
  show V m c main_arg1 (((cfg0.win 0).blk t).view.emb (ix1 h)) = _
  refine congrArg _ (funext fun a => Fin.ext ?_)
  fin_cases a
  blk_simp; rw [at0 t]; show 0 * 16 + (h : Nat) = h; omega

theorem read1 (r : Fin 128) (n : Fin 1024) : X0_1 m c t (ix2 r n)
    = V m c main_arg0 (ix2 ⟨win0_7.index t 0 * 128 + r, by have := (at7 t).1; omega⟩ ⟨n, by omega⟩) := by
  unfold X0_1 Pipeline.Window.fill
  rw [dif_pos (moved0_1 t _)]
  unfold iblk
  show V m c main_arg0 (((cfg0.win 1).blk t).view.emb _) = _
  refine congrArg _ (funext fun a => Fin.ext ?_)
  fin_cases a
  · blk_simp; rw [(at1 t).1]
    rfl
  · blk_simp; rw [(at1 t).2]
    show 0 * 1024 + (n : Nat) = n
    omega

theorem read2 (r : Fin 128) (n : Fin 256) : iblk m c 2 t (ix2 r n)
    = V m c main_arg0 (ix2 ⟨128 * (32 * (win0_7.index t 0 / 32) + (win0_7.index t 0 % 32 - 1)) + r, by have := (at7 t).1; omega⟩ ⟨1024 + n, by omega⟩) := by
  unfold iblk
  show V m c main_arg0 (((cfg0.win 2).blk t).view.emb _) = _
  refine congrArg _ (funext fun a => Fin.ext ?_)
  fin_cases a
  · blk_simp; rw [(at2 t).1]
    show _ * 128 + (r : Nat) = 128 * _ + r
    omega
  · blk_simp; rw [(at2 t).2]
    rfl

theorem read3 (r : Fin 128) (n : Fin 256) : iblk m c 3 t (ix2 r n)
    = V m c main_arg0 (ix2 ⟨128 * win0_7.index t 0 + r, by have := (at7 t).1; omega⟩ ⟨1024 + n, by omega⟩) := by
  unfold iblk
  show V m c main_arg0 (((cfg0.win 3).blk t).view.emb _) = _
  refine congrArg _ (funext fun a => Fin.ext ?_)
  fin_cases a
  · blk_simp; rw [(at3 t).1]
    show _ * 128 + (r : Nat) = 128 * _ + r
    omega
  · blk_simp; rw [(at3 t).2]
    rfl

theorem read4 (r : Fin 128) (n : Fin 256) : iblk m c 4 t (ix2 r n)
    = V m c main_arg0 (ix2 ⟨128 * (32 * (win0_7.index t 0 / 32) + (win0_7.index t 0 % 32 - 1)) + r, by have := (at7 t).1; omega⟩ ⟨1280 + n, by omega⟩) := by
  unfold iblk
  show V m c main_arg0 (((cfg0.win 4).blk t).view.emb _) = _
  refine congrArg _ (funext fun a => Fin.ext ?_)
  fin_cases a
  · blk_simp; rw [(at4 t).1]
    show _ * 128 + (r : Nat) = 128 * _ + r
    omega
  · blk_simp; rw [(at4 t).2]
    rfl

theorem read5 (r : Fin 128) (n : Fin 256) : iblk m c 5 t (ix2 r n)
    = V m c main_arg0 (ix2 ⟨128 * win0_7.index t 0 + r, by have := (at7 t).1; omega⟩ ⟨1280 + n, by omega⟩) := by
  unfold iblk
  show V m c main_arg0 (((cfg0.win 5).blk t).view.emb _) = _
  refine congrArg _ (funext fun a => Fin.ext ?_)
  fin_cases a
  · blk_simp; rw [(at5 t).1]
    show _ * 128 + (r : Nat) = 128 * _ + r
    omega
  · blk_simp; rw [(at5 t).2]
    rfl

theorem read6 (p : Fin 8) (r j : Fin 256) : iblk m c 6 t (ix4 0 p r j)
    = V m c main_v23 (ix4 ⟨min (win0_7.index t 0 % 32) 1, by omega⟩ p r j) := by
  unfold iblk
  show V m c main_v23 (((cfg0.win 6).blk t).view.emb _) = _
  refine congrArg _ (funext fun a => Fin.ext ?_)
  fin_cases a
  · blk_simp; rw [(at6 t).1]
    rfl
  · blk_simp; rw [(at6 t).2.1]
    show 0 * 8 + (p : Nat) = p
    omega
  · blk_simp; rw [(at6 t).2.2.1]
    show 0 * 256 + (r : Nat) = r
    omega
  · blk_simp; rw [(at6 t).2.2.2]
    show 0 * 256 + (j : Nat) = j
    omega

theorem keys_at (j d : Fin 256) (r : Nat) (hr : r / 128 = win0_7.index t 0) (hb : keyRow r j < 8192) :
    band (iblk m c 2 t) (iblk m c 3 t) (ix2 j d) = V m c main_arg0 (ix2 ⟨keyRow r j, hb⟩ ⟨1024 + d, by omega⟩) := by
  by_cases h : (j : Nat) < 128
  · rw [band_lo _ _ _ _ h, read2]
    refine congrArg _ (congrArg (ix2 · _) (Fin.ext ?_))
    show _ = keyRow r j
    unfold keyRow
    rw [if_pos h]
    show 128 * (32 * (win0_7.index t 0 / 32) + (win0_7.index t 0 % 32 - 1)) + (j : Nat) = _
    omega
  · rw [band_hi _ _ _ _ h, read3]
    refine congrArg _ (congrArg (ix2 · _) (Fin.ext ?_))
    show _ = keyRow r j
    unfold keyRow
    rw [if_neg h]
    show 128 * win0_7.index t 0 + ((j : Nat) - 128) = _
    omega

theorem values_at (j d : Fin 256) (r : Nat) (hr : r / 128 = win0_7.index t 0) (hb : keyRow r j < 8192) :
    band (iblk m c 4 t) (iblk m c 5 t) (ix2 j d) = V m c main_arg0 (ix2 ⟨keyRow r j, hb⟩ ⟨1280 + d, by omega⟩) := by
  by_cases h : (j : Nat) < 128
  · rw [band_lo _ _ _ _ h, read4]
    refine congrArg _ (congrArg (ix2 · _) (Fin.ext ?_))
    show _ = keyRow r j
    unfold keyRow
    rw [if_pos h]
    show 128 * (32 * (win0_7.index t 0 / 32) + (win0_7.index t 0 % 32 - 1)) + (j : Nat) = _
    omega
  · rw [band_hi _ _ _ _ h, read5]
    refine congrArg _ (congrArg (ix2 · _) (Fin.ext ?_))
    show _ = keyRow r j
    unfold keyRow
    rw [if_neg h]
    show 128 * win0_7.index t 0 + ((j : Nat) - 128) = _
    omega

/-- The array the launch leaves. -/
theorem final : (dats m 0 c).arrAt 7 cfg0.N = swaArr (V m c main_arg0) (V m c main_arg1) (V m c main_v23) := by
  refine (dats m 0 c).arrAt_eq_of_covers 7 _ (by decide +kernel) fun t hf y => ?_
  rw [after0_7]
  unfold outsAt0
  rw [out_block]
  have y0 : (y 0 : Nat) < 128 := (y 0).isLt
  have y1 : (y 1 : Nat) < 1024 := (y 1).isLt
  have hw := at7 t
  have e : (((cfg0.win 7).blk t).view.emb y : S8192x1024.Idx)
      = ix2 (⟨win0_7.index t 0 * 128 + (y 0 : Nat), by omega⟩ : Fin 8192) (⟨(y 1 : Nat), y1⟩ : Fin 1024) := by
    funext a
    refine Fin.ext ?_
    fin_cases a
    · blk_simp
      rfl
    · blk_simp; rw [hw.2]
      show 0 * 1024 + (y 1 : Nat) = y 1
      omega
  rw [e]
  unfold swaBlock
  show (∑ j : Fin 256, _) = swaAt (V m c main_arg0) (V m c main_arg1) (V m c main_v23)
    (⟨win0_7.index t 0 * 128 + (y 0 : Nat), by omega⟩ : Fin 8192) (⟨(y 1 : Nat), y1⟩ : Fin 1024)
  have hr : (win0_7.index t 0 * 128 + (y 0 : Nat)) / 128 = win0_7.index t 0 := by omega
  have hm : (win0_7.index t 0 * 128 + (y 0 : Nat)) % 128 = (y 0 : Nat) := by omega
  unfold swaAt
  refine Finset.sum_congr rfl fun j _ => ?_
  refine congrArg₂ (· * ·) (congrFun (congrArg₂ prob (funext fun j => ?_) (read0 m c t _)) j) ?_
  · refine congrArg₂ (· + ·) ?_ ?_
    · unfold near
      refine Finset.sum_congr rfl fun d _ => ?_
      rw [read1, keys_at m c t _ _ _ hr (keyRow_lt _ _ (by omega) j.isLt)]
    · unfold listed
      rw [read6]
      refine congrArg _ ?_
      simp only [hr, hm]
  · unfold worth
    rw [values_at m c t _ _ _ hr (keyRow_lt _ _ (by omega) j.isLt)]

end Cert.Kernel4Ideal.Swa

end
-- ==== Proof.SwaRef.lean ====
/- The sliding-window attention of the reference, step by step, each step read at one index. -/
module

public import proofs.«01_k».proof.Proof.Gen.Reference4Ideal.Run
public import Idealize.ShloMosaic.Lib.Pipeline.Value
public import Idealize.ShloMosaic.Lib.Pipeline.ValueKit
public import Idealize.ShloMosaic.Lib.Pointwise
public import Idealize.ShloMosaic.Lib.IdealHost

@[expose] public section

noncomputable section

namespace Cert.Reference4Ideal.Swa

open Cert.Reference4Ideal Cert.Reference4Ideal.Gen
open Idealize.ShloMosaic Idealize.ShloMosaic.TcCoe Idealize.SL.Sem

/-- The queries. -/
def queries (p : FVec Ideal S8192x8704 .bf16) : FVec Ideal S2x32x128x4x4x64 .f32 :=
  shapeCast S2x32x128x4x4x64 (shapeCast S2x4096x1024 (extf .f32 (extractStridedSlice S8192x1024 ![0, 0] p slices_S8192x8704_S8192x1024_0_0) bitsLt_bf16_f32 : FVec Ideal S8192x1024 .f32)
    shapeCasts_S8192x1024_S2x4096x1024) shapeCasts_S2x4096x1024_S2x32x128x4x4x64

/-- A sequence's rows under 128 rows of zeros, in blocks of 128. -/
def padded (k : FVec Ideal S8192x256 .bf16) : FVec Ideal S2x33x128x4x64 .f32 :=
  shapeCast S2x33x128x4x64 (Value.fn_main_v12 (F := Ideal) (broadcastInDim S2x128x4x64 ![] bcast_S_S2x128x4x64 (constant S_ .f32 0x00000000#32 : FVec Ideal S_ .f32))
    (shapeCast S2x4096x4x64 (shapeCast S2x4096x256 (extf .f32 k bitsLt_bf16_f32 : FVec Ideal S8192x256 .f32)
      shapeCasts_S8192x256_S2x4096x256) shapeCasts_S2x4096x256_S2x4096x4x64)) shapeCasts_S2x4224x4x64_S2x33x128x4x64

/-- Every block with the block before it above it. -/
def doubled (k : FVec Ideal S2x33x128x4x64 .f32) : FVec Ideal S2x32x256x4x64 .f32 :=
  Value.fn_main_v19 (F := Ideal) (extractStridedSlice S2x32x128x4x64 ![0, 0, 0, 0, 0] k slices_S2x33x128x4x64_S2x32x128x4x64_0_0_0_0_0)
    (extractStridedSlice S2x32x128x4x64 ![0, 1, 0, 0, 0] k slices_S2x33x128x4x64_S2x32x128x4x64_0_1_0_0_0)

/-- The scaled scores. -/
def scaled (q : FVec Ideal S2x32x128x4x4x64 .f32) (k : FVec Ideal S2x32x256x4x64 .f32) : FVec Ideal S2x32x4x4x128x256 .f32 :=
  mulf (transpose S2x32x4x4x128x256 [0, 1, 2, 5, 4, 3] (Host.dotGeneral dot_S2x32x256x4x64_S2x32x128x4x4x64_S2x32x4x256x128x4_4_5_2_24_013_013 none k q)
      transposes_S2x32x4x256x128x4_S2x32x4x4x128x256_0_1_2_5_4_3)
    (broadcastInDim S2x32x4x4x128x256 ![] bcast_S_S2x32x4x4x128x256 (constant S_ .f32 0x3E000000#32))

/-- A key no more than 127 rows before the query and not after it. -/
def inWindow : IVec S128x256 1 :=
  andi (cmpi .sge (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32))))
      (broadcastInDim S128x256 ![0, 1] bcast_S1x256_S128x256_0_1 (broadcastInDim S1x256 ![1] bcast_S256_S1x256_1 (iotaInDim S256 32 0))))
    (broadcastInDim S128x256 ![] bcast_S_S128x256 (constantI S_ 32 0#32)))
   (cmpi .slt (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32))))
      (broadcastInDim S128x256 ![0, 1] bcast_S1x256_S128x256_0_1 (broadcastInDim S1x256 ![1] bcast_S256_S1x256_1 (iotaInDim S256 32 0))))
    (broadcastInDim S128x256 ![] bcast_S_S128x256 (constantI S_ 32 128#32)))

/-- A key that is a row of the sequence: the first block has none before it. -/
def present : IVec S32x1x256 1 :=
  ori (broadcastInDim S32x1x256 ![0, 1, 2] bcast_S32x1x1_S32x1x256_0_1_2 (cmpi .sgt (broadcastInDim S32x1x1 ![0] bcast_S32_S32x1x1_0 (iotaInDim S32 32 0)) (broadcastInDim S32x1x1 ![] bcast_S_S32x1x1 (constantI S_ 32 0#32))))
    (broadcastInDim S32x1x256 ![0, 1, 2] bcast_S1x1x256_S32x1x256_0_1_2 (cmpi .sge (broadcastInDim S1x1x256 ![1, 2] bcast_S1x256_S1x1x256_1_2 (broadcastInDim S1x256 ![1] bcast_S256_S1x256_1 (iotaInDim S256 32 0)))
      (broadcastInDim S1x1x256 ![] bcast_S_S1x1x256 (constantI S_ 32 128#32))))

/-- The keys a query attends to. -/
def seen : IVec S2x32x4x4x128x256 1 :=
  broadcastInDim S2x32x4x4x128x256 ![0, 1, 2, 3, 4, 5] bcast_S1x32x1x1x128x256_S2x32x4x4x128x256_0_1_2_3_4_5
    (broadcastInDim S1x32x1x1x128x256 ![1, 4, 5] bcast_S32x128x256_S1x32x1x1x128x256_1_4_5
      (andi (broadcastInDim S32x128x256 ![0, 1, 2] bcast_S1x128x256_S32x128x256_0_1_2 (broadcastInDim S1x128x256 ![1, 2] bcast_S128x256_S1x128x256_1_2 inWindow))
        (broadcastInDim S32x128x256 ![0, 1, 2] bcast_S32x1x256_S32x128x256_0_1_2 present)))

/-- The scores with the bias, those of the other keys at minus infinity. -/
def masked (s : FVec Ideal S2x32x4x4x128x256 .f32) (b : FVec Ideal S16x128x256 .f32) : FVec Ideal S2x32x4x4x128x256 .f32 :=
  select seen (addf s (broadcastInDim S2x32x4x4x128x256 ![0, 1, 2, 3, 4, 5] bcast_S1x1x4x4x128x256_S2x32x4x4x128x256_0_1_2_3_4_5
      (broadcastInDim S1x1x4x4x128x256 ![2, 3, 4, 5] bcast_S4x4x128x256_S1x1x4x4x128x256_2_3_4_5 (shapeCast S4x4x128x256 b shapeCasts_S16x128x256_S4x4x128x256))))
    (broadcastInDim S2x32x4x4x128x256 ![] bcast_S_S2x32x4x4x128x256 (constant S_ .f32 0xFF800000#32))

/-- The sinks, one for every head, for every row. -/
def sinkRows (k : FVec Ideal S16 .f32) : FVec Ideal S2x32x4x4x128x1 .f32 :=
  broadcastInDim S2x32x4x4x128x1 ![0, 1, 2, 3, 4, 5] bcast_S1x1x4x4x1x1_S2x32x4x4x128x1_0_1_2_3_4_5
    (broadcastInDim S1x1x4x4x1x1 ![2, 3, 4, 5] bcast_S4x4x1x1_S1x1x4x4x1x1_2_3_4_5
      (broadcastInDim S4x4x1x1 ![0, 1] bcast_S4x4_S4x4x1x1_0_1 (shapeCast S4x4 k shapeCasts_S16_S4x4)))

/-- The greatest of a row's scores and its sink. -/
def tops (s : FVec Ideal S2x32x4x4x128x256 .f32) (k : FVec Ideal S16 .f32) : FVec Ideal S2x32x4x4x128x1 .f32 :=
  maximumf (broadcastInDim S2x32x4x4x128x1 ![0, 1, 2, 3, 4] bcast_S2x32x4x4x128_S2x32x4x4x128x1_0_1_2_3_4
    (Host.reduce FloatOps.maximumf s (constant S_ .f32 0xFF800000#32) reducesTo_S2x32x4x4x128x256_S2x32x4x4x128_d5 h_S_)) (sinkRows k)

/-- The exponentials. -/
def powers (s : FVec Ideal S2x32x4x4x128x256 .f32) (t : FVec Ideal S2x32x4x4x128x1 .f32) : FVec Ideal S2x32x4x4x128x256 .f32 :=
  Host.exp (subf s (broadcastInDim S2x32x4x4x128x256 ![0, 1, 2, 3, 4, 5] bcast_S2x32x4x4x128x1_S2x32x4x4x128x256_0_1_2_3_4_5 t))

/-- The sums of the exponentials, the sink's with them. -/
def sums (e : FVec Ideal S2x32x4x4x128x256 .f32) (t : FVec Ideal S2x32x4x4x128x1 .f32) (k : FVec Ideal S16 .f32) : FVec Ideal S2x32x4x4x128x1 .f32 :=
  addf (broadcastInDim S2x32x4x4x128x1 ![0, 1, 2, 3, 4] bcast_S2x32x4x4x128_S2x32x4x4x128x1_0_1_2_3_4
    (Host.reduceAdd e (constant S_ .f32 0x00000000#32) reducesTo_S2x32x4x4x128x256_S2x32x4x4x128_d5 h_S_))
    (Host.exp (subf (sinkRows k) t))

/-- The weights. -/
def shares (e : FVec Ideal S2x32x4x4x128x256 .f32) (z : FVec Ideal S2x32x4x4x128x1 .f32) : FVec Ideal S2x32x4x4x128x256 .f32 :=
  Host.divf e (broadcastInDim S2x32x4x4x128x256 ![0, 1, 2, 3, 4, 5] bcast_S2x32x4x4x128x1_S2x32x4x4x128x256_0_1_2_3_4_5 z)

/-- The attended values, as the rows of the result. -/
def spread (v : FVec Ideal S2x32x256x4x64 .f32) (a : FVec Ideal S2x32x4x4x128x256 .f32) : FVec Ideal S8192x1024 .f32 :=
  shapeCast S8192x1024 (transpose S2x32x128x4x4x64 [0, 1, 5, 2, 4, 3]
    (Host.dotGeneral dot_S2x32x256x4x64_S2x32x4x4x128x256_S2x32x4x64x4x128_2_5_4_34_013_012 none v a)
    transposes_S2x32x4x64x4x128_S2x32x128x4x4x64_0_1_5_2_4_3) shapeCasts_S2x32x128x4x4x64_S8192x1024

/-- The scores of the reference. -/
def scores (p : FVec Ideal S8192x8704 .bf16) (b : FVec Ideal S16x128x256 .f32) : FVec Ideal S2x32x4x4x128x256 .f32 :=
  masked (scaled (queries p) (doubled (padded (extractStridedSlice S8192x256 ![0, 1024] p slices_S8192x8704_S8192x256_0_1024)))) b

/-- The attention of the reference. -/
def attention (p : FVec Ideal S8192x8704 .bf16) (k : FVec Ideal S16 .f32) (b : FVec Ideal S16x128x256 .f32) : FVec Ideal S8192x1024 .bf16 :=
  truncf .bf16 (spread (doubled (padded (extractStridedSlice S8192x256 ![0, 1280] p slices_S8192x8704_S8192x256_0_1280)))
    (shares (powers (scores p b) (tops (scores p b) k)) (sums (powers (scores p b) (tops (scores p b) k)) (tops (scores p b) k) k))) bitsLt_bf16_f32

variable (m : (ℓ : Loc nD τ sig) → Buf (Elt Ideal) ℓ)

theorem res_eq (c : Dev nD) : Value.res_main_v83 m c
    = attention (m ((c.tc : Thread nD τ).loc main_arg0)) (m ((c.tc : Thread nD τ).loc main_arg1)) (m ((c.tc : Thread nD τ).loc main_arg2)) := by
  unfold Value.res_main_v83
  rfl

end Cert.Reference4Ideal.Swa

end
-- ==== Proof.SwaRefAt.lean ====
/- The steps of the reference's sliding-window attention, each at one index. -/
module

public import proofs.«01_k».proof.Proof.SwaRef

@[expose] public section

noncomputable section

namespace Cert.Reference4Ideal.Swa

open Cert.Reference4Ideal Cert.Reference4Ideal.Gen
open Idealize.ShloMosaic Idealize.ShloMosaic.TcCoe Idealize.SL.Sem

theorem queries_at (p : FVec Ideal S8192x8704 .bf16) (s : Fin 2) (n : Fin 32) (r : Fin 128) (g h : Fin 4) (d : Fin 64) :
    queries p (ix6 s n r g h d) = p (ix2 ⟨4096 * s + 128 * n + r, by omega⟩ ⟨256 * g + 64 * h + d, by omega⟩) := by
  unfold queries
  pointwise
  simp only [Nat.mul_comm]

theorem scaled_at (q : FVec Ideal S2x32x128x4x4x64 .f32) (k : FVec Ideal S2x32x256x4x64 .f32) (s : Fin 2) (n : Fin 32) (g h : Fin 4) (r : Fin 128) (j : Fin 256) :
    scaled q k (ix6 s n g h r j) = (∑ d : Fin 64, k (ix5 s n j g d) * q (ix6 s n r g h d)) * Ideal.ofBits .f32 0x3E000000#32 := by
  unfold scaled
  pointwise

theorem masked_at (x : FVec Ideal S2x32x4x4x128x256 .f32) (b : FVec Ideal S16x128x256 .f32) (s : Fin 2) (n : Fin 32) (g h : Fin 4) (r : Fin 128) (j : Fin 256) :
    masked x b (ix6 s n g h r j) = Scalar.select (seen (ix6 s n g h r j)) (x (ix6 s n g h r j) + b (ix3 ⟨4 * g + h, by omega⟩ r j)) (Ideal.ofBits .f32 0xFF800000#32) := by
  unfold masked
  pointwise
  simp only [Nat.mul_comm]

theorem seen_at (s : Fin 2) (n : Fin 32) (g h : Fin 4) (r : Fin 128) (j : Fin 256) :
    seen (ix6 s n g h r j) = IntOp.andi (inWindow (ix2 r j)) (present (ix3 n 0 j)) := by
  unfold seen
  pointwise

theorem sinkRows_at (k : FVec Ideal S16 .f32) (s : Fin 2) (n : Fin 32) (g h : Fin 4) (r : Fin 128) :
    sinkRows k (ix6 s n g h r 0) = k (ix1 ⟨4 * g + h, by omega⟩) := by
  unfold sinkRows
  pointwise
  simp only [Nat.mul_comm]

theorem powers_at (x : FVec Ideal S2x32x4x4x128x256 .f32) (t : FVec Ideal S2x32x4x4x128x1 .f32) (s : Fin 2) (n : Fin 32) (g h : Fin 4) (r : Fin 128) (j : Fin 256) :
    powers x t (ix6 s n g h r j) = Ideal.exp (x (ix6 s n g h r j) - t (ix6 s n g h r 0)) := by
  unfold powers
  pointwise

theorem shares_at (e : FVec Ideal S2x32x4x4x128x256 .f32) (t : FVec Ideal S2x32x4x4x128x1 .f32) (s : Fin 2) (n : Fin 32) (g h : Fin 4) (r : Fin 128) (j : Fin 256) :
    shares e t (ix6 s n g h r j) = Ideal.div (e (ix6 s n g h r j)) (t (ix6 s n g h r 0)) := by
  unfold shares
  pointwise

theorem last_reduces : S2x32x4x4x128x256.Reduces [5] S2x32x4x4x128 := by decide

theorem lift_last (s : Fin 2) (n : Fin 32) (g h : Fin 4) (r : Fin 128) (j : Fin 256) :
    last_reduces.lift (ix5 s n g h r) j = ix6 s n g h r j := by
  funext a
  apply Fin.ext
  fin_cases a <;> rfl

theorem sums_at (e : FVec Ideal S2x32x4x4x128x256 .f32) (t : FVec Ideal S2x32x4x4x128x1 .f32) (k : FVec Ideal S16 .f32) (s : Fin 2) (n : Fin 32) (g h : Fin 4) (r : Fin 128) :
    sums e t k (ix6 s n g h r 0) = (∑ j : Fin 256, e (ix6 s n g h r j)) + Ideal.exp (sinkRows k (ix6 s n g h r 0) - t (ix6 s n g h r 0)) := by
  unfold sums
  pointwise
  rw [Ideal.hostReduceAdd_single _ last_reduces, zero_add]
  refine congrArg (· + _) (Finset.sum_congr rfl fun j _ => congrArg e (lift_last s n g h r j))

/-- The greatest along one axis, at any shape. -/
theorem greatest {s t u : Shape} {a : Fin s.rank} (x : FVec Ideal s .f32) (init : FVec Ideal u .f32) (h' : s.ReducesTo [a] t)
    (h : s.Reduces [a] t) (hu : 0 < u.numel) (j : t.Idx) :
    Host.reduce (FloatOps.maximumf (F := Ideal) (φ := .f32)) x init h' hu j
      = (Finset.univ : Finset (Fin (s.size a))).fold max (init (Shape.Idx.first hu)) (x ∘ h.lift j) :=
  Host.reduce_eq_fold_single (FloatOps.maximumf (F := Ideal) (φ := .f32)) x init h' h hu j

/-- The greatest scores of the rows. -/
def greats (x : FVec Ideal S2x32x4x4x128x256 .f32) : FVec Ideal S2x32x4x4x128 .f32 :=
  Host.reduce FloatOps.maximumf x (constant S_ .f32 0xFF800000#32) reducesTo_S2x32x4x4x128x256_S2x32x4x4x128_d5 h_S_

theorem greats_at (x : FVec Ideal S2x32x4x4x128x256 .f32) (s : Fin 2) (n : Fin 32) (g h : Fin 4) (r : Fin 128) :
    greats x (ix5 s n g h r) = Finset.univ.fold max (Ideal.ofBits .f32 0xFF800000#32) fun j : Fin 256 => x (ix6 s n g h r j) := by
  unfold greats
  rw [greatest x (constant S_ .f32 0xFF800000#32) reducesTo_S2x32x4x4x128x256_S2x32x4x4x128_d5 last_reduces h_S_ (ix5 s n g h r)]
  exact congrArg (Finset.fold max (Ideal.ofBits .f32 0xFF800000#32) · (Finset.univ : Finset (Fin 256)))
    (funext fun j => congrArg x (lift_last s n g h r j))

theorem tops_at (x : FVec Ideal S2x32x4x4x128x256 .f32) (k : FVec Ideal S16 .f32) (s : Fin 2) (n : Fin 32) (g h : Fin 4) (r : Fin 128) :
    tops x k (ix6 s n g h r 0) = max (Finset.univ.fold max (Ideal.ofBits .f32 0xFF800000#32) fun j : Fin 256 => x (ix6 s n g h r j)) (sinkRows k (ix6 s n g h r 0)) := by
  have e : tops x k = maximumf (broadcastInDim S2x32x4x4x128x1 ![0, 1, 2, 3, 4] bcast_S2x32x4x4x128_S2x32x4x4x128x1_0_1_2_3_4 (greats x)) (sinkRows k) := rfl
  rw [e, maximumf_apply, ← greats_at]
  pointwise

theorem spread_at (v : FVec Ideal S2x32x256x4x64 .f32) (a : FVec Ideal S2x32x4x4x128x256 .f32) (r : Fin 8192) (n : Fin 1024) :
    spread v a (ix2 r n) = ∑ j : Fin 256, v (ix5 ⟨r / 4096, by omega⟩ ⟨r / 128 % 32, by omega⟩ j ⟨n / 256, by omega⟩ ⟨n % 64, by omega⟩)
      * a (ix6 ⟨r / 4096, by omega⟩ ⟨r / 128 % 32, by omega⟩ ⟨n / 256, by omega⟩ ⟨n / 64 % 4, by omega⟩ ⟨r % 128, by omega⟩ j) := by
  unfold spread
  pointwise

/-- Two arrays one above the other along the third of five axes. -/
theorem third_left {α : Type} {p q a b n u w : ℕ} (x : (⟨5, ![p, q, a, u, w]⟩ : Shape).Idx → α) (y : (⟨5, ![p, q, b, u, w]⟩ : Shape).Idx → α)
    (h : Shape.Concatenates [⟨5, ![p, q, a, u, w]⟩, ⟨5, ![p, q, b, u, w]⟩] ⟨5, ![p, q, n, u, w]⟩ 2)
    (c0 : Fin p) (c1 : Fin q) (k : Fin n) (c3 : Fin u) (c4 : Fin w) (r : Fin a) (e : (k : Nat) = r) :
    concatenate ⟨5, ![p, q, n, u, w]⟩ 2 [⟨⟨5, ![p, q, a, u, w]⟩, x⟩, ⟨⟨5, ![p, q, b, u, w]⟩, y⟩] h (ix5 c0 c1 k c3 c4) = x (ix5 c0 c1 r c3 c4) :=
  concatenate_pair_apply_left (t := ⟨5, ![p, q, n, u, w]⟩) 2 x y h (ix5 c0 c1 k c3 c4) rfl (ix5 c0 c1 r c3 c4) fun d => by
    match d with
    | ⟨0, _⟩ => rfl
    | ⟨1, _⟩ => rfl
    | ⟨2, _⟩ => exact e.symm
    | ⟨3, _⟩ => rfl
    | ⟨4, _⟩ => rfl

theorem third_right {α : Type} {p q a b n u w : ℕ} (x : (⟨5, ![p, q, a, u, w]⟩ : Shape).Idx → α) (y : (⟨5, ![p, q, b, u, w]⟩ : Shape).Idx → α)
    (h : Shape.Concatenates [⟨5, ![p, q, a, u, w]⟩, ⟨5, ![p, q, b, u, w]⟩] ⟨5, ![p, q, n, u, w]⟩ 2)
    (c0 : Fin p) (c1 : Fin q) (k : Fin n) (c3 : Fin u) (c4 : Fin w) (r : Fin b) (e : (k : Nat) = a + r) :
    concatenate ⟨5, ![p, q, n, u, w]⟩ 2 [⟨⟨5, ![p, q, a, u, w]⟩, x⟩, ⟨⟨5, ![p, q, b, u, w]⟩, y⟩] h (ix5 c0 c1 k c3 c4) = y (ix5 c0 c1 r c3 c4) :=
  concatenate_pair_apply_right (t := ⟨5, ![p, q, n, u, w]⟩) 2 x y h (ix5 c0 c1 k c3 c4) rfl rfl (ix5 c0 c1 r c3 c4) (fun d hd => by
    match d with
    | ⟨0, _⟩ => rfl
    | ⟨1, _⟩ => rfl
    | ⟨2, _⟩ => exact absurd rfl hd
    | ⟨3, _⟩ => rfl
    | ⟨4, _⟩ => rfl) ((Nat.add_comm _ _).trans e.symm)

/-- The second of two arrays one above the other along the second of four axes. -/
theorem second_right {α : Type} {p a b n u w : ℕ} (x : (⟨4, ![p, a, u, w]⟩ : Shape).Idx → α) (y : (⟨4, ![p, b, u, w]⟩ : Shape).Idx → α)
    (h : Shape.Concatenates [⟨4, ![p, a, u, w]⟩, ⟨4, ![p, b, u, w]⟩] ⟨4, ![p, n, u, w]⟩ 1)
    (c0 : Fin p) (k : Fin n) (c2 : Fin u) (c3 : Fin w) (r : Fin b) (e : (k : Nat) = a + r) :
    concatenate ⟨4, ![p, n, u, w]⟩ 1 [⟨⟨4, ![p, a, u, w]⟩, x⟩, ⟨⟨4, ![p, b, u, w]⟩, y⟩] h (ix4 c0 k c2 c3) = y (ix4 c0 r c2 c3) :=
  concatenate_pair_apply_right (t := ⟨4, ![p, n, u, w]⟩) 1 x y h (ix4 c0 k c2 c3) rfl rfl (ix4 c0 r c2 c3) (fun d hd => by
    match d with
    | ⟨0, _⟩ => rfl
    | ⟨1, _⟩ => exact absurd rfl hd
    | ⟨2, _⟩ => rfl
    | ⟨3, _⟩ => rfl) ((Nat.add_comm _ _).trans e.symm)

theorem doubled_lo (k : FVec Ideal S2x33x128x4x64 .f32) (s : Fin 2) (n : Fin 32) (j : Fin 256) (g : Fin 4) (d : Fin 64) (hj : (j : Nat) < 128) :
    doubled k (ix5 s n j g d) = k (ix5 s ⟨n, by omega⟩ ⟨j, hj⟩ g d) := by
  unfold doubled Value.fn_main_v19
  refine Eq.trans (third_left _ _ _ _ _ _ _ _ ⟨j, hj⟩ rfl) ?_
  pointwise

theorem doubled_hi (k : FVec Ideal S2x33x128x4x64 .f32) (s : Fin 2) (n : Fin 32) (j : Fin 256) (g : Fin 4) (d : Fin 64) (hj : ¬ (j : Nat) < 128) :
    doubled k (ix5 s n j g d) = k (ix5 s ⟨n + 1, by omega⟩ ⟨(j : Nat) - 128, by omega⟩ g d) := by
  unfold doubled Value.fn_main_v19
  refine Eq.trans (third_right _ _ _ _ _ _ _ _ ⟨(j : Nat) - 128, by omega⟩ (by show (j : Nat) = 128 + ((j : Nat) - 128); omega)) ?_
  pointwise
  all_goals simp only [Nat.add_comm]

theorem padded_at (k : FVec Ideal S8192x256 .bf16) (s : Fin 2) (n : Fin 33) (r : Fin 128) (g : Fin 4) (d : Fin 64) (hn : 0 < (n : Nat)) :
    padded k (ix5 s n r g d) = k (ix2 ⟨4096 * s + 128 * (n - 1) + r, by omega⟩ ⟨64 * g + d, by omega⟩) := by
  unfold padded
  pointwise
  unfold Value.fn_main_v12
  refine Eq.trans (second_right _ _ _ _ _ _ _ ⟨128 * (n - 1) + r, by omega⟩ (by show (n : Nat) * 128 + r = 128 + (128 * (n - 1) + r); omega)) ?_
  pointwise
  refine congrArg k (congrArg₂ ix2 (Fin.ext ?_) (Fin.ext ?_))
  · show (s : Nat) * 4096 + (128 * (n - 1) + r) = 4096 * s + 128 * (n - 1) + r
    omega
  · show (g : Nat) * 64 + d = 64 * g + d
    omega

end Cert.Reference4Ideal.Swa

end
-- ==== Proof.SwaBias.lean ====
/- The bias table the kernel's program prepares: the bias where the key is in the query's window, minus infinity
   elsewhere, once for the first block of a sequence, which has no block before it, and once for the others. -/
module

public import proofs.«01_k».proof.Proof.SwaLaunch
public import proofs.«01_k».proof.Proof.SwaRefAt

@[expose] public section

noncomputable section

namespace Cert.Kernel4Ideal.Swa

open Cert.Kernel4Ideal Cert.Kernel4Ideal.Gen
open Idealize.ShloMosaic Idealize.ShloMosaic.TcCoe Idealize.SL.Sem

/-- A key no more than 127 rows before the query and not after it. -/
def inWindow : IVec S128x256 1 :=
  andi (cmpi .sge (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32))))
      (broadcastInDim S128x256 ![0, 1] bcast_S1x256_S128x256_0_1 (broadcastInDim S1x256 ![1] bcast_S256_S1x256_1 (iotaInDim S256 32 0))))
    (broadcastInDim S128x256 ![] bcast_S_S128x256 (constantI S_ 32 0#32)))
   (cmpi .slt (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32))))
      (broadcastInDim S128x256 ![0, 1] bcast_S1x256_S128x256_0_1 (broadcastInDim S1x256 ![1] bcast_S256_S1x256_1 (iotaInDim S256 32 0))))
    (broadcastInDim S128x256 ![] bcast_S_S128x256 (constantI S_ 32 128#32)))

/-- The bias of the keys in the window. -/
def windowed (b : FVec Ideal S16x128x256 .f32) : FVec Ideal S16x128x256 .f32 :=
  select (broadcastInDim S16x128x256 ![0, 1, 2] bcast_S1x128x256_S16x128x256_0_1_2 (broadcastInDim S1x128x256 ![1, 2] bcast_S128x256_S1x128x256_1_2 inWindow))
    b (broadcastInDim S16x128x256 ![] bcast_S_S16x128x256 (constant S_ .f32 0xFF800000#32))

/-- The bias of the keys in the block itself. -/
def ownBlock (b : FVec Ideal S16x128x256 .f32) : FVec Ideal S16x128x256 .f32 :=
  select (broadcastInDim S16x128x256 ![0, 1, 2] bcast_S1x1x256_S16x128x256_0_1_2 (broadcastInDim S1x1x256 ![1, 2] bcast_S1x256_S1x1x256_1_2
      (cmpi .sge (broadcastInDim S1x256 ![1] bcast_S256_S1x256_1 (iotaInDim S256 32 0)) (broadcastInDim S1x256 ![] bcast_S_S1x256 (constantI S_ 32 128#32)))))
    b (broadcastInDim S16x128x256 ![] bcast_S_S16x128x256 (constant S_ .f32 0xFF800000#32))

/-- The table. -/
def table (b : FVec Ideal S16x128x256 .f32) : FVec Ideal S2x8x256x256 .f32 :=
  shapeCast S2x8x256x256 (concatenate S2x16x128x256 0
    [⟨S1x16x128x256, broadcastInDim S1x16x128x256 ![1, 2, 3] bcast_S16x128x256_S1x16x128x256_1_2_3 (ownBlock (windowed b))⟩,
      ⟨S1x16x128x256, broadcastInDim S1x16x128x256 ![1, 2, 3] bcast_S16x128x256_S1x16x128x256_1_2_3 (windowed b)⟩]
    concatenates_S1x16x128x256_S1x16x128x256_S2x16x128x256_d0) shapeCasts_S2x16x128x256_S2x8x256x256

theorem inWindow_eq : inWindow = Cert.Reference4Ideal.Swa.inWindow := rfl

theorem windowed_at (b : FVec Ideal S16x128x256 .f32) (h : Fin 16) (r : Fin 128) (j : Fin 256) :
    windowed b (ix3 h r j) = Scalar.select (inWindow (ix2 r j)) (b (ix3 h r j)) (Ideal.ofBits .f32 0xFF800000#32) := by
  unfold windowed
  pointwise

theorem ownBlock_at (b : FVec Ideal S16x128x256 .f32) (h : Fin 16) (r : Fin 128) (j : Fin 256) :
    ownBlock b (ix3 h r j) = Scalar.select (IntOp.cmpi .sge (BitVec.ofNat 32 j) 128#32) (b (ix3 h r j)) (Ideal.ofBits .f32 0xFF800000#32) := by
  unfold ownBlock
  pointwise

theorem table_first (b : FVec Ideal S16x128x256 .f32) (p : Fin 8) (r j : Fin 256) :
    table b (ix4 0 p r j) = ownBlock (windowed b) (ix3 ⟨2 * p + r / 128, by omega⟩ ⟨r % 128, by omega⟩ j) := by
  unfold table
  pointwise
  simp only [Nat.mul_comm]

theorem table_other (b : FVec Ideal S16x128x256 .f32) (p : Fin 8) (r j : Fin 256) :
    table b (ix4 1 p r j) = windowed b (ix3 ⟨2 * p + r / 128, by omega⟩ ⟨r % 128, by omega⟩ j) := by
  unfold table
  pointwise
  simp only [Nat.mul_comm]

theorem present_at (n : Fin 32) (j : Fin 256) : Cert.Reference4Ideal.Swa.present (ix3 n 0 j)
    = IntOp.ori (IntOp.cmpi .sgt (BitVec.ofNat 32 n) 0#32) (IntOp.cmpi .sge (BitVec.ofNat 32 j) 128#32) := by
  unfold Cert.Reference4Ideal.Swa.present
  pointwise

variable (m : (ℓ : Loc nD τ sig) → Buf (Elt Ideal) ℓ)

set_option maxRecDepth 8192 in
theorem V_table (c : Dev nD) : V m c main_v23 = table (m ((c : Thread nD τ).loc main_arg2)) := by
  show StableHlo.after (List.flatten [hostOps0, hostOps0_1, hostOps0_2, hostOps0_3, hostOps0_4]) (fun b => m (c, b)) main_v23 = _
  simp only [hostOps0, hostOps0_1, hostOps0_2, hostOps0_3, hostOps0_4, List.flatten_cons, List.flatten_nil, List.cons_append, List.nil_append,
    StableHlo.TRef.ternary, StableHlo.TRef.unary, StableHlo.TRef.toBuf, StableHlo.TRef.ofBuf, cast_eq]
  after_results_simp <;> rfl

end Cert.Kernel4Ideal.Swa

end
-- ==== Proof.SwaAgree.lean ====
/- The kernel's attention and the reference's are the same where the inputs are finite: a key out of the window
   has weight zero in both, and a weight is the exponential over the sum in both. -/
module

public import proofs.«01_k».proof.Proof.SwaBias
public import proofs.«01_k».proof.Proof.Maths

@[expose] public section

noncomputable section

namespace Cert.SwaAgree

open Cert.Kernel4Ideal Cert.Kernel4Ideal.Gen Cert.Kernel4Ideal.Swa Cert.Maths
open Idealize.ShloMosaic

theorem bit (w : BitVec 1) : w = 0#1 ∨ w = 1#1 := by
  revert w; decide

theorem select_one (a b : EReal) : Scalar.select (1#1) a b = a := rfl
theorem select_zero (a b : EReal) : Scalar.select (0#1) a b = b := rfl

theorem eighth_eq : eighth = (((1 : ℝ) / 8 : ℝ) : EReal) := by
  unfold eighth
  simp [Ideal.ofBits, Ideal.ieee, -EReal.coe_mul]; norm_num

theorem eighth_nonneg : 0 ≤ eighth := by
  rw [eighth_eq]
  exact EReal.coe_nonneg.2 (by norm_num)

theorem eighth_proper : Proper eighth := by
  rw [eighth_eq]
  exact ⟨EReal.coe_ne_top _, EReal.coe_ne_bot _⟩

/-- The scale may be taken out of the sum. -/
theorem scale_out {n : ℕ} (a b : Fin n → EReal) : ∑ d, a d * eighth * b d = (∑ d, b d * a d) * eighth := by
  rw [mul_comm]
  have key : ∀ s : Finset (Fin n), ∑ d ∈ s, a d * eighth * b d = eighth * ∑ d ∈ s, b d * a d := by
    intro s
    induction s using Finset.induction_on with
    | empty => simp
    | insert i s hi ih =>
      rw [Finset.sum_insert hi, Finset.sum_insert hi, ih,
        EReal.left_distrib_of_nonneg_of_ne_top eighth_nonneg eighth_proper.1]
      congr 1
      rw [mul_comm (a i) eighth, mul_assoc, mul_comm (a i)]
  exact key _

theorem sge_iff (j : Fin 256) : IntOp.cmpi .sge (BitVec.ofNat 32 j) 128#32 = if 128 ≤ (j : Nat) then 1#1 else 0#1 := by
  revert j; decide +kernel

theorem sgt_iff (n : Fin 32) : IntOp.cmpi .sgt (BitVec.ofNat 32 n) 0#32 = if 0 < (n : Nat) then 1#1 else 0#1 := by
  revert n; decide +kernel

/-- Whether output row `r` sees key `j`. -/
def sees (r : Fin 8192) (n : Fin 1024) (j : Fin 256) : BitVec 1 :=
  Cert.Reference4Ideal.Swa.seen (ix6 ⟨r / 4096, by omega⟩ ⟨r / 128 % 32, by omega⟩ ⟨n / 256, by omega⟩ ⟨n / 64 % 4, by omega⟩ ⟨r % 128, by omega⟩ j)

theorem sees_eq (r : Fin 8192) (n : Fin 1024) (j : Fin 256) : sees r n j
    = IntOp.andi (inWindow (ix2 ⟨r % 128, by omega⟩ j)) (if 0 < (r : Nat) / 128 % 32 ∨ 128 ≤ (j : Nat) then 1#1 else 0#1) := by
  unfold sees
  rw [Cert.Reference4Ideal.Swa.seen_at, present_at, sgt_iff, sge_iff, inWindow_eq]
  refine congrArg _ ?_
  show IntOp.ori (if 0 < (r : Nat) / 128 % 32 then 1#1 else 0#1) _ = _
  by_cases h : 0 < (r : Nat) / 128 % 32 <;> by_cases h' : 128 ≤ (j : Nat) <;> simp only [h, h', if_true, if_false, true_or, or_true, or_self] <;> rfl

theorem sees_back (r : Fin 8192) (n : Fin 1024) (j : Fin 256) (h : sees r n j = 1#1) : 0 < (r : Nat) / 128 % 32 ∨ 128 ≤ (j : Nat) := by
  rw [sees_eq] at h
  by_contra hn
  rw [if_neg hn] at h
  rcases bit (inWindow (ix2 ⟨r % 128, by omega⟩ j)) with e | e <;> rw [e] at h <;> exact absurd h (by decide)

theorem listed_eq (b : FVec Ideal S16x128x256 .f32) (r : Fin 8192) (n : Fin 1024) (j : Fin 256) :
    listed (table b) r n j = Scalar.select (sees r n j) (b (ix3 ⟨n / 64, by omega⟩ ⟨r % 128, by omega⟩ j)) (Ideal.ofBits .f32 0xFF800000#32) := by
  have e0 : (⟨2 * ((n : Nat) / 128) + (128 * ((n : Nat) / 64 % 2) + (r : Nat) % 128) / 128, by omega⟩ : Fin 16) = ⟨n / 64, by omega⟩ := Fin.ext (by show 2 * ((n : Nat) / 128) + (128 * ((n : Nat) / 64 % 2) + (r : Nat) % 128) / 128 = n / 64; omega)
  have e1 : (⟨(128 * ((n : Nat) / 64 % 2) + (r : Nat) % 128) % 128, by omega⟩ : Fin 128) = ⟨r % 128, by omega⟩ := Fin.ext (by show (128 * ((n : Nat) / 64 % 2) + (r : Nat) % 128) % 128 = r % 128; omega)
  rw [sees_eq]
  unfold listed
  by_cases h : 0 < (r : Nat) / 128 % 32
  · have e : (⟨min ((r : Nat) / 128 % 32) 1, by omega⟩ : Fin 2) = 1 := Fin.ext (by show min ((r : Nat) / 128 % 32) 1 = 1; omega)
    rw [e, table_other]
    refine Eq.trans (congrArg (windowed b) (congrArg₂ (fun x y => ix3 x y j) e0 e1)) ?_
    rw [windowed_at, if_pos (Or.inl h)]
    rcases bit (inWindow (ix2 ⟨r % 128, by omega⟩ j)) with e | e <;> rw [e] <;> rfl
  · have e : (⟨min ((r : Nat) / 128 % 32) 1, by omega⟩ : Fin 2) = 0 := Fin.ext (by show min ((r : Nat) / 128 % 32) 1 = 0; omega)
    rw [e, table_first]
    refine Eq.trans (congrArg (ownBlock (windowed b)) (congrArg₂ (fun x y => ix3 x y j) e0 e1)) ?_
    rw [ownBlock_at, windowed_at, sge_iff]
    by_cases h' : 128 ≤ (j : Nat)
    · rw [if_pos h', if_pos (Or.inr h')]
      rcases bit (inWindow (ix2 ⟨r % 128, by omega⟩ j)) with e | e <;> rw [e] <;> rfl
    · rw [if_neg h', if_neg (by rintro (x | x); exacts [h x, h' x])]
      rcases bit (inWindow (ix2 ⟨r % 128, by omega⟩ j)) with e | e <;> rw [e] <;> rfl

/-- The rows of keys and values of the reference, where they are rows of the sequence. -/
theorem rows_eq (k : FVec Ideal Cert.Reference4Ideal.S8192x256 .bf16) (r : Fin 8192) (j : Fin 256) (g : Fin 4) (d : Fin 64)
    (h : 0 < (r : Nat) / 128 % 32 ∨ 128 ≤ (j : Nat)) :
    Cert.Reference4Ideal.Swa.doubled (Cert.Reference4Ideal.Swa.padded k) (ix5 ⟨r / 4096, by omega⟩ ⟨r / 128 % 32, by omega⟩ j g d)
      = k (ix2 ⟨keyRow r j, keyRow_lt _ _ r.isLt j.isLt⟩ ⟨64 * g + d, by omega⟩) := by
  by_cases hj : (j : Nat) < 128
  · rw [Cert.Reference4Ideal.Swa.doubled_lo _ _ _ _ _ _ hj, Cert.Reference4Ideal.Swa.padded_at _ _ _ _ _ _ (by show 0 < (r : Nat) / 128 % 32; omega)]
    refine congrArg k (congrArg (ix2 · _) (Fin.ext ?_))
    show 4096 * ((r : Nat) / 4096) + 128 * ((r : Nat) / 128 % 32 - 1) + j = keyRow r j
    unfold keyRow
    rw [if_pos hj]
    omega
  · rw [Cert.Reference4Ideal.Swa.doubled_hi _ _ _ _ _ _ hj, Cert.Reference4Ideal.Swa.padded_at _ _ _ _ _ _ (by show 0 < (r : Nat) / 128 % 32 + 1; omega)]
    refine congrArg k (congrArg (ix2 · _) (Fin.ext ?_))
    show 4096 * ((r : Nat) / 4096) + 128 * ((r : Nat) / 128 % 32 + 1 - 1) + ((j : Nat) - 128) = keyRow r j
    unfold keyRow
    rw [if_neg hj]
    omega

theorem columns_k (p : FVec Ideal S8192x8704 .bf16) (r : Fin 8192) (n : Fin 256) :
    extractStridedSlice Cert.Reference4Ideal.S8192x256 ![0, 1024] p Cert.Reference4Ideal.Gen.facts.slices_S8192x8704_S8192x256_0_1024 (ix2 r n) = p (ix2 r ⟨1024 + n, by omega⟩) := by
  pointwise

theorem columns_v (p : FVec Ideal S8192x8704 .bf16) (r : Fin 8192) (n : Fin 256) :
    extractStridedSlice Cert.Reference4Ideal.S8192x256 ![0, 1280] p Cert.Reference4Ideal.Gen.facts.slices_S8192x8704_S8192x256_0_1280 (ix2 r n) = p (ix2 r ⟨1280 + n, by omega⟩) := by
  pointwise

/-- The scores are the same. -/
theorem scores_eq (p : FVec Ideal S8192x8704 .bf16) (b : FVec Ideal S16x128x256 .f32) (r : Fin 8192) (n : Fin 1024) (j : Fin 256) :
    Cert.Reference4Ideal.Swa.scores p b (ix6 ⟨r / 4096, by omega⟩ ⟨r / 128 % 32, by omega⟩ ⟨n / 256, by omega⟩ ⟨n / 64 % 4, by omega⟩ ⟨r % 128, by omega⟩ j)
      = near p r n j + listed (table b) r n j := by
  unfold Cert.Reference4Ideal.Swa.scores
  rw [Cert.Reference4Ideal.Swa.masked_at, listed_eq]
  show Scalar.select (sees r n j) _ _ = _
  rcases bit (sees r n j) with h | h
  · rw [h, select_zero, select_zero, bottom, EReal.add_bot]
  · rw [h, select_one, select_one]
    have hs := sees_back r n j h
    have hh : (⟨4 * ((n : Nat) / 256) + (n : Nat) / 64 % 4, by omega⟩ : Fin 16) = ⟨n / 64, by omega⟩ := Fin.ext (by show 4 * ((n : Nat) / 256) + (n : Nat) / 64 % 4 = n / 64; omega)
    refine congrArg₂ (· + ·) ?_ (congrArg (fun x => b (ix3 x ⟨r % 128, by omega⟩ j)) hh)
    rw [Cert.Reference4Ideal.Swa.scaled_at]
    unfold near
    rw [scale_out]
    refine congrArg₂ (· * ·) (Finset.sum_congr rfl fun d _ => ?_) rfl
    rw [rows_eq _ _ _ _ _ hs, columns_k, Cert.Reference4Ideal.Swa.queries_at]
    refine congrArg₂ (· * ·) rfl (congrArg p (congrArg₂ ix2 (Fin.ext ?_) (Fin.ext ?_)))
    · show 4096 * ((r : Nat) / 4096) + 128 * ((r : Nat) / 128 % 32) + (r : Nat) % 128 = r
      omega
    · show 256 * ((n : Nat) / 256) + 64 * ((n : Nat) / 64 % 4) + d = 64 * ((n : Nat) / 64) + d
      omega

theorem values_eq (p : FVec Ideal S8192x8704 .bf16) (r : Fin 8192) (n : Fin 1024) (j : Fin 256) (h : sees r n j = 1#1) :
    Cert.Reference4Ideal.Swa.doubled (Cert.Reference4Ideal.Swa.padded (extractStridedSlice Cert.Reference4Ideal.S8192x256 ![0, 1280] p Cert.Reference4Ideal.Gen.facts.slices_S8192x8704_S8192x256_0_1280))
      (ix5 ⟨r / 4096, by omega⟩ ⟨r / 128 % 32, by omega⟩ j ⟨n / 256, by omega⟩ ⟨n % 64, by omega⟩) = worth p r n j := by
  rw [rows_eq _ _ _ _ _ (sees_back r n j h), columns_v]
  rfl

theorem near_proper (p : FVec Ideal S8192x8704 .bf16) (hp : ∀ i, Proper (p i)) (r : Fin 8192) (n : Fin 1024) (j : Fin 256) : Proper (near p r n j) :=
  Proper.sum fun _ => ((hp _).mul eighth_proper).mul (hp _)

theorem listed_ne_top (b : FVec Ideal S16x128x256 .f32) (hb : ∀ i, Proper (b i)) (r : Fin 8192) (n : Fin 1024) (j : Fin 256) : listed (table b) r n j ≠ ⊤ := by
  rw [listed_eq]
  rcases bit (sees r n j) with h | h <;> rw [h]
  · rw [select_zero, bottom]; exact bot_ne_top
  · rw [select_one]; exact (hb _).1

/-- A row's sum of exponentials is not zero: the sink's is positive. -/
theorem denom_ne_zero (s : Fin 256 → EReal) (k : EReal) (hs : ∀ j, s j ≠ ⊤) (hk : Proper k) : denom s k ≠ 0 := by
  unfold denom
  have hM : peak s k ≠ ⊤ := by
    unfold peak
    refine (max_lt ?_ (lt_top_iff_ne_top.2 hk.1)).ne
    rw [Finset.fold_max_lt]
    refine ⟨?_, fun j _ => lt_top_iff_ne_top.2 (hs j)⟩
    rw [bottom]
    exact bot_lt_top
  have hsub : k - peak s k ≠ ⊥ := by
    rw [sub_eq_add_neg]
    intro h
    rcases EReal.add_eq_bot_iff.1 h with h | h
    · exact hk.2 h
    · exact hM (EReal.neg_eq_bot_iff.1 h)
  have h1 : 0 ≤ ∑ j, Ideal.exp (s j - peak s k) := Finset.sum_nonneg fun j _ => exp_nonneg _
  have h2 : 0 < Ideal.exp (k - peak s k) := exp_pos hsub
  exact (lt_of_lt_of_le h2 (le_add_of_nonneg_left h1)).ne'

theorem exp_bottom (a : EReal) : Ideal.exp (⊥ - a) = 0 := by
  rw [EReal.bot_sub]
  rfl

/-- The reference's attention at an element. -/
theorem attention_at (p : FVec Ideal S8192x8704 .bf16) (k : FVec Ideal S16 .f32) (b : FVec Ideal S16x128x256 .f32) (r : Fin 8192) (n : Fin 1024) :
    Cert.Reference4Ideal.Swa.attention p k b (ix2 r n) = ∑ j : Fin 256,
      Cert.Reference4Ideal.Swa.doubled (Cert.Reference4Ideal.Swa.padded (extractStridedSlice Cert.Reference4Ideal.S8192x256 ![0, 1280] p Cert.Reference4Ideal.Gen.facts.slices_S8192x8704_S8192x256_0_1280))
        (ix5 ⟨r / 4096, by omega⟩ ⟨r / 128 % 32, by omega⟩ j ⟨n / 256, by omega⟩ ⟨n % 64, by omega⟩)
      * Ideal.div (Ideal.exp (near p r n j + listed (table b) r n j - peak (fun j => near p r n j + listed (table b) r n j) (k (ix1 ⟨n / 64, by omega⟩))))
        (denom (fun j => near p r n j + listed (table b) r n j) (k (ix1 ⟨n / 64, by omega⟩))) := by
  have hh : (⟨4 * ((n : Nat) / 256) + (n : Nat) / 64 % 4, by omega⟩ : Fin 16) = ⟨n / 64, by omega⟩ := Fin.ext (by show 4 * ((n : Nat) / 256) + (n : Nat) / 64 % 4 = n / 64; omega)
  have hsink : Cert.Reference4Ideal.Swa.sinkRows k (ix6 ⟨r / 4096, by omega⟩ ⟨r / 128 % 32, by omega⟩ ⟨n / 256, by omega⟩ ⟨n / 64 % 4, by omega⟩ ⟨r % 128, by omega⟩ 0)
      = k (ix1 ⟨n / 64, by omega⟩) := (Cert.Reference4Ideal.Swa.sinkRows_at k _ _ _ _ _).trans (congrArg (fun x => k (ix1 x)) hh)
  have htop : Cert.Reference4Ideal.Swa.tops (Cert.Reference4Ideal.Swa.scores p b) k (ix6 ⟨r / 4096, by omega⟩ ⟨r / 128 % 32, by omega⟩ ⟨n / 256, by omega⟩ ⟨n / 64 % 4, by omega⟩ ⟨r % 128, by omega⟩ 0)
      = peak (fun j => near p r n j + listed (table b) r n j) (k (ix1 ⟨n / 64, by omega⟩)) := by
    rw [Cert.Reference4Ideal.Swa.tops_at, hsink]
    unfold peak
    simp only [scores_eq]
  show Cert.Reference4Ideal.Swa.spread _ _ (ix2 r n) = _
  rw [Cert.Reference4Ideal.Swa.spread_at]
  refine Finset.sum_congr rfl fun j _ => congrArg₂ (· * ·) rfl ?_
  rw [Cert.Reference4Ideal.Swa.shares_at, Cert.Reference4Ideal.Swa.sums_at, hsink]
  simp only [Cert.Reference4Ideal.Swa.powers_at, htop, scores_eq]
  rfl

/-- The two agree. -/
theorem agree (p : FVec Ideal S8192x8704 .bf16) (k : FVec Ideal S16 .f32) (b : FVec Ideal S16x128x256 .f32)
    (hp : ∀ i, Proper (p i)) (hk : ∀ i, Proper (k i)) (hb : ∀ i, Proper (b i)) :
    Cert.Reference4Ideal.Swa.attention p k b = swaArr p k (table b) := by
  funext i
  obtain ⟨r, n, rfl⟩ : ∃ r n, i = ix2 r n := ⟨i 0, i 1, by funext a; fin_cases a <;> rfl⟩
  rw [attention_at]
  show _ = swaAt p k (table b) r n
  unfold swaAt
  refine Finset.sum_congr rfl fun j _ => ?_
  have hd := denom_ne_zero (fun j => near p r n j + listed (table b) r n j) (k (ix1 ⟨n / 64, by omega⟩))
    (fun j => EReal.add_ne_top (near_proper p hp r n j).1 (listed_ne_top b hb r n j)) (hk _)
  unfold prob
  rw [Ideal.mul_one_div hd]
  rcases bit (sees r n j) with h | h
  · have hl : near p r n j + listed (table b) r n j = ⊥ := by
      rw [listed_eq, h, select_zero, bottom, EReal.add_bot]
    have h0 : Ideal.exp (near p r n j + listed (table b) r n j - peak (fun j => near p r n j + listed (table b) r n j) (k (ix1 ⟨n / 64, by omega⟩))) = 0 := by
      rw [hl, exp_bottom]
    have hw : Ideal.div (0 : EReal) (denom (fun j => near p r n j + listed (table b) r n j) (k (ix1 ⟨n / 64, by omega⟩))) = 0 := by
      rw [← Ideal.mul_one_div hd, zero_mul]
    show _ * Ideal.div _ _ = Ideal.div (Ideal.exp (near p r n j + listed (table b) r n j - _)) _ * _
    rw [h0, hw, mul_zero, zero_mul]
  · rw [values_eq p r n j h, mul_comm]

end Cert.SwaAgree

end
-- ==== Proof.SwaFinite.lean ====
/- What the precondition of the sliding-window attention says: the projected input, the sinks and the bias are
   all real numbers. -/
module

public import proofs.«01_k».proof.Proof.Gen.Pre_finite4
public import proofs.«01_k».proof.Proof.Maths
public import Idealize.ShloMosaic.Lib.ReduceAll
public import Idealize.ShloMosaic.Lib.Pointwise

@[expose] public section

noncomputable section

namespace Cert.Pre_finite4

open Idealize.ShloMosaic Cert.Maths Facts

instance : Subsingleton S_.Idx := ⟨fun a b => funext fun i => Fin.elim0 i⟩

theorem infinity : Ideal.ofBits .f32 0x7F800000#32 = ⊤ := by
  simp [Ideal.ofBits, Ideal.ieee]

/-- An array whose absolute values are all below infinity has real entries. -/
theorem proper_of_all {s : Shape} {axes : List (Fin s.rank)} (x : FVec Ideal s .f32) (hb : S_.BroadcastsInDim s ![])
    (h : s.ReducesTo axes S_) (hu : 0 < S_.numel) (init : IVec S_ 1) (j : S_.Idx)
    (e : Host.reduce IntOp.andi (cmpf .olt (Host.absf x) (broadcastInDim s ![] hb (constant S_ .f32 0x7F800000#32))) init h hu j = 1#1)
    (i : s.Idx) : Proper (x i) := by
  have hi := Host.reduce_andi_all _ init h hu j e i
  have hlt : Host.absf x i < Ideal.ofBits .f32 0x7F800000#32 := by
    have : BitVec.ofBool (decide (Host.absf x i < Ideal.ofBits .f32 0x7F800000#32)) = 1#1 := hi
    by_contra hn
    rw [decide_eq_false hn] at this
    exact absurd this (by decide)
  rw [infinity] at hlt
  have habs : Host.absf x i = max (x i) (-(x i)) := rfl
  rw [habs, max_lt_iff] at hlt
  refine ⟨hlt.1.ne, fun hbot => ?_⟩
  rw [hbot] at hlt
  exact absurd hlt.2 (by simp)

variable [Facts]

/-- What the precondition says. -/
theorem finite_args (p : FVec Ideal S8192x8704 .bf16) (k : FVec Ideal S16 .f32) (b : FVec Ideal S16x128x256 .f32) (j : S_.Idx)
    (e : fn (F := Ideal) p k b j = 1#1) : (∀ i, Proper (p i)) ∧ (∀ i, Proper (k i)) ∧ ∀ i, Proper (b i) := by
  unfold fn at e
  obtain ⟨e, e2⟩ := IntOp.andi_eq_one.1 e
  obtain ⟨e0, e1⟩ := IntOp.andi_eq_one.1 e
  exact ⟨proper_of_all (extf .f32 p bitsLt_bf16_f32 : FVec Ideal S8192x8704 .f32) _ _ _ _ j e0, proper_of_all k _ _ _ _ j e1, proper_of_all b _ _ _ _ j e2⟩

end Cert.Pre_finite4

end
-- ==== Proof.lean ====
module

public import proofs.«01_k».proof.Proof.Gen.Reference2Ideal.Run
public import proofs.«01_k».proof.Proof.Gen.Kernel2Ideal.Launch
public import proofs.«01_k».proof.Proof.Gen.Kernel2.Launch
public import proofs.«01_k».proof.Proof.Gen.Kernel2Ideal.Points
public import proofs.«01_k».proof.Proof.Gen.Kernel2.Points
public import proofs.«01_k».proof.Proof.Gen.Kernel2Ideal.Skeleton
public import proofs.«01_k».proof.Proof.Gen.Kernel2.Skeleton
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

public import proofs.«01_k».proof.Proof.Gen.ReferenceIdeal.Run
public import Idealize.ShloMosaic.Lib.Quiescent
public import proofs.«01_k».proof.Proof.Launch
public import proofs.«01_k».proof.Proof.KernelValue
public import proofs.«01_k».proof.Proof.RefValue
public import proofs.«01_k».proof.Proof.Finite
public import proofs.«01_k».proof.Proof.Agree
public import proofs.«01_k».proof.Proof.InFrameBits
public import proofs.«01_k».proof.Proof.InRun
public import proofs.«01_k».proof.Proof.InValue
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Pre_routed
public import proofs.«01_k».proof.Proof.Dest
public import proofs.«01_k».proof.Proof.DestRef
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Pre_finite4
public import proofs.«01_k».proof.Proof.SwaAgree
public import proofs.«01_k».proof.Proof.SwaFinite

@[expose] public section

noncomputable section

namespace Cert.Proof

open Idealize.ShloMosaic Idealize.SL.Sem Cert.Kernel

/-- The reference's frame. -/
theorem reference_frame : Cert.quiescent_ReferenceIdeal (hReferenceIdeal := Cert.ReferenceIdeal.Gen.facts) :=
  fun m ρ _ => (θ_run Cert.ReferenceIdeal.defs _ _).mono
    (fun r h => ⟨fun c => (h c).2.2.2, sem_eq_zero_of_no_sems (by decide) r.2⟩) (Cert.ReferenceIdeal.Value.run m ρ)

/-- The kernel and its reference end with the same three results. -/
theorem layer_algebraic :
    Cert.algebraic_KernelIdeal_ReferenceIdeal_pre_finite (hKernelIdeal := Cert.KernelIdeal.Gen.facts)
      (hReferenceIdeal := Cert.ReferenceIdeal.Gen.facts) (hPre_finite := Cert.Pre_finite.facts) := by
  intro m g m' g' hpre hm
  refine ⟨fun c => Cert.KernelIdeal.KernelValue.rest _ _, fun c => Cert.KernelIdeal.OutNorm.outNorm _ _ _ _ _,
    fun c => Cert.KernelIdeal.OutNorm.outNormB _ _ _ _ _,
    (θ_run (Cert.KernelIdeal.defs (F := Ideal)) _ _).mono
      (fun _ h c => ⟨(h.1 c).1.trans (Cert.KernelIdeal.KernelValue.result0 m g c), (h.1 c).2.1.trans (Cert.KernelIdeal.KernelValue.result1 m g c),
        (h.1 c).2.2.1.trans (Cert.KernelIdeal.KernelValue.result2 m g c), (h.1 c).2.2.2⟩) (Cert.KernelIdeal.Launch.run m g),
    (θ_run (Cert.ReferenceIdeal.defs (F := Ideal)) _ _).mono (fun _ h c => ?_) (Cert.ReferenceIdeal.Value.run m' g')⟩
  obtain ⟨h0, h1, h2, hargs⟩ := h c
  letI := Cert.Pre_finite.facts
  obtain ⟨hx, hmem, hw, hwm⟩ := Cert.Pre_finite.finite_args
    (m ((c.tc : Thread _ _).loc Cert.KernelIdeal.main_arg0))
    (m ((c.tc : Thread _ _).loc Cert.KernelIdeal.main_arg1))
    (m ((c.tc : Thread _ _).loc Cert.KernelIdeal.main_arg2))
    (m ((c.tc : Thread _ _).loc Cert.KernelIdeal.main_arg3))
    (m ((c.tc : Thread _ _).loc Cert.KernelIdeal.main_arg4))
    (m ((c.tc : Thread _ _).loc Cert.KernelIdeal.main_arg5))
    (m ((c.tc : Thread _ _).loc Cert.KernelIdeal.main_arg6))
    (m ((c.tc : Thread _ _).loc Cert.KernelIdeal.main_arg7))
    (m ((c.tc : Thread _ _).loc Cert.KernelIdeal.main_arg8))
    (m ((c.tc : Thread _ _).loc Cert.KernelIdeal.main_arg9))
    (m ((c.tc : Thread _ _).loc Cert.KernelIdeal.main_arg10))
    (m ((c.tc : Thread _ _).loc Cert.KernelIdeal.main_arg11)) (fun i => i.elim0) (congrFun (hpre c) _)
  have key := Cert.ReferenceIdeal.RefValue.res_eq m' c
  rw [(hm c).1, (hm c).2.1, (hm c).2.2.1, (hm c).2.2.2.1, (hm c).2.2.2.2.1, (hm c).2.2.2.2.2.1,
    (hm c).2.2.2.2.2.2.1, (hm c).2.2.2.2.2.2.2.1, (hm c).2.2.2.2.2.2.2.2.1, (hm c).2.2.2.2.2.2.2.2.2.1, (hm c).2.2.2.2.2.2.2.2.2.2.1,
    (hm c).2.2.2.2.2.2.2.2.2.2.2, Cert.Agree.second _ _ _ _ _ _ _ _ _ _ _ _ hx hmem hw hwm] at key
  refine ⟨h0.trans ?_, h1.trans key, (h2.trans (Cert.ReferenceIdeal.RefValue.res_eq_b m' c)).trans ?_, hargs⟩
  · rw [(hm c).1, (hm c).2.2.1]
    exact Cert.Agree.first _ _
  · rw [key]
    rfl

/-- The second reference's frame. -/
theorem reference2_frame : Cert.quiescent_Reference2Ideal (hReference2Ideal := Cert.Reference2Ideal.Gen.facts) :=
  fun m ρ _ => (θ_run Cert.Reference2Ideal.defs _ _).mono
    (fun r h => ⟨fun c => (h c).2.2.2, sem_eq_zero_of_no_sems (by decide) r.2⟩) (Cert.Reference2Ideal.Value.run m ρ)

/-- The first part of the input projection and its reference end with the same three results. -/
theorem first_algebraic :
    Cert.algebraic_Kernel2Ideal_Reference2Ideal (hKernel2Ideal := Cert.Kernel2Ideal.Gen.facts)
      (hReference2Ideal := Cert.Reference2Ideal.Gen.facts) := by
  intro m g m' g' _ hm
  refine ⟨fun c => Cert.Kernel2Ideal.InValue.part _ _, fun c => Cert.Kernel2Ideal.InValue.steps _ _,
    fun c => Cert.Kernel2Ideal.InFirst.narrow (Cert.Kernel2Ideal.InValue.flat _),
    (θ_run (Cert.Kernel2Ideal.defs (F := Ideal)) _ _).mono
      (fun _ h c => ⟨(h.1 c).1.trans (Cert.Kernel2Ideal.InValue.result0 m g c), (h.1 c).2.1.trans (Cert.Kernel2Ideal.InValue.result1 m g c),
        (h.1 c).2.2.1.trans (Cert.Kernel2Ideal.InValue.result2 m g c), (h.1 c).2.2.2⟩) (Cert.Kernel2Ideal.InRun.run m g),
    (θ_run (Cert.Reference2Ideal.defs (F := Ideal)) _ _).mono (fun _ h c => ?_) (Cert.Reference2Ideal.Value.run m' g')⟩
  obtain ⟨h0, h1, h2, hargs⟩ := h c
  rw [(hm c).1, (hm c).2] at h0 h1
  rw [(hm c).1] at h2
  exact ⟨h0.trans (Cert.Kernel2Ideal.InValue.first _ _), h1.trans (Cert.Kernel2Ideal.InValue.second _ _), h2, hargs⟩

/-- The third reference's frame. -/
theorem reference3_frame : Cert.quiescent_Reference3Ideal (hReference3Ideal := Cert.Reference3Ideal.Gen.facts) :=
  fun m ρ _ => (θ_run Cert.Reference3Ideal.defs _ _).mono
    (fun r h => ⟨fun c => (h c).2, sem_eq_zero_of_no_sems (by decide) r.2⟩) (Cert.Reference3Ideal.Value.run m ρ)

/-- The slot numbers and their reference end with the same result. -/
theorem slots_algebraic :
    Cert.algebraic_Kernel3Ideal_Reference3Ideal_pre_routed (hKernel3Ideal := Cert.Kernel3Ideal.Gen.facts)
      (hReference3Ideal := Cert.Reference3Ideal.Gen.facts) (hPre_routed := Cert.Pre_routed.Gen.facts) := by
  intro m g m' g' hpre hm
  refine ⟨fun c => Cert.Kernel3Ideal.Dest.slots (Cert.Kernel3Ideal.Gen.V m c Cert.Kernel3Ideal.main_v1)
      (Cert.Kernel3Ideal.Gen.V m c Cert.Kernel3Ideal.main_arg0) (Cert.Kernel3Ideal.Gen.V m c Cert.Kernel3Ideal.main_arg1),
    (θ_run (Cert.Kernel3Ideal.defs (F := Ideal)) _ _).mono
      (fun _ h c => ⟨((h.1 c).1 3).trans (Cert.Kernel3Ideal.Dest.final m c), h.2 c⟩)
      (θ_run_and (Cert.Kernel3Ideal.Gen.run_main m g) (Cert.Kernel3Ideal.Gen.unchanged m g)),
    (θ_run (Cert.Reference3Ideal.defs (F := Ideal)) _ _).mono (fun _ h c => ?_) (Cert.Reference3Ideal.Value.run m' g')⟩
  obtain ⟨h0, hargs⟩ := h c
  letI := Cert.Pre_routed.Gen.facts
  have hr := Cert.Pre_routed.routed_args
    (m ((c.tc : Thread _ _).loc Cert.Kernel3Ideal.main_arg0))
    (m ((c.tc : Thread _ _).loc Cert.Kernel3Ideal.main_arg1))
    (m ((c.tc : Thread _ _).loc Cert.Kernel3Ideal.main_arg2)) (fun i => i.elim0) (congrFun (hpre c) _)
  rw [(hm c).1, (hm c).2.1, (hm c).2.2] at h0
  refine ⟨(h0.trans (Cert.Reference3Ideal.Dest.take_eq _ _ _ hr)).trans ?_, hargs⟩
  beta_reduce
  rw [Cert.Kernel3Ideal.Dest.V_starts, Cert.Kernel3Ideal.Gen.V_main_arg0, Cert.Kernel3Ideal.Gen.V_main_arg1]
  exact (Cert.Kernel3Ideal.Dest.slots_eq _ _ _ fun i => (hr i).1).symm

/-- The fourth reference's frame. -/
theorem reference4_frame : Cert.quiescent_Reference4Ideal (hReference4Ideal := Cert.Reference4Ideal.Gen.facts) :=
  fun m ρ _ => (θ_run Cert.Reference4Ideal.defs _ _).mono
    (fun r h => ⟨fun c => (h c).2, sem_eq_zero_of_no_sems (by decide) r.2⟩) (Cert.Reference4Ideal.Value.run m ρ)

/-- The sliding-window attention and its reference end with the same result. -/
theorem window_algebraic :
    Cert.algebraic_Kernel4Ideal_Reference4Ideal_pre_finite4 (hKernel4Ideal := Cert.Kernel4Ideal.Gen.facts)
      (hReference4Ideal := Cert.Reference4Ideal.Gen.facts) (hPre_finite4 := Cert.Pre_finite4.Gen.facts) := by
  intro m g m' g' hpre hm
  refine ⟨fun c => Cert.Kernel4Ideal.Swa.swaArr (Cert.Kernel4Ideal.Gen.V m c Cert.Kernel4Ideal.main_arg0)
      (Cert.Kernel4Ideal.Gen.V m c Cert.Kernel4Ideal.main_arg1) (Cert.Kernel4Ideal.Gen.V m c Cert.Kernel4Ideal.main_v23),
    (θ_run (Cert.Kernel4Ideal.defs (F := Ideal)) _ _).mono
      (fun _ h c => ⟨((h.1 c).1 7).trans (Cert.Kernel4Ideal.Swa.final m c), h.2 c⟩)
      (θ_run_and (Cert.Kernel4Ideal.Gen.run_main m g) (Cert.Kernel4Ideal.Gen.unchanged m g)),
    (θ_run (Cert.Reference4Ideal.defs (F := Ideal)) _ _).mono (fun _ h c => ?_) (Cert.Reference4Ideal.Value.run m' g')⟩
  obtain ⟨h0, hargs⟩ := h c
  letI := Cert.Pre_finite4.Gen.facts
  obtain ⟨hp, hk, hb⟩ := Cert.Pre_finite4.finite_args
    (m ((c.tc : Thread _ _).loc Cert.Kernel4Ideal.main_arg0))
    (m ((c.tc : Thread _ _).loc Cert.Kernel4Ideal.main_arg1))
    (m ((c.tc : Thread _ _).loc Cert.Kernel4Ideal.main_arg2)) (fun i => i.elim0) (congrFun (hpre c) _)
  have key := Cert.Reference4Ideal.Swa.res_eq m' c
  rw [(hm c).1, (hm c).2.1, (hm c).2.2] at key
  refine ⟨(h0.trans key).trans ?_, hargs⟩
  beta_reduce
  rw [Cert.Kernel4Ideal.Swa.V_table, Cert.Kernel4Ideal.Gen.V_main_arg0, Cert.Kernel4Ideal.Gen.V_main_arg1]
  exact Cert.SwaAgree.agree _ _ _ hp hk hb

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Pre_finite.facts, Cert.Pre_routed.Gen.facts, Cert.Pre_finite4.Gen.facts,
  fun m ρ _ => Cert.Kernel.Gen.frame m ρ,
  fun m ρ _ => Cert.KernelIdeal.Gen.frame m ρ,
  fun m ρ _ => Cert.KernelIdeal.Gen.frame m ρ,
  reference_frame,
  fun m ρ _ => reference_frame m ρ True.intro,
  fun m ρ _ => Cert.Kernel2.InFrame.frame m ρ,
  fun m ρ _ => Cert.Kernel2Ideal.InFrame.frame m ρ,
  reference2_frame,
  fun m ρ _ => Cert.Kernel3.Gen.frame m ρ,
  fun m ρ _ => Cert.Kernel3Ideal.Gen.frame m ρ,
  fun m ρ _ => Cert.Kernel3Ideal.Gen.frame m ρ,
  reference3_frame,
  fun m ρ _ => reference3_frame m ρ True.intro,
  fun m ρ _ => Cert.Kernel4.Gen.frame m ρ,
  fun m ρ _ => Cert.Kernel4Ideal.Gen.frame m ρ,
  fun m ρ _ => Cert.Kernel4Ideal.Gen.frame m ρ,
  reference4_frame,
  fun m ρ _ => reference4_frame m ρ True.intro,
  trivial,
  layer_algebraic,
  trivial,
  first_algebraic,
  trivial,
  slots_algebraic,
  trivial,
  window_algebraic⟩

end Cert.Proof

end
